-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x21504x56x128 : Shape := ⟨4, ![1, 21504, 56, 128]⟩
abbrev S1x21504x56 : Shape := ⟨3, ![1, 21504, 56]⟩
abbrev S1x21504x8x128 : Shape := ⟨4, ![1, 21504, 8, 128]⟩
abbrev S1x21504x8 : Shape := ⟨3, ![1, 21504, 8]⟩
abbrev S21504x56x128 : Shape := ⟨3, ![21504, 56, 128]⟩
abbrev S56x128x21504 : Shape := ⟨3, ![56, 128, 21504]⟩
abbrev S8x896x21504 : Shape := ⟨3, ![8, 896, 21504]⟩
abbrev S21504x56 : Shape := ⟨2, ![21504, 56]⟩
abbrev S56x21504 : Shape := ⟨2, ![56, 21504]⟩
abbrev S8x7x21504 : Shape := ⟨3, ![8, 7, 21504]⟩
abbrev S21504x8x128 : Shape := ⟨3, ![21504, 8, 128]⟩
abbrev S8x21504x128 : Shape := ⟨3, ![8, 21504, 128]⟩
abbrev S8x128x21504 : Shape := ⟨3, ![8, 128, 21504]⟩
abbrev S21504x8 : Shape := ⟨2, ![21504, 8]⟩
abbrev S8x21504 : Shape := ⟨2, ![8, 21504]⟩
abbrev S8x168x128 : Shape := ⟨3, ![8, 168, 128]⟩
abbrev S21504x7168 : Shape := ⟨2, ![21504, 7168]⟩
abbrev S1x896x256 : Shape := ⟨3, ![1, 896, 256]⟩
abbrev S1x7x256 : Shape := ⟨3, ![1, 7, 256]⟩
abbrev S1x21504x128 : Shape := ⟨3, ![1, 21504, 128]⟩
abbrev S1x168x128 : Shape := ⟨3, ![1, 168, 128]⟩
abbrev S1x128x21504 : Shape := ⟨3, ![1, 128, 21504]⟩
abbrev S256x896 : Shape := ⟨2, ![256, 896]⟩
abbrev S21504x128 : Shape := ⟨2, ![21504, 128]⟩
abbrev S7x128x256 : Shape := ⟨3, ![7, 128, 256]⟩
abbrev S8x256 : Shape := ⟨2, ![8, 256]⟩
abbrev S1x1x128 : Shape := ⟨3, ![1, 1, 128]⟩
abbrev S1x128 : Shape := ⟨2, ![1, 128]⟩
abbrev S128x128 : Shape := ⟨2, ![128, 128]⟩
abbrev S1x512x128 : Shape := ⟨3, ![1, 512, 128]⟩
abbrev S512x128 : Shape := ⟨2, ![512, 128]⟩
abbrev S1x128x512 : Shape := ⟨3, ![1, 128, 512]⟩
abbrev S128x512 : Shape := ⟨2, ![128, 512]⟩
abbrev S512x256 : Shape := ⟨2, ![512, 256]⟩
abbrev S1x128x256 : Shape := ⟨3, ![1, 128, 256]⟩
abbrev S128x256 : Shape := ⟨2, ![128, 256]⟩
abbrev S1x1x256 : Shape := ⟨3, ![1, 1, 256]⟩
abbrev S1x256 : Shape := ⟨2, ![1, 256]⟩
abbrev S256 : Shape := ⟨1, ![256]⟩
abbrev S256x128 : Shape := ⟨2, ![256, 128]⟩

abbrev nBuf : Space → Nat
  | .hbm => 23
  | .vmem => 19
  | .smem => 0
  | _ => 0

abbrev bufTy : (tb : Table) → Fin (tcTables nBuf tb) → BufTy
  | .hbm, ⟨0, _⟩ => ⟨S1x21504x56x128, .fp8e4m3⟩
  | .hbm, ⟨1, _⟩ => ⟨S1x21504x56, .f32⟩
  | .hbm, ⟨2, _⟩ => ⟨S1x21504x8x128, .fp8e4m3⟩
  | .hbm, ⟨3, _⟩ => ⟨S1x21504x8, .f32⟩
  | .hbm, ⟨4, _⟩ => ⟨S1x21504x8x128, .fp8e4m3⟩
  | .hbm, ⟨5, _⟩ => ⟨S1x21504x8, .f32⟩
  | .hbm, ⟨6, _⟩ => ⟨S21504x56x128, .fp8e4m3⟩
  | .hbm, ⟨7, _⟩ => ⟨S56x128x21504, .fp8e4m3⟩
  | .hbm, ⟨8, _⟩ => ⟨S8x896x21504, .fp8e4m3⟩
  | .hbm, ⟨9, _⟩ => ⟨S21504x56, .f32⟩
  | .hbm, ⟨10, _⟩ => ⟨S56x21504, .f32⟩
  | .hbm, ⟨11, _⟩ => ⟨S8x7x21504, .f32⟩
  | .hbm, ⟨12, _⟩ => ⟨S21504x8x128, .fp8e4m3⟩
  | .hbm, ⟨13, _⟩ => ⟨S8x21504x128, .fp8e4m3⟩
  | .hbm, ⟨14, _⟩ => ⟨S21504x8x128, .fp8e4m3⟩
  | .hbm, ⟨15, _⟩ => ⟨S8x128x21504, .fp8e4m3⟩
  | .hbm, ⟨16, _⟩ => ⟨S21504x8, .f32⟩
  | .hbm, ⟨17, _⟩ => ⟨S8x21504, .f32⟩
  | .hbm, ⟨18, _⟩ => ⟨S8x168x128, .f32⟩
  | .hbm, ⟨19, _⟩ => ⟨S21504x8, .f32⟩
  | .hbm, ⟨20, _⟩ => ⟨S8x21504, .f32⟩
  | .hbm, ⟨21, _⟩ => ⟨S8x168x128, .f32⟩
  | .hbm, ⟨22, _⟩ => ⟨S21504x7168, .bf16⟩
  | .local _ .vmem, ⟨0, _⟩ => ⟨S1x896x256, .fp8e4m3⟩
  | .local _ .vmem, ⟨1, _⟩ => ⟨S1x896x256, .fp8e4m3⟩
  | .local _ .vmem, ⟨2, _⟩ => ⟨S1x7x256, .f32⟩
  | .local _ .vmem, ⟨3, _⟩ => ⟨S1x7x256, .f32⟩
  | .local _ .vmem, ⟨4, _⟩ => ⟨S1x21504x128, .fp8e4m3⟩
  | .local _ .vmem, ⟨5, _⟩ => ⟨S1x21504x128, .fp8e4m3⟩
  | .local _ .vmem, ⟨6, _⟩ => ⟨S1x168x128, .f32⟩
  | .local _ .vmem, ⟨7, _⟩ => ⟨S1x168x128, .f32⟩
  | .local _ .vmem, ⟨8, _⟩ => ⟨S1x128x21504, .fp8e4m3⟩
  | .local _ .vmem, ⟨9, _⟩ => ⟨S1x128x21504, .fp8e4m3⟩
  | .local _ .vmem, ⟨10, _⟩ => ⟨S1x168x128, .f32⟩
  | .local _ .vmem, ⟨11, _⟩ => ⟨S1x168x128, .f32⟩
  | .local _ .vmem, ⟨12, _⟩ => ⟨S256x896, .bf16⟩
  | .local _ .vmem, ⟨13, _⟩ => ⟨S256x896, .bf16⟩
  | .local _ .vmem, ⟨14, _⟩ => ⟨S21504x128, .f32⟩
  | .local _ .vmem, ⟨15, _⟩ => ⟨S21504x128, .f32⟩
  | .local _ .vmem, ⟨16, _⟩ => ⟨S7x128x256, .f32⟩
  | .local _ .vmem, ⟨17, _⟩ => ⟨S8x256, .f32⟩
  | .local _ .vmem, ⟨18, _⟩ => ⟨S8x256, .f32⟩
  | _, _ => ⟨S1x21504x56x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 84], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_266 : BitVec 32 := 0#32
  let c168_i32 : BitVec 32 := 168#32
  let v499 : BitVec 32 := Scalar.addi c0_i32_266 c168_i32
  let c1_i32_267 : BitVec 32 := 1#32
  ⟨c0_i32_266, v499, c1_i32_267⟩
def k0_off1 (k0_t1 : Fin k0_t1_loop.trips) : Fin 3 → Nat :=
  let c0_273 : Index := 0#32
  let c0_i32_266 : BitVec 32 := 0#32
  let c1_i32_267 : BitVec 32 := 1#32
  let arg14 : BitVec 32 := Scf.iv c0_i32_266 c1_i32_267 k0_t1
  let v501 : Index := Scalar.indexCast arg14
  let c0_274 : Index := 0#32
  ![0, v501.toNat, 0]
def k0_off2 (k0_t1 : Fin k0_t1_loop.trips) : Fin 2 → Nat :=
  let c0_i32_266 : BitVec 32 := 0#32
  let c1_i32_267 : BitVec 32 := 1#32
  let arg14 : BitVec 32 := Scf.iv c0_i32_266 c1_i32_267 k0_t1
  let c128_i32 : BitVec 32 := 128#32
  let v507 : BitVec 32 := Scalar.muli arg14 c128_i32
  let v508 : Index := Scalar.indexCast v507
  let c0_275 : Index := 0#32
  ![v508.toNat, 0]
@[reducible] def k0_t2_loop : Scf.Loop 32 :=
  let c0_i32_269 : BitVec 32 := 0#32
  let c168_i32_270 : BitVec 32 := 168#32
  let v500 : BitVec 32 := Scalar.addi c0_i32_269 c168_i32_270
  let c1_i32_271 : BitVec 32 := 1#32
  ⟨c0_i32_269, v500, c1_i32_271⟩
def k0_off3 (k0_t2 : Fin k0_t2_loop.trips) : Fin 3 → Nat :=
  let c0_273 : Index := 0#32
  let c0_i32_269 : BitVec 32 := 0#32
  let c1_i32_271 : BitVec 32 := 1#32
  let arg14 : BitVec 32 := Scf.iv c0_i32_269 c1_i32_271 k0_t2
  let v501 : Index := Scalar.indexCast arg14
  let c0_274 : Index := 0#32
  ![0, v501.toNat, 0]
def k0_off4 (k0_t2 : Fin k0_t2_loop.trips) : Fin 2 → Nat :=
  let c0_i32_269 : BitVec 32 := 0#32
  let c1_i32_271 : BitVec 32 := 1#32
  let arg14 : BitVec 32 := Scf.iv c0_i32_269 c1_i32_271 k0_t2
  let c128_i32 : BitVec 32 := 128#32
  let v507 : BitVec 32 := Scalar.muli arg14 c128_i32
  let v508 : Index := Scalar.indexCast v507
  let c0_275 : Index := 0#32
  ![v508.toNat, 0]
@[reducible] def k0_t3_loop (i : grid0.Coords) : Scf.Loop 32 :=
  let c0_i32_24 : BitVec 32 := 0#32
  let arg1 : BitVec 32 := BitVec.ofNat 32 (i 1).val
  let c256_i32 : BitVec 32 := 256#32
  let v3 : BitVec 32 := Scalar.muli arg1 c256_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c6144_i32 : BitVec 32 := 6144#32
  let c0_i32_3 : BitVec 32 := 0#32
  let v10 : BitVec 1 := Scalar.cmpi .sgt c6144_i32 c0_i32_3
  let v11 : BitVec 32 := Scalar.extui v10
  let c0_i32_4 : BitVec 32 := 0#32
  let v12 : BitVec 1 := Scalar.cmpi .slt c6144_i32 c0_i32_4
  let v13 : BitVec 32 := Scalar.extui v12
  let v14 : BitVec 32 := Scalar.subi v11 v13
  let v15 : BitVec 1 := Scalar.cmpi .ne v9 v14
  let v16 : BitVec 32 := Scalar.remsi v3 c6144_i32
  let c0_i32_5 : BitVec 32 := 0#32
  let v17 : BitVec 1 := Scalar.cmpi .ne v16 c0_i32_5
  let v18 : BitVec 1 := Scalar.andi v15 v17
  let v4 : BitVec 32 := Scalar.divsi v3 c6144_i32
  let c1_i32 : BitVec 32 := 1#32
  let v19 : BitVec 32 := Scalar.subi v4 c1_i32
  let v20 : BitVec 32 := Scalar.select v18 v19 v4
  let c6144_i32_6 : BitVec 32 := 6144#32
  let v21 : BitVec 32 := Scalar.muli v20 c6144_i32_6
  let c0_i32_7 : BitVec 32 := 0#32
  let v22 : BitVec 1 := Scalar.cmpi .sgt v21 c0_i32_7
  let c12_i32 : BitVec 32 := 12#32
  let c0_i32_8 : BitVec 32 := 0#32
  let v23 : BitVec 32 := Scalar.select v22 c12_i32 c0_i32_8
  let v54 : BitVec 32 := Scalar.subi v23 c0_i32_24
  let c1_i32_25 : BitVec 32 := 1#32
  let v56 : BitVec 32 := Scalar.divsi v54 c1_i32_25
  let v57 : BitVec 32 := Scalar.muli v56 c1_i32_25
  let v58 : BitVec 32 := Scalar.addi c0_i32_24 v57
  let c1_i32_26 : BitVec 32 := 1#32
  ⟨c0_i32_24, v58, c1_i32_26⟩
def k0_off5 (i : grid0.Coords) (k0_t3 : Fin (k0_t3_loop i).trips) : Fin 3 → Nat :=
  let c0_267 : Index := 0#32
  let c0_i32_24 : BitVec 32 := 0#32
  let c1_i32_26 : BitVec 32 := 1#32
  let arg14 : BitVec 32 := Scf.iv c0_i32_24 c1_i32_26 k0_t3
  let c512_i32_266 : BitVec 32 := 512#32
  let v499 : BitVec 32 := Scalar.muli arg14 c512_i32_266
  let v500 : Index := Scalar.indexCast v499
  let c0_268 : Index := 0#32
  ![0, v500.toNat, 0]
def k0_off6 (i : grid0.Coords) (k0_t3 : Fin (k0_t3_loop i).trips) : Fin 3 → Nat :=
  let c0_269 : Index := 0#32
  let c0_270 : Index := 0#32
  let c0_i32_24 : BitVec 32 := 0#32
  let c1_i32_26 : BitVec 32 := 1#32
  let arg14 : BitVec 32 := Scf.iv c0_i32_24 c1_i32_26 k0_t3
  let c512_i32_266 : BitVec 32 := 512#32
  let v499 : BitVec 32 := Scalar.muli arg14 c512_i32_266
  let v503 : Index := Scalar.indexCast v499
  ![0, 0, v503.toNat]
def k0_off7 (i : grid0.Coords) (k0_t3 : Fin (k0_t3_loop i).trips) : Fin 2 → Nat :=
  let c0_i32_24 : BitVec 32 := 0#32
  let c1_i32_26 : BitVec 32 := 1#32
  let arg14 : BitVec 32 := Scf.iv c0_i32_24 c1_i32_26 k0_t3
  let c512_i32_266 : BitVec 32 := 512#32
  let v499 : BitVec 32 := Scalar.muli arg14 c512_i32_266
  let v507 : Index := Scalar.indexCast v499
  let c0_271 : Index := 0#32
  ![v507.toNat, 0]
@[reducible] def k0_t4_loop (i : grid0.Coords) : Scf.Loop 32 :=
  let c0_i32_24 : BitVec 32 := 0#32
  let arg1 : BitVec 32 := BitVec.ofNat 32 (i 1).val
  let c256_i32 : BitVec 32 := 256#32
  let v3 : BitVec 32 := Scalar.muli arg1 c256_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c6144_i32 : BitVec 32 := 6144#32
  let c0_i32_3 : BitVec 32 := 0#32
  let v10 : BitVec 1 := Scalar.cmpi .sgt c6144_i32 c0_i32_3
  let v11 : BitVec 32 := Scalar.extui v10
  let c0_i32_4 : BitVec 32 := 0#32
  let v12 : BitVec 1 := Scalar.cmpi .slt c6144_i32 c0_i32_4
  let v13 : BitVec 32 := Scalar.extui v12
  let v14 : BitVec 32 := Scalar.subi v11 v13
  let v15 : BitVec 1 := Scalar.cmpi .ne v9 v14
  let v16 : BitVec 32 := Scalar.remsi v3 c6144_i32
  let c0_i32_5 : BitVec 32 := 0#32
  let v17 : BitVec 1 := Scalar.cmpi .ne v16 c0_i32_5
  let v18 : BitVec 1 := Scalar.andi v15 v17
  let v4 : BitVec 32 := Scalar.divsi v3 c6144_i32
  let c1_i32 : BitVec 32 := 1#32
  let v19 : BitVec 32 := Scalar.subi v4 c1_i32
  let v20 : BitVec 32 := Scalar.select v18 v19 v4
  let c6144_i32_6 : BitVec 32 := 6144#32
  let v21 : BitVec 32 := Scalar.muli v20 c6144_i32_6
  let c0_i32_7 : BitVec 32 := 0#32
  let v22 : BitVec 1 := Scalar.cmpi .sgt v21 c0_i32_7
  let c12_i32 : BitVec 32 := 12#32
  let c0_i32_8 : BitVec 32 := 0#32
  let v23 : BitVec 32 := Scalar.select v22 c12_i32 c0_i32_8
  let v54 : BitVec 32 := Scalar.subi v23 c0_i32_24
  let c1_i32_25 : BitVec 32 := 1#32
  let v56 : BitVec 32 := Scalar.divsi v54 c1_i32_25
  let v57 : BitVec 32 := Scalar.muli v56 c1_i32_25
  let v58 : BitVec 32 := Scalar.addi c0_i32_24 v57
  let v55 : BitVec 32 := Scalar.addi c0_i32_24 v54
  let c1_i32_27 : BitVec 32 := 1#32
  ⟨v58, v55, c1_i32_27⟩
def k0_off8 (i : grid0.Coords) (k0_t4 : Fin (k0_t4_loop i).trips) : Fin 3 → Nat :=
  let c0_267 : Index := 0#32
  let c0_i32_24 : BitVec 32 := 0#32
  let arg1 : BitVec 32 := BitVec.ofNat 32 (i 1).val
  let c256_i32 : BitVec 32 := 256#32
  let v3 : BitVec 32 := Scalar.muli arg1 c256_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c6144_i32 : BitVec 32 := 6144#32
  let c0_i32_3 : BitVec 32 := 0#32
  let v10 : BitVec 1 := Scalar.cmpi .sgt c6144_i32 c0_i32_3
  let v11 : BitVec 32 := Scalar.extui v10
  let c0_i32_4 : BitVec 32 := 0#32
  let v12 : BitVec 1 := Scalar.cmpi .slt c6144_i32 c0_i32_4
  let v13 : BitVec 32 := Scalar.extui v12
  let v14 : BitVec 32 := Scalar.subi v11 v13
  let v15 : BitVec 1 := Scalar.cmpi .ne v9 v14
  let v16 : BitVec 32 := Scalar.remsi v3 c6144_i32
  let c0_i32_5 : BitVec 32 := 0#32
  let v17 : BitVec 1 := Scalar.cmpi .ne v16 c0_i32_5
  let v18 : BitVec 1 := Scalar.andi v15 v17
  let v4 : BitVec 32 := Scalar.divsi v3 c6144_i32
  let c1_i32 : BitVec 32 := 1#32
  let v19 : BitVec 32 := Scalar.subi v4 c1_i32
  let v20 : BitVec 32 := Scalar.select v18 v19 v4
  let c6144_i32_6 : BitVec 32 := 6144#32
  let v21 : BitVec 32 := Scalar.muli v20 c6144_i32_6
  let c0_i32_7 : BitVec 32 := 0#32
  let v22 : BitVec 1 := Scalar.cmpi .sgt v21 c0_i32_7
  let c12_i32 : BitVec 32 := 12#32
  let c0_i32_8 : BitVec 32 := 0#32
  let v23 : BitVec 32 := Scalar.select v22 c12_i32 c0_i32_8
  let v54 : BitVec 32 := Scalar.subi v23 c0_i32_24
  let c1_i32_25 : BitVec 32 := 1#32
  let v56 : BitVec 32 := Scalar.divsi v54 c1_i32_25
  let v57 : BitVec 32 := Scalar.muli v56 c1_i32_25
  let v58 : BitVec 32 := Scalar.addi c0_i32_24 v57
  let c1_i32_27 : BitVec 32 := 1#32
  let arg14 : BitVec 32 := Scf.iv v58 c1_i32_27 k0_t4
  let c512_i32_266 : BitVec 32 := 512#32
  let v499 : BitVec 32 := Scalar.muli arg14 c512_i32_266
  let v500 : Index := Scalar.indexCast v499
  let c0_268 : Index := 0#32
  ![0, v500.toNat, 0]
def k0_off9 (i : grid0.Coords) (k0_t4 : Fin (k0_t4_loop i).trips) : Fin 3 → Nat :=
  let c0_269 : Index := 0#32
  let c0_270 : Index := 0#32
  let c0_i32_24 : BitVec 32 := 0#32
  let arg1 : BitVec 32 := BitVec.ofNat 32 (i 1).val
  let c256_i32 : BitVec 32 := 256#32
  let v3 : BitVec 32 := Scalar.muli arg1 c256_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c6144_i32 : BitVec 32 := 6144#32
  let c0_i32_3 : BitVec 32 := 0#32
  let v10 : BitVec 1 := Scalar.cmpi .sgt c6144_i32 c0_i32_3
  let v11 : BitVec 32 := Scalar.extui v10
  let c0_i32_4 : BitVec 32 := 0#32
  let v12 : BitVec 1 := Scalar.cmpi .slt c6144_i32 c0_i32_4
  let v13 : BitVec 32 := Scalar.extui v12
  let v14 : BitVec 32 := Scalar.subi v11 v13
  let v15 : BitVec 1 := Scalar.cmpi .ne v9 v14
  let v16 : BitVec 32 := Scalar.remsi v3 c6144_i32
  let c0_i32_5 : BitVec 32 := 0#32
  let v17 : BitVec 1 := Scalar.cmpi .ne v16 c0_i32_5
  let v18 : BitVec 1 := Scalar.andi v15 v17
  let v4 : BitVec 32 := Scalar.divsi v3 c6144_i32
  let c1_i32 : BitVec 32 := 1#32
  let v19 : BitVec 32 := Scalar.subi v4 c1_i32
  let v20 : BitVec 32 := Scalar.select v18 v19 v4
  let c6144_i32_6 : BitVec 32 := 6144#32
  let v21 : BitVec 32 := Scalar.muli v20 c6144_i32_6
  let c0_i32_7 : BitVec 32 := 0#32
  let v22 : BitVec 1 := Scalar.cmpi .sgt v21 c0_i32_7
  let c12_i32 : BitVec 32 := 12#32
  let c0_i32_8 : BitVec 32 := 0#32
  let v23 : BitVec 32 := Scalar.select v22 c12_i32 c0_i32_8
  let v54 : BitVec 32 := Scalar.subi v23 c0_i32_24
  let c1_i32_25 : BitVec 32 := 1#32
  let v56 : BitVec 32 := Scalar.divsi v54 c1_i32_25
  let v57 : BitVec 32 := Scalar.muli v56 c1_i32_25
  let v58 : BitVec 32 := Scalar.addi c0_i32_24 v57
  let c1_i32_27 : BitVec 32 := 1#32
  let arg14 : BitVec 32 := Scf.iv v58 c1_i32_27 k0_t4
  let c512_i32_266 : BitVec 32 := 512#32
  let v499 : BitVec 32 := Scalar.muli arg14 c512_i32_266
  let v503 : Index := Scalar.indexCast v499
  ![0, 0, v503.toNat]
def k0_off10 (i : grid0.Coords) (k0_t4 : Fin (k0_t4_loop i).trips) : Fin 2 → Nat :=
  let c0_i32_24 : BitVec 32 := 0#32
  let arg1 : BitVec 32 := BitVec.ofNat 32 (i 1).val
  let c256_i32 : BitVec 32 := 256#32
  let v3 : BitVec 32 := Scalar.muli arg1 c256_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c6144_i32 : BitVec 32 := 6144#32
  let c0_i32_3 : BitVec 32 := 0#32
  let v10 : BitVec 1 := Scalar.cmpi .sgt c6144_i32 c0_i32_3
  let v11 : BitVec 32 := Scalar.extui v10
  let c0_i32_4 : BitVec 32 := 0#32
  let v12 : BitVec 1 := Scalar.cmpi .slt c6144_i32 c0_i32_4
  let v13 : BitVec 32 := Scalar.extui v12
  let v14 : BitVec 32 := Scalar.subi v11 v13
  let v15 : BitVec 1 := Scalar.cmpi .ne v9 v14
  let v16 : BitVec 32 := Scalar.remsi v3 c6144_i32
  let c0_i32_5 : BitVec 32 := 0#32
  let v17 : BitVec 1 := Scalar.cmpi .ne v16 c0_i32_5
  let v18 : BitVec 1 := Scalar.andi v15 v17
  let v4 : BitVec 32 := Scalar.divsi v3 c6144_i32
  let c1_i32 : BitVec 32 := 1#32
  let v19 : BitVec 32 := Scalar.subi v4 c1_i32
  let v20 : BitVec 32 := Scalar.select v18 v19 v4
  let c6144_i32_6 : BitVec 32 := 6144#32
  let v21 : BitVec 32 := Scalar.muli v20 c6144_i32_6
  let c0_i32_7 : BitVec 32 := 0#32
  let v22 : BitVec 1 := Scalar.cmpi .sgt v21 c0_i32_7
  let c12_i32 : BitVec 32 := 12#32
  let c0_i32_8 : BitVec 32 := 0#32
  let v23 : BitVec 32 := Scalar.select v22 c12_i32 c0_i32_8
  let v54 : BitVec 32 := Scalar.subi v23 c0_i32_24
  let c1_i32_25 : BitVec 32 := 1#32
  let v56 : BitVec 32 := Scalar.divsi v54 c1_i32_25
  let v57 : BitVec 32 := Scalar.muli v56 c1_i32_25
  let v58 : BitVec 32 := Scalar.addi c0_i32_24 v57
  let c1_i32_27 : BitVec 32 := 1#32
  let arg14 : BitVec 32 := Scf.iv v58 c1_i32_27 k0_t4
  let c512_i32_266 : BitVec 32 := 512#32
  let v499 : BitVec 32 := Scalar.muli arg14 c512_i32_266
  let v507 : Index := Scalar.indexCast v499
  let c0_271 : Index := 0#32
  ![v507.toNat, 0]
@[reducible] def k0_t5_loop (i : grid0.Coords) : Scf.Loop 32 :=
  let c0_i32_29 : BitVec 32 := 0#32
  let arg1 : BitVec 32 := BitVec.ofNat 32 (i 1).val
  let c256_i32 : BitVec 32 := 256#32
  let v3 : BitVec 32 := Scalar.muli arg1 c256_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c6144_i32 : BitVec 32 := 6144#32
  let c0_i32_3 : BitVec 32 := 0#32
  let v10 : BitVec 1 := Scalar.cmpi .sgt c6144_i32 c0_i32_3
  let v11 : BitVec 32 := Scalar.extui v10
  let c0_i32_4 : BitVec 32 := 0#32
  let v12 : BitVec 1 := Scalar.cmpi .slt c6144_i32 c0_i32_4
  let v13 : BitVec 32 := Scalar.extui v12
  let v14 : BitVec 32 := Scalar.subi v11 v13
  let v15 : BitVec 1 := Scalar.cmpi .ne v9 v14
  let v16 : BitVec 32 := Scalar.remsi v3 c6144_i32
  let c0_i32_5 : BitVec 32 := 0#32
  let v17 : BitVec 1 := Scalar.cmpi .ne v16 c0_i32_5
  let v18 : BitVec 1 := Scalar.andi v15 v17
  let v4 : BitVec 32 := Scalar.divsi v3 c6144_i32
  let c1_i32 : BitVec 32 := 1#32
  let v19 : BitVec 32 := Scalar.subi v4 c1_i32
  let v20 : BitVec 32 := Scalar.select v18 v19 v4
  let c6144_i32_6 : BitVec 32 := 6144#32
  let v21 : BitVec 32 := Scalar.muli v20 c6144_i32_6
  let v24 : BitVec 32 := Scalar.subi v3 v21
  let c0_i32_9 : BitVec 32 := 0#32
  let v26 : BitVec 1 := Scalar.cmpi .sgt v24 c0_i32_9
  let v27 : BitVec 32 := Scalar.extui v26
  let c0_i32_10 : BitVec 32 := 0#32
  let v28 : BitVec 1 := Scalar.cmpi .slt v24 c0_i32_10
  let v29 : BitVec 32 := Scalar.extui v28
  let v30 : BitVec 32 := Scalar.subi v27 v29
  let c512_i32 : BitVec 32 := 512#32
  let c0_i32_11 : BitVec 32 := 0#32
  let v31 : BitVec 1 := Scalar.cmpi .sgt c512_i32 c0_i32_11
  let v32 : BitVec 32 := Scalar.extui v31
  let c0_i32_12 : BitVec 32 := 0#32
  let v33 : BitVec 1 := Scalar.cmpi .slt c512_i32 c0_i32_12
  let v34 : BitVec 32 := Scalar.extui v33
  let v35 : BitVec 32 := Scalar.subi v32 v34
  let v36 : BitVec 1 := Scalar.cmpi .ne v30 v35
  let v37 : BitVec 32 := Scalar.remsi v24 c512_i32
  let c0_i32_13 : BitVec 32 := 0#32
  let v38 : BitVec 1 := Scalar.cmpi .ne v37 c0_i32_13
  let v39 : BitVec 1 := Scalar.andi v36 v38
  let v25 : BitVec 32 := Scalar.divsi v24 c512_i32
  let c1_i32_14 : BitVec 32 := 1#32
  let v40 : BitVec 32 := Scalar.subi v25 c1_i32_14
  let v41 : BitVec 32 := Scalar.select v39 v40 v25
  let v59 : BitVec 32 := Scalar.subi v41 c0_i32_29
  let c1_i32_30 : BitVec 32 := 1#32
  let v61 : BitVec 32 := Scalar.divsi v59 c1_i32_30
  let v62 : BitVec 32 := Scalar.muli v61 c1_i32_30
  let v63 : BitVec 32 := Scalar.addi c0_i32_29 v62
  let c1_i32_31 : BitVec 32 := 1#32
  ⟨c0_i32_29, v63, c1_i32_31⟩
def k0_off11 (i : grid0.Coords) (k0_t5 : Fin (k0_t5_loop i).trips) : Fin 3 → Nat :=
  let c0_267 : Index := 0#32
  let arg1 : BitVec 32 := BitVec.ofNat 32 (i 1).val
  let c256_i32 : BitVec 32 := 256#32
  let v3 : BitVec 32 := Scalar.muli arg1 c256_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c6144_i32 : BitVec 32 := 6144#32
  let c0_i32_3 : BitVec 32 := 0#32
  let v10 : BitVec 1 := Scalar.cmpi .sgt c6144_i32 c0_i32_3
  let v11 : BitVec 32 := Scalar.extui v10
  let c0_i32_4 : BitVec 32 := 0#32
  let v12 : BitVec 1 := Scalar.cmpi .slt c6144_i32 c0_i32_4
  let v13 : BitVec 32 := Scalar.extui v12
  let v14 : BitVec 32 := Scalar.subi v11 v13
  let v15 : BitVec 1 := Scalar.cmpi .ne v9 v14
  let v16 : BitVec 32 := Scalar.remsi v3 c6144_i32
  let c0_i32_5 : BitVec 32 := 0#32
  let v17 : BitVec 1 := Scalar.cmpi .ne v16 c0_i32_5
  let v18 : BitVec 1 := Scalar.andi v15 v17
  let v4 : BitVec 32 := Scalar.divsi v3 c6144_i32
  let c1_i32 : BitVec 32 := 1#32
  let v19 : BitVec 32 := Scalar.subi v4 c1_i32
  let v20 : BitVec 32 := Scalar.select v18 v19 v4
  let c6144_i32_6 : BitVec 32 := 6144#32
  let v21 : BitVec 32 := Scalar.muli v20 c6144_i32_6
  let c0_i32_29 : BitVec 32 := 0#32
  let c1_i32_31 : BitVec 32 := 1#32
  let arg14 : BitVec 32 := Scf.iv c0_i32_29 c1_i32_31 k0_t5
  let c512_i32_266 : BitVec 32 := 512#32
  let v499 : BitVec 32 := Scalar.muli arg14 c512_i32_266
  let v500 : BitVec 32 := Scalar.addi v21 v499
  let v501 : Index := Scalar.indexCast v500
  let c0_268 : Index := 0#32
  ![0, v501.toNat, 0]
def k0_off12 (i : grid0.Coords) (k0_t5 : Fin (k0_t5_loop i).trips) : Fin 3 → Nat :=
  let c0_269 : Index := 0#32
  let c0_270 : Index := 0#32
  let arg1 : BitVec 32 := BitVec.ofNat 32 (i 1).val
  let c256_i32 : BitVec 32 := 256#32
  let v3 : BitVec 32 := Scalar.muli arg1 c256_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c6144_i32 : BitVec 32 := 6144#32
  let c0_i32_3 : BitVec 32 := 0#32
  let v10 : BitVec 1 := Scalar.cmpi .sgt c6144_i32 c0_i32_3
  let v11 : BitVec 32 := Scalar.extui v10
  let c0_i32_4 : BitVec 32 := 0#32
  let v12 : BitVec 1 := Scalar.cmpi .slt c6144_i32 c0_i32_4
  let v13 : BitVec 32 := Scalar.extui v12
  let v14 : BitVec 32 := Scalar.subi v11 v13
  let v15 : BitVec 1 := Scalar.cmpi .ne v9 v14
  let v16 : BitVec 32 := Scalar.remsi v3 c6144_i32
  let c0_i32_5 : BitVec 32 := 0#32
  let v17 : BitVec 1 := Scalar.cmpi .ne v16 c0_i32_5
  let v18 : BitVec 1 := Scalar.andi v15 v17
  let v4 : BitVec 32 := Scalar.divsi v3 c6144_i32
  let c1_i32 : BitVec 32 := 1#32
  let v19 : BitVec 32 := Scalar.subi v4 c1_i32
  let v20 : BitVec 32 := Scalar.select v18 v19 v4
  let c6144_i32_6 : BitVec 32 := 6144#32
  let v21 : BitVec 32 := Scalar.muli v20 c6144_i32_6
  let c0_i32_29 : BitVec 32 := 0#32
  let c1_i32_31 : BitVec 32 := 1#32
  let arg14 : BitVec 32 := Scf.iv c0_i32_29 c1_i32_31 k0_t5
  let c512_i32_266 : BitVec 32 := 512#32
  let v499 : BitVec 32 := Scalar.muli arg14 c512_i32_266
  let v500 : BitVec 32 := Scalar.addi v21 v499
  let v504 : Index := Scalar.indexCast v500
  ![0, 0, v504.toNat]
def k0_off13 (i : grid0.Coords) (k0_t5 : Fin (k0_t5_loop i).trips) : Fin 2 → Nat :=
  let arg1 : BitVec 32 := BitVec.ofNat 32 (i 1).val
  let c256_i32 : BitVec 32 := 256#32
  let v3 : BitVec 32 := Scalar.muli arg1 c256_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c6144_i32 : BitVec 32 := 6144#32
  let c0_i32_3 : BitVec 32 := 0#32
  let v10 : BitVec 1 := Scalar.cmpi .sgt c6144_i32 c0_i32_3
  let v11 : BitVec 32 := Scalar.extui v10
  let c0_i32_4 : BitVec 32 := 0#32
  let v12 : BitVec 1 := Scalar.cmpi .slt c6144_i32 c0_i32_4
  let v13 : BitVec 32 := Scalar.extui v12
  let v14 : BitVec 32 := Scalar.subi v11 v13
  let v15 : BitVec 1 := Scalar.cmpi .ne v9 v14
  let v16 : BitVec 32 := Scalar.remsi v3 c6144_i32
  let c0_i32_5 : BitVec 32 := 0#32
  let v17 : BitVec 1 := Scalar.cmpi .ne v16 c0_i32_5
  let v18 : BitVec 1 := Scalar.andi v15 v17
  let v4 : BitVec 32 := Scalar.divsi v3 c6144_i32
  let c1_i32 : BitVec 32 := 1#32
  let v19 : BitVec 32 := Scalar.subi v4 c1_i32
  let v20 : BitVec 32 := Scalar.select v18 v19 v4
  let c6144_i32_6 : BitVec 32 := 6144#32
  let v21 : BitVec 32 := Scalar.muli v20 c6144_i32_6
  let c0_i32_29 : BitVec 32 := 0#32
  let c1_i32_31 : BitVec 32 := 1#32
  let arg14 : BitVec 32 := Scf.iv c0_i32_29 c1_i32_31 k0_t5
  let c512_i32_266 : BitVec 32 := 512#32
  let v499 : BitVec 32 := Scalar.muli arg14 c512_i32_266
  let v500 : BitVec 32 := Scalar.addi v21 v499
  let v508 : Index := Scalar.indexCast v500
  let c0_271 : Index := 0#32
  ![v508.toNat, 0]
@[reducible] def k0_t6_loop (i : grid0.Coords) : Scf.Loop 32 :=
  let c0_i32_29 : BitVec 32 := 0#32
  let arg1 : BitVec 32 := BitVec.ofNat 32 (i 1).val
  let c256_i32 : BitVec 32 := 256#32
  let v3 : BitVec 32 := Scalar.muli arg1 c256_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c6144_i32 : BitVec 32 := 6144#32
  let c0_i32_3 : BitVec 32 := 0#32
  let v10 : BitVec 1 := Scalar.cmpi .sgt c6144_i32 c0_i32_3
  let v11 : BitVec 32 := Scalar.extui v10
  let c0_i32_4 : BitVec 32 := 0#32
  let v12 : BitVec 1 := Scalar.cmpi .slt c6144_i32 c0_i32_4
  let v13 : BitVec 32 := Scalar.extui v12
  let v14 : BitVec 32 := Scalar.subi v11 v13
  let v15 : BitVec 1 := Scalar.cmpi .ne v9 v14
  let v16 : BitVec 32 := Scalar.remsi v3 c6144_i32
  let c0_i32_5 : BitVec 32 := 0#32
  let v17 : BitVec 1 := Scalar.cmpi .ne v16 c0_i32_5
  let v18 : BitVec 1 := Scalar.andi v15 v17
  let v4 : BitVec 32 := Scalar.divsi v3 c6144_i32
  let c1_i32 : BitVec 32 := 1#32
  let v19 : BitVec 32 := Scalar.subi v4 c1_i32
  let v20 : BitVec 32 := Scalar.select v18 v19 v4
  let c6144_i32_6 : BitVec 32 := 6144#32
  let v21 : BitVec 32 := Scalar.muli v20 c6144_i32_6
  let v24 : BitVec 32 := Scalar.subi v3 v21
  let c0_i32_9 : BitVec 32 := 0#32
  let v26 : BitVec 1 := Scalar.cmpi .sgt v24 c0_i32_9
  let v27 : BitVec 32 := Scalar.extui v26
  let c0_i32_10 : BitVec 32 := 0#32
  let v28 : BitVec 1 := Scalar.cmpi .slt v24 c0_i32_10
  let v29 : BitVec 32 := Scalar.extui v28
  let v30 : BitVec 32 := Scalar.subi v27 v29
  let c512_i32 : BitVec 32 := 512#32
  let c0_i32_11 : BitVec 32 := 0#32
  let v31 : BitVec 1 := Scalar.cmpi .sgt c512_i32 c0_i32_11
  let v32 : BitVec 32 := Scalar.extui v31
  let c0_i32_12 : BitVec 32 := 0#32
  let v33 : BitVec 1 := Scalar.cmpi .slt c512_i32 c0_i32_12
  let v34 : BitVec 32 := Scalar.extui v33
  let v35 : BitVec 32 := Scalar.subi v32 v34
  let v36 : BitVec 1 := Scalar.cmpi .ne v30 v35
  let v37 : BitVec 32 := Scalar.remsi v24 c512_i32
  let c0_i32_13 : BitVec 32 := 0#32
  let v38 : BitVec 1 := Scalar.cmpi .ne v37 c0_i32_13
  let v39 : BitVec 1 := Scalar.andi v36 v38
  let v25 : BitVec 32 := Scalar.divsi v24 c512_i32
  let c1_i32_14 : BitVec 32 := 1#32
  let v40 : BitVec 32 := Scalar.subi v25 c1_i32_14
  let v41 : BitVec 32 := Scalar.select v39 v40 v25
  let v59 : BitVec 32 := Scalar.subi v41 c0_i32_29
  let c1_i32_30 : BitVec 32 := 1#32
  let v61 : BitVec 32 := Scalar.divsi v59 c1_i32_30
  let v62 : BitVec 32 := Scalar.muli v61 c1_i32_30
  let v63 : BitVec 32 := Scalar.addi c0_i32_29 v62
  let v60 : BitVec 32 := Scalar.addi c0_i32_29 v59
  let c1_i32_32 : BitVec 32 := 1#32
  ⟨v63, v60, c1_i32_32⟩
def k0_off14 (i : grid0.Coords) (k0_t6 : Fin (k0_t6_loop i).trips) : Fin 3 → Nat :=
  let c0_267 : Index := 0#32
  let arg1 : BitVec 32 := BitVec.ofNat 32 (i 1).val
  let c256_i32 : BitVec 32 := 256#32
  let v3 : BitVec 32 := Scalar.muli arg1 c256_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c6144_i32 : BitVec 32 := 6144#32
  let c0_i32_3 : BitVec 32 := 0#32
  let v10 : BitVec 1 := Scalar.cmpi .sgt c6144_i32 c0_i32_3
  let v11 : BitVec 32 := Scalar.extui v10
  let c0_i32_4 : BitVec 32 := 0#32
  let v12 : BitVec 1 := Scalar.cmpi .slt c6144_i32 c0_i32_4
  let v13 : BitVec 32 := Scalar.extui v12
  let v14 : BitVec 32 := Scalar.subi v11 v13
  let v15 : BitVec 1 := Scalar.cmpi .ne v9 v14
  let v16 : BitVec 32 := Scalar.remsi v3 c6144_i32
  let c0_i32_5 : BitVec 32 := 0#32
  let v17 : BitVec 1 := Scalar.cmpi .ne v16 c0_i32_5
  let v18 : BitVec 1 := Scalar.andi v15 v17
  let v4 : BitVec 32 := Scalar.divsi v3 c6144_i32
  let c1_i32 : BitVec 32 := 1#32
  let v19 : BitVec 32 := Scalar.subi v4 c1_i32
  let v20 : BitVec 32 := Scalar.select v18 v19 v4
  let c6144_i32_6 : BitVec 32 := 6144#32
  let v21 : BitVec 32 := Scalar.muli v20 c6144_i32_6
  let c0_i32_29 : BitVec 32 := 0#32
  let v24 : BitVec 32 := Scalar.subi v3 v21
  let c0_i32_9 : BitVec 32 := 0#32
  let v26 : BitVec 1 := Scalar.cmpi .sgt v24 c0_i32_9
  let v27 : BitVec 32 := Scalar.extui v26
  let c0_i32_10 : BitVec 32 := 0#32
  let v28 : BitVec 1 := Scalar.cmpi .slt v24 c0_i32_10
  let v29 : BitVec 32 := Scalar.extui v28
  let v30 : BitVec 32 := Scalar.subi v27 v29
  let c512_i32 : BitVec 32 := 512#32
  let c0_i32_11 : BitVec 32 := 0#32
  let v31 : BitVec 1 := Scalar.cmpi .sgt c512_i32 c0_i32_11
  let v32 : BitVec 32 := Scalar.extui v31
  let c0_i32_12 : BitVec 32 := 0#32
  let v33 : BitVec 1 := Scalar.cmpi .slt c512_i32 c0_i32_12
  let v34 : BitVec 32 := Scalar.extui v33
  let v35 : BitVec 32 := Scalar.subi v32 v34
  let v36 : BitVec 1 := Scalar.cmpi .ne v30 v35
  let v37 : BitVec 32 := Scalar.remsi v24 c512_i32
  let c0_i32_13 : BitVec 32 := 0#32
  let v38 : BitVec 1 := Scalar.cmpi .ne v37 c0_i32_13
  let v39 : BitVec 1 := Scalar.andi v36 v38
  let v25 : BitVec 32 := Scalar.divsi v24 c512_i32
  let c1_i32_14 : BitVec 32 := 1#32
  let v40 : BitVec 32 := Scalar.subi v25 c1_i32_14
  let v41 : BitVec 32 := Scalar.select v39 v40 v25
  let v59 : BitVec 32 := Scalar.subi v41 c0_i32_29
  let c1_i32_30 : BitVec 32 := 1#32
  let v61 : BitVec 32 := Scalar.divsi v59 c1_i32_30
  let v62 : BitVec 32 := Scalar.muli v61 c1_i32_30
  let v63 : BitVec 32 := Scalar.addi c0_i32_29 v62
  let c1_i32_32 : BitVec 32 := 1#32
  let arg14 : BitVec 32 := Scf.iv v63 c1_i32_32 k0_t6
  let c512_i32_266 : BitVec 32 := 512#32
  let v499 : BitVec 32 := Scalar.muli arg14 c512_i32_266
  let v500 : BitVec 32 := Scalar.addi v21 v499
  let v501 : Index := Scalar.indexCast v500
  let c0_268 : Index := 0#32
  ![0, v501.toNat, 0]
def k0_off15 (i : grid0.Coords) (k0_t6 : Fin (k0_t6_loop i).trips) : Fin 3 → Nat :=
  let c0_269 : Index := 0#32
  let c0_270 : Index := 0#32
  let arg1 : BitVec 32 := BitVec.ofNat 32 (i 1).val
  let c256_i32 : BitVec 32 := 256#32
  let v3 : BitVec 32 := Scalar.muli arg1 c256_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c6144_i32 : BitVec 32 := 6144#32
  let c0_i32_3 : BitVec 32 := 0#32
  let v10 : BitVec 1 := Scalar.cmpi .sgt c6144_i32 c0_i32_3
  let v11 : BitVec 32 := Scalar.extui v10
  let c0_i32_4 : BitVec 32 := 0#32
  let v12 : BitVec 1 := Scalar.cmpi .slt c6144_i32 c0_i32_4
  let v13 : BitVec 32 := Scalar.extui v12
  let v14 : BitVec 32 := Scalar.subi v11 v13
  let v15 : BitVec 1 := Scalar.cmpi .ne v9 v14
  let v16 : BitVec 32 := Scalar.remsi v3 c6144_i32
  let c0_i32_5 : BitVec 32 := 0#32
  let v17 : BitVec 1 := Scalar.cmpi .ne v16 c0_i32_5
  let v18 : BitVec 1 := Scalar.andi v15 v17
  let v4 : BitVec 32 := Scalar.divsi v3 c6144_i32
  let c1_i32 : BitVec 32 := 1#32
  let v19 : BitVec 32 := Scalar.subi v4 c1_i32
  let v20 : BitVec 32 := Scalar.select v18 v19 v4
  let c6144_i32_6 : BitVec 32 := 6144#32
  let v21 : BitVec 32 := Scalar.muli v20 c6144_i32_6
  let c0_i32_29 : BitVec 32 := 0#32
  let v24 : BitVec 32 := Scalar.subi v3 v21
  let c0_i32_9 : BitVec 32 := 0#32
  let v26 : BitVec 1 := Scalar.cmpi .sgt v24 c0_i32_9
  let v27 : BitVec 32 := Scalar.extui v26
  let c0_i32_10 : BitVec 32 := 0#32
  let v28 : BitVec 1 := Scalar.cmpi .slt v24 c0_i32_10
  let v29 : BitVec 32 := Scalar.extui v28
  let v30 : BitVec 32 := Scalar.subi v27 v29
  let c512_i32 : BitVec 32 := 512#32
  let c0_i32_11 : BitVec 32 := 0#32
  let v31 : BitVec 1 := Scalar.cmpi .sgt c512_i32 c0_i32_11
  let v32 : BitVec 32 := Scalar.extui v31
  let c0_i32_12 : BitVec 32 := 0#32
  let v33 : BitVec 1 := Scalar.cmpi .slt c512_i32 c0_i32_12
  let v34 : BitVec 32 := Scalar.extui v33
  let v35 : BitVec 32 := Scalar.subi v32 v34
  let v36 : BitVec 1 := Scalar.cmpi .ne v30 v35
  let v37 : BitVec 32 := Scalar.remsi v24 c512_i32
  let c0_i32_13 : BitVec 32 := 0#32
  let v38 : BitVec 1 := Scalar.cmpi .ne v37 c0_i32_13
  let v39 : BitVec 1 := Scalar.andi v36 v38
  let v25 : BitVec 32 := Scalar.divsi v24 c512_i32
  let c1_i32_14 : BitVec 32 := 1#32
  let v40 : BitVec 32 := Scalar.subi v25 c1_i32_14
  let v41 : BitVec 32 := Scalar.select v39 v40 v25
  let v59 : BitVec 32 := Scalar.subi v41 c0_i32_29
  let c1_i32_30 : BitVec 32 := 1#32
  let v61 : BitVec 32 := Scalar.divsi v59 c1_i32_30
  let v62 : BitVec 32 := Scalar.muli v61 c1_i32_30
  let v63 : BitVec 32 := Scalar.addi c0_i32_29 v62
  let c1_i32_32 : BitVec 32 := 1#32
  let arg14 : BitVec 32 := Scf.iv v63 c1_i32_32 k0_t6
  let c512_i32_266 : BitVec 32 := 512#32
  let v499 : BitVec 32 := Scalar.muli arg14 c512_i32_266
  let v500 : BitVec 32 := Scalar.addi v21 v499
  let v504 : Index := Scalar.indexCast v500
  ![0, 0, v504.toNat]
def k0_off16 (i : grid0.Coords) (k0_t6 : Fin (k0_t6_loop i).trips) : Fin 2 → Nat :=
  let arg1 : BitVec 32 := BitVec.ofNat 32 (i 1).val
  let c256_i32 : BitVec 32 := 256#32
  let v3 : BitVec 32 := Scalar.muli arg1 c256_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c6144_i32 : BitVec 32 := 6144#32
  let c0_i32_3 : BitVec 32 := 0#32
  let v10 : BitVec 1 := Scalar.cmpi .sgt c6144_i32 c0_i32_3
  let v11 : BitVec 32 := Scalar.extui v10
  let c0_i32_4 : BitVec 32 := 0#32
  let v12 : BitVec 1 := Scalar.cmpi .slt c6144_i32 c0_i32_4
  let v13 : BitVec 32 := Scalar.extui v12
  let v14 : BitVec 32 := Scalar.subi v11 v13
  let v15 : BitVec 1 := Scalar.cmpi .ne v9 v14
  let v16 : BitVec 32 := Scalar.remsi v3 c6144_i32
  let c0_i32_5 : BitVec 32 := 0#32
  let v17 : BitVec 1 := Scalar.cmpi .ne v16 c0_i32_5
  let v18 : BitVec 1 := Scalar.andi v15 v17
  let v4 : BitVec 32 := Scalar.divsi v3 c6144_i32
  let c1_i32 : BitVec 32 := 1#32
  let v19 : BitVec 32 := Scalar.subi v4 c1_i32
  let v20 : BitVec 32 := Scalar.select v18 v19 v4
  let c6144_i32_6 : BitVec 32 := 6144#32
  let v21 : BitVec 32 := Scalar.muli v20 c6144_i32_6
  let c0_i32_29 : BitVec 32 := 0#32
  let v24 : BitVec 32 := Scalar.subi v3 v21
  let c0_i32_9 : BitVec 32 := 0#32
  let v26 : BitVec 1 := Scalar.cmpi .sgt v24 c0_i32_9
  let v27 : BitVec 32 := Scalar.extui v26
  let c0_i32_10 : BitVec 32 := 0#32
  let v28 : BitVec 1 := Scalar.cmpi .slt v24 c0_i32_10
  let v29 : BitVec 32 := Scalar.extui v28
  let v30 : BitVec 32 := Scalar.subi v27 v29
  let c512_i32 : BitVec 32 := 512#32
  let c0_i32_11 : BitVec 32 := 0#32
  let v31 : BitVec 1 := Scalar.cmpi .sgt c512_i32 c0_i32_11
  let v32 : BitVec 32 := Scalar.extui v31
  let c0_i32_12 : BitVec 32 := 0#32
  let v33 : BitVec 1 := Scalar.cmpi .slt c512_i32 c0_i32_12
  let v34 : BitVec 32 := Scalar.extui v33
  let v35 : BitVec 32 := Scalar.subi v32 v34
  let v36 : BitVec 1 := Scalar.cmpi .ne v30 v35
  let v37 : BitVec 32 := Scalar.remsi v24 c512_i32
  let c0_i32_13 : BitVec 32 := 0#32
  let v38 : BitVec 1 := Scalar.cmpi .ne v37 c0_i32_13
  let v39 : BitVec 1 := Scalar.andi v36 v38
  let v25 : BitVec 32 := Scalar.divsi v24 c512_i32
  let c1_i32_14 : BitVec 32 := 1#32
  let v40 : BitVec 32 := Scalar.subi v25 c1_i32_14
  let v41 : BitVec 32 := Scalar.select v39 v40 v25
  let v59 : BitVec 32 := Scalar.subi v41 c0_i32_29
  let c1_i32_30 : BitVec 32 := 1#32
  let v61 : BitVec 32 := Scalar.divsi v59 c1_i32_30
  let v62 : BitVec 32 := Scalar.muli v61 c1_i32_30
  let v63 : BitVec 32 := Scalar.addi c0_i32_29 v62
  let c1_i32_32 : BitVec 32 := 1#32
  let arg14 : BitVec 32 := Scf.iv v63 c1_i32_32 k0_t6
  let c512_i32_266 : BitVec 32 := 512#32
  let v499 : BitVec 32 := Scalar.muli arg14 c512_i32_266
  let v500 : BitVec 32 := Scalar.addi v21 v499
  let v508 : Index := Scalar.indexCast v500
  let c0_271 : Index := 0#32
  ![v508.toNat, 0]
def k0_off17 (i : grid0.Coords) : Fin 3 → Nat :=
  let c0_34 : Index := 0#32
  let arg1 : BitVec 32 := BitVec.ofNat 32 (i 1).val
  let c256_i32 : BitVec 32 := 256#32
  let v3 : BitVec 32 := Scalar.muli arg1 c256_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c6144_i32 : BitVec 32 := 6144#32
  let c0_i32_3 : BitVec 32 := 0#32
  let v10 : BitVec 1 := Scalar.cmpi .sgt c6144_i32 c0_i32_3
  let v11 : BitVec 32 := Scalar.extui v10
  let c0_i32_4 : BitVec 32 := 0#32
  let v12 : BitVec 1 := Scalar.cmpi .slt c6144_i32 c0_i32_4
  let v13 : BitVec 32 := Scalar.extui v12
  let v14 : BitVec 32 := Scalar.subi v11 v13
  let v15 : BitVec 1 := Scalar.cmpi .ne v9 v14
  let v16 : BitVec 32 := Scalar.remsi v3 c6144_i32
  let c0_i32_5 : BitVec 32 := 0#32
  let v17 : BitVec 1 := Scalar.cmpi .ne v16 c0_i32_5
  let v18 : BitVec 1 := Scalar.andi v15 v17
  let v4 : BitVec 32 := Scalar.divsi v3 c6144_i32
  let c1_i32 : BitVec 32 := 1#32
  let v19 : BitVec 32 := Scalar.subi v4 c1_i32
  let v20 : BitVec 32 := Scalar.select v18 v19 v4
  let c6144_i32_6 : BitVec 32 := 6144#32
  let v21 : BitVec 32 := Scalar.muli v20 c6144_i32_6
  let v24 : BitVec 32 := Scalar.subi v3 v21
  let c0_i32_9 : BitVec 32 := 0#32
  let v26 : BitVec 1 := Scalar.cmpi .sgt v24 c0_i32_9
  let v27 : BitVec 32 := Scalar.extui v26
  let c0_i32_10 : BitVec 32 := 0#32
  let v28 : BitVec 1 := Scalar.cmpi .slt v24 c0_i32_10
  let v29 : BitVec 32 := Scalar.extui v28
  let v30 : BitVec 32 := Scalar.subi v27 v29
  let c512_i32 : BitVec 32 := 512#32
  let c0_i32_11 : BitVec 32 := 0#32
  let v31 : BitVec 1 := Scalar.cmpi .sgt c512_i32 c0_i32_11
  let v32 : BitVec 32 := Scalar.extui v31
  let c0_i32_12 : BitVec 32 := 0#32
  let v33 : BitVec 1 := Scalar.cmpi .slt c512_i32 c0_i32_12
  let v34 : BitVec 32 := Scalar.extui v33
  let v35 : BitVec 32 := Scalar.subi v32 v34
  let v36 : BitVec 1 := Scalar.cmpi .ne v30 v35
  let v37 : BitVec 32 := Scalar.remsi v24 c512_i32
  let c0_i32_13 : BitVec 32 := 0#32
  let v38 : BitVec 1 := Scalar.cmpi .ne v37 c0_i32_13
  let v39 : BitVec 1 := Scalar.andi v36 v38
  let v25 : BitVec 32 := Scalar.divsi v24 c512_i32
  let c1_i32_14 : BitVec 32 := 1#32
  let v40 : BitVec 32 := Scalar.subi v25 c1_i32_14
  let v41 : BitVec 32 := Scalar.select v39 v40 v25
  let c512_i32_33 : BitVec 32 := 512#32
  let v64 : BitVec 32 := Scalar.muli v41 c512_i32_33
  let v65 : BitVec 32 := Scalar.addi v21 v64
  let v66 : Index := Scalar.indexCast v65
  let c0_35 : Index := 0#32
  ![0, v66.toNat, 0]
def k0_off18 (i : grid0.Coords) : Fin 3 → Nat :=
  let c0_36 : Index := 0#32
  let c0_37 : Index := 0#32
  let arg1 : BitVec 32 := BitVec.ofNat 32 (i 1).val
  let c256_i32 : BitVec 32 := 256#32
  let v3 : BitVec 32 := Scalar.muli arg1 c256_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c6144_i32 : BitVec 32 := 6144#32
  let c0_i32_3 : BitVec 32 := 0#32
  let v10 : BitVec 1 := Scalar.cmpi .sgt c6144_i32 c0_i32_3
  let v11 : BitVec 32 := Scalar.extui v10
  let c0_i32_4 : BitVec 32 := 0#32
  let v12 : BitVec 1 := Scalar.cmpi .slt c6144_i32 c0_i32_4
  let v13 : BitVec 32 := Scalar.extui v12
  let v14 : BitVec 32 := Scalar.subi v11 v13
  let v15 : BitVec 1 := Scalar.cmpi .ne v9 v14
  let v16 : BitVec 32 := Scalar.remsi v3 c6144_i32
  let c0_i32_5 : BitVec 32 := 0#32
  let v17 : BitVec 1 := Scalar.cmpi .ne v16 c0_i32_5
  let v18 : BitVec 1 := Scalar.andi v15 v17
  let v4 : BitVec 32 := Scalar.divsi v3 c6144_i32
  let c1_i32 : BitVec 32 := 1#32
  let v19 : BitVec 32 := Scalar.subi v4 c1_i32
  let v20 : BitVec 32 := Scalar.select v18 v19 v4
  let c6144_i32_6 : BitVec 32 := 6144#32
  let v21 : BitVec 32 := Scalar.muli v20 c6144_i32_6
  let v24 : BitVec 32 := Scalar.subi v3 v21
  let c0_i32_9 : BitVec 32 := 0#32
  let v26 : BitVec 1 := Scalar.cmpi .sgt v24 c0_i32_9
  let v27 : BitVec 32 := Scalar.extui v26
  let c0_i32_10 : BitVec 32 := 0#32
  let v28 : BitVec 1 := Scalar.cmpi .slt v24 c0_i32_10
  let v29 : BitVec 32 := Scalar.extui v28
  let v30 : BitVec 32 := Scalar.subi v27 v29
  let c512_i32 : BitVec 32 := 512#32
  let c0_i32_11 : BitVec 32 := 0#32
  let v31 : BitVec 1 := Scalar.cmpi .sgt c512_i32 c0_i32_11
  let v32 : BitVec 32 := Scalar.extui v31
  let c0_i32_12 : BitVec 32 := 0#32
  let v33 : BitVec 1 := Scalar.cmpi .slt c512_i32 c0_i32_12
  let v34 : BitVec 32 := Scalar.extui v33
  let v35 : BitVec 32 := Scalar.subi v32 v34
  let v36 : BitVec 1 := Scalar.cmpi .ne v30 v35
  let v37 : BitVec 32 := Scalar.remsi v24 c512_i32
  let c0_i32_13 : BitVec 32 := 0#32
  let v38 : BitVec 1 := Scalar.cmpi .ne v37 c0_i32_13
  let v39 : BitVec 1 := Scalar.andi v36 v38
  let v25 : BitVec 32 := Scalar.divsi v24 c512_i32
  let c1_i32_14 : BitVec 32 := 1#32
  let v40 : BitVec 32 := Scalar.subi v25 c1_i32_14
  let v41 : BitVec 32 := Scalar.select v39 v40 v25
  let c512_i32_33 : BitVec 32 := 512#32
  let v64 : BitVec 32 := Scalar.muli v41 c512_i32_33
  let v65 : BitVec 32 := Scalar.addi v21 v64
  let v69 : Index := Scalar.indexCast v65
  ![0, 0, v69.toNat]
def k0_off19 (i : grid0.Coords) : Fin 2 → Nat :=
  let arg1 : BitVec 32 := BitVec.ofNat 32 (i 1).val
  let c256_i32 : BitVec 32 := 256#32
  let v3 : BitVec 32 := Scalar.muli arg1 c256_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c6144_i32 : BitVec 32 := 6144#32
  let c0_i32_3 : BitVec 32 := 0#32
  let v10 : BitVec 1 := Scalar.cmpi .sgt c6144_i32 c0_i32_3
  let v11 : BitVec 32 := Scalar.extui v10
  let c0_i32_4 : BitVec 32 := 0#32
  let v12 : BitVec 1 := Scalar.cmpi .slt c6144_i32 c0_i32_4
  let v13 : BitVec 32 := Scalar.extui v12
  let v14 : BitVec 32 := Scalar.subi v11 v13
  let v15 : BitVec 1 := Scalar.cmpi .ne v9 v14
  let v16 : BitVec 32 := Scalar.remsi v3 c6144_i32
  let c0_i32_5 : BitVec 32 := 0#32
  let v17 : BitVec 1 := Scalar.cmpi .ne v16 c0_i32_5
  let v18 : BitVec 1 := Scalar.andi v15 v17
  let v4 : BitVec 32 := Scalar.divsi v3 c6144_i32
  let c1_i32 : BitVec 32 := 1#32
  let v19 : BitVec 32 := Scalar.subi v4 c1_i32
  let v20 : BitVec 32 := Scalar.select v18 v19 v4
  let c6144_i32_6 : BitVec 32 := 6144#32
  let v21 : BitVec 32 := Scalar.muli v20 c6144_i32_6
  let v24 : BitVec 32 := Scalar.subi v3 v21
  let c0_i32_9 : BitVec 32 := 0#32
  let v26 : BitVec 1 := Scalar.cmpi .sgt v24 c0_i32_9
  let v27 : BitVec 32 := Scalar.extui v26
  let c0_i32_10 : BitVec 32 := 0#32
  let v28 : BitVec 1 := Scalar.cmpi .slt v24 c0_i32_10
  let v29 : BitVec 32 := Scalar.extui v28
  let v30 : BitVec 32 := Scalar.subi v27 v29
  let c512_i32 : BitVec 32 := 512#32
  let c0_i32_11 : BitVec 32 := 0#32
  let v31 : BitVec 1 := Scalar.cmpi .sgt c512_i32 c0_i32_11
  let v32 : BitVec 32 := Scalar.extui v31
  let c0_i32_12 : BitVec 32 := 0#32
  let v33 : BitVec 1 := Scalar.cmpi .slt c512_i32 c0_i32_12
  let v34 : BitVec 32 := Scalar.extui v33
  let v35 : BitVec 32 := Scalar.subi v32 v34
  let v36 : BitVec 1 := Scalar.cmpi .ne v30 v35
  let v37 : BitVec 32 := Scalar.remsi v24 c512_i32
  let c0_i32_13 : BitVec 32 := 0#32
  let v38 : BitVec 1 := Scalar.cmpi .ne v37 c0_i32_13
  let v39 : BitVec 1 := Scalar.andi v36 v38
  let v25 : BitVec 32 := Scalar.divsi v24 c512_i32
  let c1_i32_14 : BitVec 32 := 1#32
  let v40 : BitVec 32 := Scalar.subi v25 c1_i32_14
  let v41 : BitVec 32 := Scalar.select v39 v40 v25
  let c512_i32_33 : BitVec 32 := 512#32
  let v64 : BitVec 32 := Scalar.muli v41 c512_i32_33
  let v65 : BitVec 32 := Scalar.addi v21 v64
  let v73 : Index := Scalar.indexCast v65
  let c0_38 : Index := 0#32
  ![v73.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x896x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x7x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x21504x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x168x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x21504 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x168x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x896 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S1x21504x56x128 : Shape := ⟨4, ![1, 21504, 56, 128]⟩
abbrev S1x21504x56 : Shape := ⟨3, ![1, 21504, 56]⟩
abbrev S1x21504x8x128 : Shape := ⟨4, ![1, 21504, 8, 128]⟩
abbrev S1x21504x8 : Shape := ⟨3, ![1, 21504, 8]⟩
abbrev S21504x56x128 : Shape := ⟨3, ![21504, 56, 128]⟩
abbrev S56x21504x128 : Shape := ⟨3, ![56, 21504, 128]⟩
abbrev S21504x8x128 : Shape := ⟨3, ![21504, 8, 128]⟩
abbrev S8x21504x128 : Shape := ⟨3, ![8, 21504, 128]⟩
abbrev S8x7x21504x128 : Shape := ⟨4, ![8, 7, 21504, 128]⟩
abbrev S21504x56 : Shape := ⟨2, ![21504, 56]⟩
abbrev S56x21504 : Shape := ⟨2, ![56, 21504]⟩
abbrev S56x21504x1 : Shape := ⟨3, ![56, 21504, 1]⟩
abbrev S21504x8 : Shape := ⟨2, ![21504, 8]⟩
abbrev S8x21504 : Shape := ⟨2, ![8, 21504]⟩
abbrev S8x7x21504 : Shape := ⟨3, ![8, 7, 21504]⟩
abbrev S56x1x21504 : Shape := ⟨3, ![56, 1, 21504]⟩
abbrev S21504x7168 : Shape := ⟨2, ![21504, 7168]⟩
abbrev S56x21504x21504 : Shape := ⟨3, ![56, 21504, 21504]⟩

abbrev nBuf : Space → Nat
  | .hbm => 30
  | .vmem => 7
  | .smem => 0
  | _ => 0

abbrev bufTy : (tb : Table) → Fin (tcTables nBuf tb) → BufTy
  | .hbm, ⟨0, _⟩ => ⟨S1x21504x56x128, .fp8e4m3⟩
  | .hbm, ⟨1, _⟩ => ⟨S1x21504x56, .f32⟩
  | .hbm, ⟨2, _⟩ => ⟨S1x21504x8x128, .fp8e4m3⟩
  | .hbm, ⟨3, _⟩ => ⟨S1x21504x8, .f32⟩
  | .hbm, ⟨4, _⟩ => ⟨S1x21504x8x128, .fp8e4m3⟩
  | .hbm, ⟨5, _⟩ => ⟨S1x21504x8, .f32⟩
  | .hbm, ⟨6, _⟩ => ⟨S21504x56x128, .fp8e4m3⟩
  | .hbm, ⟨7, _⟩ => ⟨S56x21504x128, .fp8e4m3⟩
  | .hbm, ⟨8, _⟩ => ⟨S21504x8x128, .fp8e4m3⟩
  | .hbm, ⟨9, _⟩ => ⟨S8x21504x128, .fp8e4m3⟩
  | .hbm, ⟨10, _⟩ => ⟨S8x7x21504x128, .fp8e4m3⟩
  | .hbm, ⟨11, _⟩ => ⟨S56x21504x128, .fp8e4m3⟩
  | .hbm, ⟨12, _⟩ => ⟨S21504x8x128, .fp8e4m3⟩
  | .hbm, ⟨13, _⟩ => ⟨S8x21504x128, .fp8e4m3⟩
  | .hbm, ⟨14, _⟩ => ⟨S8x7x21504x128, .fp8e4m3⟩
  | .hbm, ⟨15, _⟩ => ⟨S56x21504x128, .fp8e4m3⟩
  | .hbm, ⟨16, _⟩ => ⟨S21504x56, .f32⟩
  | .hbm, ⟨17, _⟩ => ⟨S56x21504, .f32⟩
  | .hbm, ⟨18, _⟩ => ⟨S56x21504x1, .f32⟩
  | .hbm, ⟨19, _⟩ => ⟨S21504x8, .f32⟩
  | .hbm, ⟨20, _⟩ => ⟨S8x21504, .f32⟩
  | .hbm, ⟨21, _⟩ => ⟨S8x7x21504, .f32⟩
  | .hbm, ⟨22, _⟩ => ⟨S56x21504, .f32⟩
  | .hbm, ⟨23, _⟩ => ⟨S56x1x21504, .f32⟩
  | .hbm, ⟨24, _⟩ => ⟨S21504x8, .f32⟩
  | .hbm, ⟨25, _⟩ => ⟨S8x21504, .f32⟩
  | .hbm, ⟨26, _⟩ => ⟨S8x7x21504, .f32⟩
  | .hbm, ⟨27, _⟩ => ⟨S56x21504, .f32⟩
  | .hbm, ⟨28, _⟩ => ⟨S56x1x21504, .f32⟩
  | .hbm, ⟨29, _⟩ => ⟨S21504x7168, .bf16⟩
  | .local _ .vmem, ⟨0, _⟩ => ⟨S56x21504x128, .fp8e4m3⟩
  | .local _ .vmem, ⟨1, _⟩ => ⟨S56x21504x1, .f32⟩
  | .local _ .vmem, ⟨2, _⟩ => ⟨S56x21504x128, .fp8e4m3⟩
  | .local _ .vmem, ⟨3, _⟩ => ⟨S56x1x21504, .f32⟩
  | .local _ .vmem, ⟨4, _⟩ => ⟨S56x21504x128, .fp8e4m3⟩
  | .local _ .vmem, ⟨5, _⟩ => ⟨S56x1x21504, .f32⟩
  | .local _ .vmem, ⟨6, _⟩ => ⟨S21504x7168, .bf16⟩
  | _, _ => ⟨S1x21504x56x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S56x21504x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S56x21504x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S56x21504x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x1x21504 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S56x21504x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S56x1x21504 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S21504x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.FrameKernel.lean ====
/- The frame of `Kernel`: from any memory the program runs to its end, its argument arrays end as they began and
   every semaphore counter reads zero. The body is run once, at a symbolic grid point, from any contents of the five
   scratch buffers; what it leaves in them and in the output block is not said here. -/
module

public import proofs.«01_k».proof.Proof.Gen.Kernel.Frame
public import proofs.«01_k».proof.Proof.Gen.Kernel.Loops
public import proofs.«01_k».proof.Proof.Gen.Kernel.Points
public import Idealize.ShloMosaic.Lib.Pipeline.FrameBody
public import Idealize.ShloMosaic.Lib.Claim
public import Idealize.ShloMosaic.Lib.Tactic

@[expose] public section

set_option maxRecDepth 16384

noncomputable section

namespace Cert.Kernel.FrameRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

set_option maxHeartbeats 8000000 in
/-- The body on whole buffers: the six input blocks come back as they were, the output block and the scratch buffers hold
    something. -/
theorem sound_kernel (c : Dev nD) (E : Set ℕ) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole)
    (x2 : Vec F S1x896x256 .fp8e4m3) (x3 : Vec F S1x7x256 .f32) (x4 : Vec F S1x21504x128 .fp8e4m3) (x5 : Vec F S1x168x128 .f32) (x6 : Vec F S1x128x21504 .fp8e4m3) (x7 : Vec F S1x168x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ x, owns (c : Thread nD τ) arg8 fullShare x) ∗ (∃ x, owns (c : Thread nD τ) arg9 fullShare x) ∗ (∃ x, owns (c : Thread nD τ) arg10 fullShare x) ∗ (∃ x, owns (c : Thread nD τ) arg11 fullShare x) ∗ (∃ x, owns (c : Thread nD τ) arg12 fullShare x) ∗ (∃ x, owns (c : Thread nD τ) arg13 fullShare x)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ x, owns (c : Thread nD τ) arg8 fullShare x) ∗ (∃ x, owns (c : Thread nD τ) arg9 fullShare x) ∗ (∃ x, owns (c : Thread nD τ) arg10 fullShare x) ∗ (∃ x, owns (c : Thread nD τ) arg11 fullShare x) ∗ (∃ x, owns (c : Thread nD τ) arg12 fullShare x) ∗ (∃ x, owns (c : Thread nD τ) arg13 fullShare x)) -∗ K ⟨⟩))
      ⊢ wp frame (wpE (defs₀ (F := F)) Variants.none c none) E (cc0_star_attention i arg2 harg2 arg3 harg3 arg4 harg4 arg5 harg5 arg6 harg6 arg7 harg7 arg8 harg8 arg9 harg9 arg10 harg10 arg11 harg11 arg12 harg12 arg13 harg13) K := by
  simp only [cc0_star_attention_eq_skeleton]; unfold cc0_star_attention_skel
  simp only [k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%x8, %f8, -, H8⟩, ⟨%x9, %f9, -, H9⟩, ⟨%x10, %f10, -, H10⟩, ⟨%x11, %f11, -, H11⟩, ⟨%x12, %f12, -, H12⟩, ⟨%x13, %f13, -, H13⟩, Hk⟩
  subst hf2 hf3 hf4 hf5 hf6 hf7
  by_cases hi : k0_cond1 i = 1#1
  all_goals
    sl_exec
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists _; iexists _; isplitr
      swap; · iexact H8
      ipureintro; rfl
    isplitl [H9]
    · iexists _; iexists _; isplitr
      swap; · iexact H9
      ipureintro; rfl
    isplitl [H10]
    · iexists _; iexists _; isplitr
      swap; · iexact H10
      ipureintro; rfl
    isplitl [H11]
    · iexists _; iexists _; isplitr
      swap; · iexact H11
      ipureintro; rfl
    isplitl [H12]
    · iexists _; iexists _; isplitr
      swap; · iexact H12
      ipureintro; rfl
    iexists _; iexists _; isplitr
    swap; · iexact H13
    ipureintro; rfl

variable (m : (ℓ : Loc nD τ sig) → Buf (Elt F) ℓ) (ρ : Dev nD → PrngReg)

/-- The proof data: the arrays as the pipeline finds them, each input's buffer at its block after every point, the output's
    buffer not described. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The output window, whose contents the frame does not describe. -/
def fgt : Fin cfg0.W → Bool := fun w => decide (w = 6)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq c]
  iintro ⟨⟨⟨⟨%s0, S0⟩, ⟨%s1, S1⟩, ⟨%s2, S2⟩, ⟨%s3, S3⟩, ⟨%s4, S4⟩⟩, Hp⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexists _; rw [owns_whole]; iexact S0
  isplitl [S1]; · iexists _; rw [owns_whole]; iexact S1
  isplitl [S2]; · iexists _; rw [owns_whole]; iexact S2
  isplitl [S3]; · iexists _; rw [owns_whole]; iexact S3
  isplitl [S4]; · iexists _; rw [owns_whole]; iexact S4
  iintro ⟨H0, H1, H2, H3, H4, H5, H6, ⟨%y0, S0⟩, ⟨%y1, S1⟩, ⟨%y2, S2⟩, ⟨%y3, S3⟩, ⟨%y4, S4⟩⟩
  simp only [owns_whole]
  isplitl [S0 S1 S2 S3 S4 Hp]
  · isplitl [S0 S1 S2 S3 S4]
    · isplitl [S0]; · iexists _; iexact S0
      isplitl [S1]; · iexists _; iexact S1
      isplitl [S2]; · iexists _; iexact S2
      isplitl [S3]; · iexists _; iexact S3
      iexists _; iexact S4
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The launch, the counters with it. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- The frame: the argument arrays end unchanged and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run_main_quiescent m ρ)

end Cert.Kernel.FrameRun

end
-- ==== Proof.FrameKernelIdeal.lean ====
/- The frame of `KernelIdeal`: from any memory the program runs to its end, its argument arrays end as they began and
   every semaphore counter reads zero. The body is run once, at a symbolic grid point, from any contents of the five
   scratch buffers; what it leaves in them and in the output block is not said here. -/
module

public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.FrameBody
public import Idealize.ShloMosaic.Lib.Claim
public import Idealize.ShloMosaic.Lib.Tactic

@[expose] public section

set_option maxRecDepth 16384

noncomputable section

namespace Cert.KernelIdeal.FrameRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

local notation "𝕄" => MT nD τ sig Unit (Elt F) ℕ (UR sig nD τ) ℕ

set_option maxHeartbeats 8000000 in
/-- The body on whole buffers: the six input blocks come back as they were, the output block and the scratch buffers hold
    something. -/
theorem sound_kernel (c : Dev nD) (E : Set ℕ) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole)
    (x2 : Vec F S1x896x256 .fp8e4m3) (x3 : Vec F S1x7x256 .f32) (x4 : Vec F S1x21504x128 .fp8e4m3) (x5 : Vec F S1x168x128 .f32) (x6 : Vec F S1x128x21504 .fp8e4m3) (x7 : Vec F S1x168x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ x, owns (c : Thread nD τ) arg8 fullShare x) ∗ (∃ x, owns (c : Thread nD τ) arg9 fullShare x) ∗ (∃ x, owns (c : Thread nD τ) arg10 fullShare x) ∗ (∃ x, owns (c : Thread nD τ) arg11 fullShare x) ∗ (∃ x, owns (c : Thread nD τ) arg12 fullShare x) ∗ (∃ x, owns (c : Thread nD τ) arg13 fullShare x)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ x, owns (c : Thread nD τ) arg8 fullShare x) ∗ (∃ x, owns (c : Thread nD τ) arg9 fullShare x) ∗ (∃ x, owns (c : Thread nD τ) arg10 fullShare x) ∗ (∃ x, owns (c : Thread nD τ) arg11 fullShare x) ∗ (∃ x, owns (c : Thread nD τ) arg12 fullShare x) ∗ (∃ x, owns (c : Thread nD τ) arg13 fullShare x)) -∗ K ⟨⟩))
      ⊢ wp frame (wpE (defs₀ (F := F)) Variants.none c none) E (cc0_star_attention i arg2 harg2 arg3 harg3 arg4 harg4 arg5 harg5 arg6 harg6 arg7 harg7 arg8 harg8 arg9 harg9 arg10 harg10 arg11 harg11 arg12 harg12 arg13 harg13) K := by
  simp only [cc0_star_attention_eq_skeleton]; unfold cc0_star_attention_skel
  simp only [k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%x8, %f8, -, H8⟩, ⟨%x9, %f9, -, H9⟩, ⟨%x10, %f10, -, H10⟩, ⟨%x11, %f11, -, H11⟩, ⟨%x12, %f12, -, H12⟩, ⟨%x13, %f13, -, H13⟩, Hk⟩
  subst hf2 hf3 hf4 hf5 hf6 hf7
  by_cases hi : k0_cond1 i = 1#1
  all_goals
    sl_exec
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists _; iexists _; isplitr
      swap; · iexact H8
      ipureintro; rfl
    isplitl [H9]
    · iexists _; iexists _; isplitr
      swap; · iexact H9
      ipureintro; rfl
    isplitl [H10]
    · iexists _; iexists _; isplitr
      swap; · iexact H10
      ipureintro; rfl
    isplitl [H11]
    · iexists _; iexists _; isplitr
      swap; · iexact H11
      ipureintro; rfl
    isplitl [H12]
    · iexists _; iexists _; isplitr
      swap; · iexact H12
      ipureintro; rfl
    iexists _; iexists _; isplitr
    swap; · iexact H13
    ipureintro; rfl

variable (m : (ℓ : Loc nD τ sig) → Buf (Elt F) ℓ) (ρ : Dev nD → PrngReg)

/-- The proof data: the arrays as the pipeline finds them, each input's buffer at its block after every point, the output's
    buffer not described. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The output window, whose contents the frame does not describe. -/
def fgt : Fin cfg0.W → Bool := fun w => decide (w = 6)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq c]
  iintro ⟨⟨⟨⟨%s0, S0⟩, ⟨%s1, S1⟩, ⟨%s2, S2⟩, ⟨%s3, S3⟩, ⟨%s4, S4⟩⟩, Hp⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexists _; rw [owns_whole]; iexact S0
  isplitl [S1]; · iexists _; rw [owns_whole]; iexact S1
  isplitl [S2]; · iexists _; rw [owns_whole]; iexact S2
  isplitl [S3]; · iexists _; rw [owns_whole]; iexact S3
  isplitl [S4]; · iexists _; rw [owns_whole]; iexact S4
  iintro ⟨H0, H1, H2, H3, H4, H5, H6, ⟨%y0, S0⟩, ⟨%y1, S1⟩, ⟨%y2, S2⟩, ⟨%y3, S3⟩, ⟨%y4, S4⟩⟩
  simp only [owns_whole]
  isplitl [S0 S1 S2 S3 S4 Hp]
  · isplitl [S0 S1 S2 S3 S4]
    · isplitl [S0]; · iexists _; iexact S0
      isplitl [S1]; · iexists _; iexact S1
      isplitl [S2]; · iexists _; iexact S2
      isplitl [S3]; · iexists _; iexact S3
      iexists _; iexact S4
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The launch, the counters with it. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- The frame: the argument arrays end unchanged and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run_main_quiescent m ρ)

end Cert.KernelIdeal.FrameRun

end
-- ==== Proof.Step.lean ====
/- One step of the kernel, per head: what a block of 512 keys makes of the three running values of a head, and that
   a trip of either loop does exactly that to every head. -/
module

public import proofs.«01_k».proof.Proof.Gen.KernelIdeal.Loops
public import Idealize.ShloMosaic.Lib.WritesUnit

@[expose] public section

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A load of the rectangle the newest piece wrote reads that piece. -/
theorem hit {sig : RefSig} {κ : Kind} {sp : Space} {s : Shape} {e : EltTy} {Val : EltTy → Type} (v : View sig κ sp s e)
    (f : v.ty.Contents Val) {off size : Fin s.rank → ℕ} (inb inb' : ∀ a, off a + size a ≤ s.size a)
    (w : (Rect.unit off size inb).shape.Idx → Val e) (L : List (View.Piece Val s e)) :
    v.readAt Val (Rect.unit off size inb').toLoadRect (v.writes Val f (⟨Rect.unit off size inb, w⟩ :: L)) = w := by
  funext x
  exact View.read_writes_cons_unit_of_mem v f inb w L _ x rfl fun a => by
    show off a + 1 * (x a).val = off a + (x a).val
    rw [Nat.one_mul]

/-- A load disjoint, on the first axis, from the newest piece does not see it. -/
theorem miss {sig : RefSig} {κ : Kind} {sp : Space} {n : ℕ} {d : Fin (n + 1) → ℕ} {e : EltTy} {Val : EltTy → Type}
    (v : View sig κ sp ⟨n + 1, d⟩ e)
    (f : v.ty.Contents Val) {off size off' size' : Fin (n + 1) → ℕ} (inb : ∀ a, off a + size a ≤ d a)
    (inb' : ∀ a, off' a + size' a ≤ d a)
    (w : (Rect.unit (s := ⟨n + 1, d⟩) off size inb).shape.Idx → Val e) (L : List (View.Piece Val ⟨n + 1, d⟩ e))
    (h : off' 0 + size' 0 ≤ off 0 ∨ off 0 + size 0 ≤ off' 0) :
    v.readAt Val (Rect.unit (s := ⟨n + 1, d⟩) off' size' inb').toLoadRect
        (v.writes Val f (⟨Rect.unit (s := ⟨n + 1, d⟩) off size inb, w⟩ :: L))
      = v.readAt Val (Rect.unit (s := ⟨n + 1, d⟩) off' size' inb').toLoadRect (v.writes Val f L) := by
  funext x
  refine View.read_writes_cons_unit_of_not_mem v f inb w L _ rfl 0 ?_
  have hx : (x 0).val < size' 0 := (x 0).isLt
  show off' 0 + 1 * (x 0).val < off 0 ∨ off 0 + size 0 ≤ off' 0 + 1 * (x 0).val
  omega

/-- The new maximum of one head, from its tile of scores and its old maximum. -/
def stM0 (x : FVec F S512x256 .f32) (M : Vec F S1x256 .f32) : FVec F S1x256 .f32 :=
  maximumf M (shapeCast S1x256 (multiReduction .maximumf [0] S256 x 0xFF800000#32 reduces_S512x256_S256 (.inl rfl) rfl) shapeCasts_S256_S1x256)

/-- The new maximum, as it is stored. -/
def stM (x : FVec F S512x256 .f32) (M : Vec F S1x256 .f32) : FVec F S1x256 .f32 := k0_pay14 (stM0 x M)

/-- The factor the old normaliser and the old weighted sum are multiplied by. -/
def stAl (x : FVec F S512x256 .f32) (M : Vec F S1x256 .f32) : FVec F S1x256 .f32 := exp2 (subf M (stM0 x M))

/-- The exponentials of the tile. -/
def stE (x : FVec F S512x256 .f32) (M : Vec F S1x256 .f32) : FVec F S512x256 .f32 :=
  exp2 (subf x (broadcastTo S512x256 (stM0 x M) broadcasts_S1x256_S512x256))

/-- The new normaliser. -/
def stL (x : FVec F S512x256 .f32) (M L : Vec F S1x256 .f32) : FVec F S1x256 .f32 :=
  k0_pay13 (stE x M) (mulf (stAl x M) L)

/-- The new weighted sum. -/
def stA (x : FVec F S512x256 .f32) (vt : Vec F S1x128x512 .fp8e4m3) (vs : Vec F S512x128 .f32) (M : Vec F S1x256 .f32)
    (A : Vec F S1x128x256 .f32) : FVec F S1x128x256 .f32 :=
  k0_pay15 (k0_pay5 vt) (k0_pay7 vs) (stAl x M) (stE x M) A

theorem inbM (h : Fin 7) : ∀ a, (![h.val, 0] : Fin 2 → ℕ) a + S1x256.size a ≤ S8x256.size a := by
  intro a; have := h.isLt
  match a with
  | ⟨0, _⟩ => show h.val + 1 ≤ 8; omega
  | ⟨1, _⟩ => show 0 + 256 ≤ 256; omega
theorem inbA (h : Fin 7) : ∀ a, (![h.val, 0, 0] : Fin 3 → ℕ) a + S1x128x256.size a ≤ S7x128x256.size a := by
  intro a; have := h.isLt
  match a with
  | ⟨0, _⟩ => show h.val + 1 ≤ 7; omega
  | ⟨1, _⟩ => show 0 + 128 ≤ 128; omega
  | ⟨2, _⟩ => show 0 + 256 ≤ 256; omega
theorem inbQ (h : Fin 7) : ∀ a, (![0, 128 * h.val, 0] : Fin 3 → ℕ) a + S1x128x256.size a ≤ S1x896x256.size a := by
  intro a; have := h.isLt
  match a with
  | ⟨0, _⟩ => show 0 + 1 ≤ 1; omega
  | ⟨1, _⟩ => show 128 * h.val + 128 ≤ 896; omega
  | ⟨2, _⟩ => show 0 + 256 ≤ 256; omega
theorem inbS (h : Fin 7) : ∀ a, (![0, h.val, 0] : Fin 3 → ℕ) a + S1x1x256.size a ≤ S1x7x256.size a := by
  intro a; have := h.isLt
  match a with
  | ⟨0, _⟩ => show 0 + 1 ≤ 1; omega
  | ⟨1, _⟩ => show h.val + 1 ≤ 7; omega
  | ⟨2, _⟩ => show 0 + 256 ≤ 256; omega

/-- Row `h` of a buffer of running maxima or normalisers. -/
abbrev rowM (m : Memref sig .tc .vmem S8x256 .f32) (h : Fin 7) (f : BufTy.Contents (Elt F) m.view.ty) : Vec F S1x256 .f32 :=
  m.view.readAt (Elt F) (Rect.unit (s := S8x256) ![h.val, 0] S1x256.size (inbM h)).toLoadRect f
/-- Plane `h` of the buffer of running weighted sums. -/
abbrev rowA (m : Memref sig .tc .vmem S7x128x256 .f32) (h : Fin 7) (f : BufTy.Contents (Elt F) m.view.ty) : Vec F S1x128x256 .f32 :=
  m.view.readAt (Elt F) (Rect.unit (s := S7x128x256) ![h.val, 0, 0] S1x128x256.size (inbA h)).toLoadRect f
/-- The queries of head `h`. -/
abbrev rowQ (m : Memref sig .tc .vmem S1x896x256 .fp8e4m3) (h : Fin 7) (f : BufTy.Contents (Elt F) m.view.ty) : Vec F S1x128x256 .fp8e4m3 :=
  m.view.readAt (Elt F) (Rect.unit (s := S1x896x256) ![0, 128 * h.val, 0] S1x128x256.size (inbQ h)).toLoadRect f
/-- The query scales of head `h`. -/
abbrev rowS (m : Memref sig .tc .vmem S1x7x256 .f32) (h : Fin 7) (f : BufTy.Contents (Elt F) m.view.ty) : Vec F S1x1x256 .f32 :=
  m.view.readAt (Elt F) (Rect.unit (s := S1x7x256) ![0, h.val, 0] S1x1x256.size (inbS h)).toLoadRect f

/-- The scores of head `h` in trip `k` of the loop. -/
abbrev x3 (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (X2 : BufTy.Contents (Elt F) arg2.view.ty) (X3 : BufTy.Contents (Elt F) arg3.view.ty) (X4 : BufTy.Contents (Elt F) arg4.view.ty) (X6 : BufTy.Contents (Elt F) arg6.view.ty) (X9 : BufTy.Contents (Elt F) arg9.view.ty) (X10 : BufTy.Contents (Elt F) arg10.view.ty) (k : Fin (k0_t3_loop i).trips) (h : Fin 7) : FVec F S512x256 .f32 :=
  k0_pay8 (arg4.view.readAt (Elt F) (Rect.unit (s := S1x21504x128) (k0_off5 i k) S1x512x128.size (k0_off5_inb i k)).toLoadRect X4)
    (arg9.view.readAt (Elt F) (Rect.unit (s := S21504x128) (k0_off7 i k) S512x128.size (k0_off7_inb i k)).toLoadRect X9)
    (rowQ arg2 h X2) (rowS arg3 h X3)

set_option maxHeartbeats 4000000 in
/-- One trip of the loop: what each head's three running values become. -/
theorem trip3_row (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (v21 v23 v25 : BitVec 32) (v36 : BitVec 1) (v37 : BitVec 32) (X2 : BufTy.Contents (Elt F) arg2.view.ty) (X3 : BufTy.Contents (Elt F) arg3.view.ty) (X4 : BufTy.Contents (Elt F) arg4.view.ty) (X6 : BufTy.Contents (Elt F) arg6.view.ty) (X9 : BufTy.Contents (Elt F) arg9.view.ty) (X10 : BufTy.Contents (Elt F) arg10.view.ty) (k : Fin (k0_t3_loop i).trips) (f11 : BufTy.Contents (Elt F) arg11.view.ty) (f12 : BufTy.Contents (Elt F) arg12.view.ty) (f13 : BufTy.Contents (Elt F) arg13.view.ty) (h : Fin 7) :
    rowM arg12 h (arg12.view.writes (Elt F) f12 ((trip_k0_t3 (F := F) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 k).2.1 f11 f12 f13))
        = stM (x3 i arg2 harg2 arg3 harg3 arg4 harg4 arg5 harg5 arg6 harg6 arg7 harg7 arg8 harg8 arg9 harg9 arg10 harg10 arg11 harg11 arg12 harg12 arg13 harg13 X2 X3 X4 X6 X9 X10 k h) (rowM arg12 h f12)
      ∧ rowM arg13 h (arg13.view.writes (Elt F) f13 ((trip_k0_t3 (F := F) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 k).2.2.1 f11 f12 f13))
        = stL (x3 i arg2 harg2 arg3 harg3 arg4 harg4 arg5 harg5 arg6 harg6 arg7 harg7 arg8 harg8 arg9 harg9 arg10 harg10 arg11 harg11 arg12 harg12 arg13 harg13 X2 X3 X4 X6 X9 X10 k h) (rowM arg12 h f12) (rowM arg13 h f13)
      ∧ rowA arg11 h (arg11.view.writes (Elt F) f11 ((trip_k0_t3 (F := F) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 k).1 f11 f12 f13))
        = stA (x3 i arg2 harg2 arg3 harg3 arg4 harg4 arg5 harg5 arg6 harg6 arg7 harg7 arg8 harg8 arg9 harg9 arg10 harg10 arg11 harg11 arg12 harg12 arg13 harg13 X2 X3 X4 X6 X9 X10 k h) (arg6.view.readAt (Elt F) (Rect.unit (s := S1x128x21504) (k0_off6 i k) S1x128x512.size (k0_off6_inb i k)).toLoadRect X6)
            (arg10.view.readAt (Elt F) (Rect.unit (s := S21504x128) (k0_off7 i k) S512x128.size (k0_off7_inb i k)).toLoadRect X10)
            (rowM arg12 h f12) (rowA arg11 h f11) := by
  unfold trip_k0_t3
  obtain ⟨h, hh⟩ := h
  interval_cases h
  all_goals
    refine ⟨?_, ?_, ?_⟩
    all_goals
      dsimp only [rowM, rowA]
      simp (disch := decide) only [miss, hit]
      rfl

/-- The scores of head `h` in trip `k` of the loop. -/
abbrev x5 (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (X2 : BufTy.Contents (Elt F) arg2.view.ty) (X3 : BufTy.Contents (Elt F) arg3.view.ty) (X4 : BufTy.Contents (Elt F) arg4.view.ty) (X6 : BufTy.Contents (Elt F) arg6.view.ty) (X9 : BufTy.Contents (Elt F) arg9.view.ty) (X10 : BufTy.Contents (Elt F) arg10.view.ty) (k : Fin (k0_t5_loop i).trips) (h : Fin 7) : FVec F S512x256 .f32 :=
  k0_pay8 (arg4.view.readAt (Elt F) (Rect.unit (s := S1x21504x128) (k0_off11 i k) S1x512x128.size (k0_off11_inb i k)).toLoadRect X4)
    (arg9.view.readAt (Elt F) (Rect.unit (s := S21504x128) (k0_off13 i k) S512x128.size (k0_off13_inb i k)).toLoadRect X9)
    (rowQ arg2 h X2) (rowS arg3 h X3)

set_option maxHeartbeats 4000000 in
/-- One trip of the loop: what each head's three running values become. -/
theorem trip5_row (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (v21 v23 v25 : BitVec 32) (v36 : BitVec 1) (v37 : BitVec 32) (X2 : BufTy.Contents (Elt F) arg2.view.ty) (X3 : BufTy.Contents (Elt F) arg3.view.ty) (X4 : BufTy.Contents (Elt F) arg4.view.ty) (X6 : BufTy.Contents (Elt F) arg6.view.ty) (X9 : BufTy.Contents (Elt F) arg9.view.ty) (X10 : BufTy.Contents (Elt F) arg10.view.ty) (k : Fin (k0_t5_loop i).trips) (f11 : BufTy.Contents (Elt F) arg11.view.ty) (f12 : BufTy.Contents (Elt F) arg12.view.ty) (f13 : BufTy.Contents (Elt F) arg13.view.ty) (h : Fin 7) :
    rowM arg12 h (arg12.view.writes (Elt F) f12 ((trip_k0_t5 (F := F) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 k).2.1 f11 f12 f13))
        = stM (x5 i arg2 harg2 arg3 harg3 arg4 harg4 arg5 harg5 arg6 harg6 arg7 harg7 arg8 harg8 arg9 harg9 arg10 harg10 arg11 harg11 arg12 harg12 arg13 harg13 X2 X3 X4 X6 X9 X10 k h) (rowM arg12 h f12)
      ∧ rowM arg13 h (arg13.view.writes (Elt F) f13 ((trip_k0_t5 (F := F) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 k).2.2.1 f11 f12 f13))
        = stL (x5 i arg2 harg2 arg3 harg3 arg4 harg4 arg5 harg5 arg6 harg6 arg7 harg7 arg8 harg8 arg9 harg9 arg10 harg10 arg11 harg11 arg12 harg12 arg13 harg13 X2 X3 X4 X6 X9 X10 k h) (rowM arg12 h f12) (rowM arg13 h f13)
      ∧ rowA arg11 h (arg11.view.writes (Elt F) f11 ((trip_k0_t5 (F := F) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 k).1 f11 f12 f13))
        = stA (x5 i arg2 harg2 arg3 harg3 arg4 harg4 arg5 harg5 arg6 harg6 arg7 harg7 arg8 harg8 arg9 harg9 arg10 harg10 arg11 harg11 arg12 harg12 arg13 harg13 X2 X3 X4 X6 X9 X10 k h) (arg6.view.readAt (Elt F) (Rect.unit (s := S1x128x21504) (k0_off12 i k) S1x128x512.size (k0_off12_inb i k)).toLoadRect X6)
            (arg10.view.readAt (Elt F) (Rect.unit (s := S21504x128) (k0_off13 i k) S512x128.size (k0_off13_inb i k)).toLoadRect X10)
            (rowM arg12 h f12) (rowA arg11 h f11) := by
  unfold trip_k0_t5
  obtain ⟨h, hh⟩ := h
  interval_cases h
  all_goals
    refine ⟨?_, ?_, ?_⟩
    all_goals
      dsimp only [rowM, rowA]
      simp (disch := decide) only [miss, hit]
      rfl

end Cert.KernelIdeal.Step
-- ==== Proof.Softmax.lean ====
module

public import Idealize.ShloMosaic.Lib.Pointwise

/-!
# Online softmax over extended reals

A softmax-weighted sum can be computed one block of keys at a time: keep the running maximum `m`, the running
normaliser `l` and the running weighted sum `a`, and rescale `l` and `a` whenever the maximum moves.  The lemmas
here say that the three running values are functions of the SET of keys seen so far, and that the quotient `a / l`
over all keys is the softmax-weighted sum with each weight normalised first.  Nothing is assumed of the scores:
they may be infinite of either sign.
-/

@[expose] public section

open Idealize.ShloMosaic

noncomputable section

namespace Cert.Softmax

variable {ι : Type} [DecidableEq ι]

/-- The running maximum after the keys `S`, started at `c`. -/
def mx (c : EReal) (x : ι → EReal) (S : Finset ι) : EReal := max c (S.sup x)

/-- The running normaliser after the keys `S`. -/
def ll (c : EReal) (x : ι → EReal) (S : Finset ι) : EReal := ∑ u ∈ S, Ideal.exp2 (x u - mx c x S)

/-- The running weighted sum after the keys `S`: scores `x`, weights' scales `w`, values `v`. -/
def aa (c : EReal) (x w v : ι → EReal) (S : Finset ι) : EReal :=
  ∑ u ∈ S, v u * (Ideal.exp2 (x u - mx c x S) * w u)

theorem mx_empty (c : EReal) (x : ι → EReal) : mx c x ∅ = c := by simp [mx]
theorem ll_empty (c : EReal) (x : ι → EReal) : ll c x ∅ = 0 := by simp [ll]
theorem aa_empty (c : EReal) (x w v : ι → EReal) : aa c x w v ∅ = 0 := by simp [aa]

theorem mx_union (c : EReal) (x : ι → EReal) (S T : Finset ι) : mx c x (S ∪ T) = max (mx c x S) (T.sup x) := by
  unfold mx; rw [Finset.sup_union, ← max_assoc]

theorem sub_top (a : EReal) : a - ⊤ = ⊥ := by rw [sub_eq_add_neg, EReal.neg_top, EReal.add_bot]
theorem bot_sub (a : EReal) : (⊥ : EReal) - a = ⊥ := by rw [sub_eq_add_neg, EReal.bot_add]

/-- The factor a rescaling multiplies by: a real number, at least zero. -/
theorem alpha_real {m m' : EReal} (hm : m ≠ ⊥) (h : m ≤ m') : 0 ≤ Ideal.exp2 (m - m') ∧ Ideal.exp2 (m - m') ≠ ⊤ := by
  induction m' with
  | top => rw [sub_top]; simp
  | bot => exact absurd (le_bot_iff.mp h) hm
  | coe b =>
    induction m with
    | bot => exact absurd rfl hm
    | top => exact absurd (top_le_iff.mp h) (EReal.coe_ne_top b)
    | coe a =>
      rw [← EReal.coe_sub, Ideal.exp2_coe]
      exact ⟨by exact_mod_cast (Real.rpow_nonneg (by norm_num) _), EReal.coe_ne_top _⟩

/-- Rescaling one exponential from the old maximum to the new one. -/
theorem shift {m m' x : EReal} (hm : m ≠ ⊥) (h : m ≤ m') (hx : x ≤ m) :
    Ideal.exp2 (m - m') * Ideal.exp2 (x - m) = Ideal.exp2 (x - m') := by
  induction m' with
  | top => simp [sub_top]
  | bot => exact absurd (le_bot_iff.mp h) hm
  | coe b =>
    induction m with
    | bot => exact absurd rfl hm
    | top => exact absurd (top_le_iff.mp h) (EReal.coe_ne_top b)
    | coe a =>
      induction x with
      | bot => simp [bot_sub]
      | top => exact absurd (top_le_iff.mp hx) (EReal.coe_ne_top a)
      | coe y =>
        simp only [← EReal.coe_sub, Ideal.exp2_coe, ← EReal.coe_mul]
        congr 1
        show (2:ℝ) ^ (a - b) * (2:ℝ) ^ (y - a) = (2:ℝ) ^ (y - b)
        rw [← Real.rpow_add (by norm_num)]
        congr 1; ring

theorem mul_sum_real {α : EReal} (h0 : 0 ≤ α) (ht : α ≠ ⊤) (S : Finset ι) (f : ι → EReal) :
    α * ∑ u ∈ S, f u = ∑ u ∈ S, α * f u := by
  induction S using Finset.induction_on with
  | empty => simp
  | insert a s ha ih => rw [Finset.sum_insert ha, Finset.sum_insert ha, EReal.left_distrib_of_nonneg_of_ne_top h0 ht, ih]

variable {c : EReal} (hc : c ≠ ⊥)
include hc

theorem mx_ne_bot (x : ι → EReal) (S : Finset ι) : mx c x S ≠ ⊥ :=
  fun h => hc (le_bot_iff.mp (h ▸ le_max_left _ _))

/-- One step of the normaliser. -/
theorem ll_union (x : ι → EReal) {S T : Finset ι} (hd : Disjoint S T) :
    Ideal.exp2 (mx c x S - mx c x (S ∪ T)) * ll c x S + ∑ u ∈ T, Ideal.exp2 (x u - mx c x (S ∪ T)) = ll c x (S ∪ T) := by
  have hle : mx c x S ≤ mx c x (S ∪ T) := by rw [mx_union]; exact le_max_left _ _
  obtain ⟨h0, ht⟩ := alpha_real (mx_ne_bot hc x S) hle
  unfold ll
  rw [Finset.sum_union hd, mul_sum_real h0 ht]
  congr 1
  refine Finset.sum_congr rfl fun u hu => shift (mx_ne_bot hc x S) hle ?_
  exact le_trans (Finset.le_sup hu) (le_max_right _ _)

/-- One step of the weighted sum. -/
theorem aa_union (x w v : ι → EReal) {S T : Finset ι} (hd : Disjoint S T) :
    aa c x w v S * Ideal.exp2 (mx c x S - mx c x (S ∪ T)) + ∑ u ∈ T, v u * (Ideal.exp2 (x u - mx c x (S ∪ T)) * w u)
      = aa c x w v (S ∪ T) := by
  have hle : mx c x S ≤ mx c x (S ∪ T) := by rw [mx_union]; exact le_max_left _ _
  obtain ⟨h0, ht⟩ := alpha_real (mx_ne_bot hc x S) hle
  unfold aa
  rw [Finset.sum_union hd, mul_comm, mul_sum_real h0 ht]
  congr 1
  refine Finset.sum_congr rfl fun u hu => ?_
  rw [← shift (mx_ne_bot hc x S) hle (le_trans (Finset.le_sup hu) (le_max_right _ _))]
  rw [mul_left_comm, mul_assoc]

omit hc

/-- Keys whose score is the mask's value change nothing: the maximum, -/
theorem mx_univ [Fintype ι] (x : ι → EReal) (S : Finset ι) (h : ∀ u, u ∉ S → x u = ⊥) : mx c x S = mx c x Finset.univ := by
  unfold mx
  congr 1
  refine le_antisymm (Finset.sup_mono (Finset.subset_univ _)) (Finset.sup_le fun u _ => ?_)
  by_cases hu : u ∈ S
  · exact Finset.le_sup hu
  · rw [h u hu]; exact bot_le

/-- the normaliser, -/
theorem ll_univ [Fintype ι] (x : ι → EReal) (S : Finset ι) (h : ∀ u, u ∉ S → x u = ⊥) : ll c x S = ll c x Finset.univ := by
  unfold ll
  rw [mx_univ x S h]
  refine Finset.sum_subset (Finset.subset_univ _) fun u _ hu => ?_
  rw [h u hu, bot_sub, Ideal.exp2_bot]

/-- the weighted sum. -/
theorem aa_univ [Fintype ι] (x w v : ι → EReal) (S : Finset ι) (h : ∀ u, u ∉ S → x u = ⊥) :
    aa c x w v S = aa c x w v Finset.univ := by
  unfold aa
  rw [mx_univ x S h]
  refine Finset.sum_subset (Finset.subset_univ _) fun u _ hu => ?_
  rw [h u hu, bot_sub, Ideal.exp2_bot, zero_mul, mul_zero]

theorem div_zero_zero : Ideal.div 0 0 = ⊥ := by unfold Ideal.div; rw [if_pos rfl, if_neg (lt_irrefl _)]

/-- THE QUOTIENT: the running weighted sum over the running normaliser, with scores in units of `log 2`, is the sum
    with every weight normalised first; where the normaliser is zero both are the fill value. -/
theorem quotient [Fintype ι] (hc : c ≠ ⊥) (hct : c ≠ ⊤) (x w v : ι → EReal) :
    Ideal.div (aa c (fun u => x u * (((Real.log 2)⁻¹ : ℝ) : EReal)) w v Finset.univ)
        (ll c (fun u => x u * (((Real.log 2)⁻¹ : ℝ) : EReal)) Finset.univ)
      = if (∑ u, Ideal.exp (x u - Finset.univ.sup x)) = 0 then ⊥
        else ∑ u, Ideal.div (Ideal.exp (x u - Finset.univ.sup x)) (∑ u', Ideal.exp (x u' - Finset.univ.sup x)) * w u * v u := by
  have hL : 0 < (Real.log 2)⁻¹ := inv_pos.mpr (Real.log_pos (by norm_num))
  set L : EReal := (((Real.log 2)⁻¹ : ℝ) : EReal) with hLdef
  have hLtop : (⊤ : EReal) * L = ⊤ := EReal.top_mul_coe_of_pos hL
  have hLbot : (⊥ : EReal) * L = ⊥ := EReal.bot_mul_coe_of_pos hL
  by_cases htop : ∃ u, x u = ⊤
  · obtain ⟨u0, hu0⟩ := htop
    have hs : Finset.univ.sup x = ⊤ := top_le_iff.mp (hu0 ▸ Finset.le_sup (Finset.mem_univ u0))
    have hm : mx c (fun u => x u * L) Finset.univ = ⊤ := by
      refine top_le_iff.mp (le_trans (le_of_eq ?_) (le_trans (Finset.le_sup (f := fun u => x u * L) (Finset.mem_univ u0)) (le_max_right _ _)))
      show ⊤ = x u0 * L
      rw [hu0, hLtop]
    have hl : ll c (fun u => x u * L) Finset.univ = 0 := by
      unfold ll; rw [hm]; exact Finset.sum_eq_zero fun u _ => by rw [sub_top, Ideal.exp2_bot]
    have ha : aa c (fun u => x u * L) w v Finset.univ = 0 := by
      unfold aa; rw [hm]; exact Finset.sum_eq_zero fun u _ => by rw [sub_top, Ideal.exp2_bot, zero_mul, mul_zero]
    rw [hl, ha, div_zero_zero, if_pos]
    rw [hs]; exact Finset.sum_eq_zero fun u _ => by rw [sub_top, Ideal.exp_bot]
  · by_cases hbot : ∀ u, x u = ⊥
    · have hl : ll c (fun u => x u * L) Finset.univ = 0 := by
        unfold ll; exact Finset.sum_eq_zero fun u _ => by
          show Ideal.exp2 (x u * L - _) = 0
          rw [hbot, hLbot, bot_sub, Ideal.exp2_bot]
      have ha : aa c (fun u => x u * L) w v Finset.univ = 0 := by
        unfold aa; exact Finset.sum_eq_zero fun u _ => by
          show v u * (Ideal.exp2 (x u * L - _) * w u) = 0
          rw [hbot, hLbot, bot_sub, Ideal.exp2_bot, zero_mul, mul_zero]
      rw [hl, ha, div_zero_zero, if_pos]
      exact Finset.sum_eq_zero fun u _ => by rw [hbot, bot_sub, Ideal.exp_bot]
    · push Not at htop hbot
      obtain ⟨u1, hu1⟩ := hbot
      obtain ⟨u0, -, hu0⟩ := Finset.exists_mem_eq_sup Finset.univ ⟨u1, Finset.mem_univ _⟩ x
      have hub : Finset.univ.sup x ≠ ⊥ := fun h => hu1 (le_bot_iff.mp (h ▸ Finset.le_sup (Finset.mem_univ u1)))
      obtain ⟨M, hM⟩ : ∃ M : ℝ, Finset.univ.sup x = (M : EReal) :=
        ⟨_, (EReal.coe_toReal (hu0 ▸ htop u0) hub).symm⟩
      have hmt : mx c (fun u => x u * L) Finset.univ ≠ ⊤ := by
        intro h
        unfold mx at h
        rcases max_eq_iff.mp h with ⟨h, _⟩ | ⟨h, _⟩
        · exact hct h
        · obtain ⟨u2, -, hu2⟩ := Finset.exists_mem_eq_sup Finset.univ ⟨u1, Finset.mem_univ _⟩ (fun u => x u * L)
          rw [hu2] at h
          have h' : x u2 * L = ⊤ := h
          have := htop u2
          revert h' this
          induction x u2 with
          | bot => intro h' _; rw [hLbot] at h'; exact bot_ne_top h'
          | top => intro _ h; exact h rfl
          | coe y => intro h' _; rw [hLdef, ← EReal.coe_mul] at h'; exact EReal.coe_ne_top _ h'
      obtain ⟨K, hK⟩ : ∃ K : ℝ, mx c (fun u => x u * L) Finset.univ = (K : EReal) :=
        ⟨_, (EReal.coe_toReal hmt (mx_ne_bot hc _ _)).symm⟩
      -- each exponential of the reference is a real number, and the kernel's is a constant multiple of it
      let e : ι → ℝ := fun u => if x u = ⊥ then 0 else Real.exp ((x u).toReal - M)
      let β : ℝ := Real.exp (M - K * Real.log 2)
      have hβ : 0 < β := Real.exp_pos _
      have he0 : ∀ u, 0 ≤ e u := fun u => by
        show 0 ≤ (if x u = ⊥ then (0:ℝ) else Real.exp ((x u).toReal - M))
        split
        · exact le_refl _
        · exact (Real.exp_pos _).le
      have hxr : ∀ u, x u ≠ ⊥ → x u = ((x u).toReal : EReal) := fun u h => (EReal.coe_toReal (htop u) h).symm
      have her : ∀ u, Ideal.exp (x u - Finset.univ.sup x) = (e u : EReal) := fun u => by
        rw [hM]
        by_cases h : x u = ⊥
        · have : e u = 0 := if_pos h
          rw [this, h, bot_sub, Ideal.exp_bot]; rfl
        · have : e u = Real.exp ((x u).toReal - M) := if_neg h
          rw [this]
          conv_lhs => rw [hxr u h]
          rw [← EReal.coe_sub, Ideal.exp_coe]
      have hek : ∀ u, Ideal.exp2 (x u * L - mx c (fun u => x u * L) Finset.univ) = ((β * e u : ℝ) : EReal) := fun u => by
        rw [hK]
        by_cases h : x u = ⊥
        · have : e u = 0 := if_pos h
          rw [this, h, hLbot, bot_sub, Ideal.exp2_bot, mul_zero]; rfl
        · have : e u = Real.exp ((x u).toReal - M) := if_neg h
          rw [this]
          conv_lhs => rw [hxr u h]
          rw [hLdef, ← EReal.coe_mul, ← EReal.coe_sub, Ideal.exp2_coe]
          congr 1
          change (2:ℝ) ^ ((x u).toReal * (Real.log 2)⁻¹ - K) = Real.exp (M - K * Real.log 2) * Real.exp ((x u).toReal - M)
          have hlog : Real.log 2 ≠ 0 := (Real.log_pos (by norm_num)).ne'
          rw [Real.rpow_def_of_pos (by norm_num), ← Real.exp_add]
          congr 1
          field_simp
          ring
      have hlr : (∑ u, Ideal.exp (x u - Finset.univ.sup x)) = ((∑ u, e u : ℝ) : EReal) := by
        rw [Finset.sum_congr rfl fun u _ => her u]
        exact (map_sum (⟨⟨Real.toEReal, rfl⟩, EReal.coe_add⟩ : ℝ →+ EReal) e Finset.univ).symm
      have hlpos : 0 < ∑ u, e u := by
        refine Finset.sum_pos' (fun u _ => he0 u) ⟨u0, Finset.mem_univ _, ?_⟩
        have : x u0 ≠ ⊥ := hu0 ▸ hub
        show 0 < (if x u0 = ⊥ then (0:ℝ) else Real.exp ((x u0).toReal - M))
        rw [if_neg this]; exact Real.exp_pos _
      have hll : ll c (fun u => x u * L) Finset.univ = ((β * ∑ u, e u : ℝ) : EReal) := by
        unfold ll
        rw [Finset.sum_congr rfl fun u _ => hek u, Finset.mul_sum]
        exact (map_sum (⟨⟨Real.toEReal, rfl⟩, EReal.coe_add⟩ : ℝ →+ EReal) (fun u => β * e u) Finset.univ).symm
      have hne : ((∑ u, e u : ℝ) : EReal) ≠ 0 := by exact_mod_cast hlpos.ne'
      have hne' : ((β * ∑ u, e u : ℝ) : EReal) ≠ 0 := by exact_mod_cast (mul_pos hβ hlpos).ne'
      rw [hlr, if_neg hne, hll]
      unfold Ideal.div
      rw [if_neg hne', ← EReal.coe_inv, mul_comm]
      unfold aa
      rw [mul_sum_real (by exact_mod_cast (inv_pos.mpr (mul_pos hβ hlpos)).le) (EReal.coe_ne_top _)]
      refine Finset.sum_congr rfl fun u _ => ?_
      rw [if_neg hne, her, ← EReal.coe_inv, ← EReal.coe_mul]
      show _ * (v u * (Ideal.exp2 (x u * L - _) * w u)) = _
      rw [hek]
      have : e u * (∑ u, e u)⁻¹ = (β * ∑ u, e u)⁻¹ * (β * e u) := by
        have := hlpos.ne'
        have := hβ.ne'
        field_simp
      rw [this, EReal.coe_mul]
      ac_rfl

end Cert.Softmax
-- ==== Proof.Tile.lean ====
/- One block of 512 keys, at the extended reals: the step of the kernel moves the three running values of a head from
   the keys seen so far to those keys and the block's. -/
module

public import proofs.«01_k».proof.Proof.Step
public import proofs.«01_k».proof.Proof.Softmax
public import Idealize.ShloMosaic.Lib.Pointwise

@[expose] public section

set_option maxRecDepth 16384

noncomputable section

namespace Cert.KernelIdeal.Tile

open Cert.KernelIdeal Cert.KernelIdeal.Gen Cert.KernelIdeal.Step Cert.Softmax
open Idealize.ShloMosaic Idealize.ShloMosaic.Pointwise

/-- The running maximum's start. -/
def c0 : EReal := Ideal.ofBits .f32 0xF149F2CA#32

theorem ofBits_neg_inf : Ideal.ofBits .f32 0xFF800000#32 = ⊥ := by
  simp [Ideal.ofBits, Ideal.ieee]

theorem c0_real : c0 ≠ ⊥ ∧ c0 ≠ ⊤ := by
  unfold c0
  simp only [Ideal.ofBits, Ideal.ieee]
  rw [if_neg (by decide), if_neg (by decide)]
  exact ⟨EReal.coe_ne_bot _, EReal.coe_ne_top _⟩

/-- The keys of the block that starts at key `b`. -/
def emb (b : ℕ) (hb : b + 512 ≤ 21504) : Fin 512 ↪ Fin 21504 :=
  ⟨fun j => ⟨b + j.val, by have := j.isLt; omega⟩, fun a a' h => by
    have := congrArg Fin.val h
    exact Fin.ext (by simpa using this)⟩

/-- The block as a set of keys. -/
def blk (b : ℕ) (hb : b + 512 ≤ 21504) : Finset (Fin 21504) := Finset.univ.map (emb b hb)

theorem mem_blk {b : ℕ} {hb : b + 512 ≤ 21504} {u : Fin 21504} : u ∈ blk b hb ↔ b ≤ u.val ∧ u.val < b + 512 := by
  unfold blk
  rw [Finset.mem_map]
  constructor
  · rintro ⟨j, -, rfl⟩
    have := j.isLt
    show b ≤ b + j.val ∧ b + j.val < b + 512
    omega
  · rintro ⟨h1, h2⟩
    exact ⟨⟨u.val - b, by omega⟩, Finset.mem_univ _, Fin.ext (by show b + (u.val - b) = u.val; omega)⟩

theorem sum_blk (b : ℕ) (hb : b + 512 ≤ 21504) (f : Fin 21504 → EReal) :
    ∑ u ∈ blk b hb, f u = ∑ j : Fin 512, f (emb b hb j) := Finset.sum_map _ _ _

theorem sup_blk (b : ℕ) (hb : b + 512 ≤ 21504) (f : Fin 21504 → EReal) :
    (blk b hb).sup f = (Finset.univ : Finset (Fin 512)).sup fun j => f (emb b hb j) := Finset.sup_map _ _ _

/-- A head's three running values are those of the keys `S`: scores `y`, value scales `w`, values `v`. -/
def InvAt (M L : Vec Ideal S1x256 .f32) (A : Vec Ideal S1x128x256 .f32) (y w : Fin 256 → Fin 21504 → EReal)
    (v : Fin 128 → Fin 21504 → EReal) (S : Finset (Fin 21504)) : Prop :=
  ∀ r : Fin 256, M (ix2 0 r) = mx c0 (y r) S ∧ L (ix2 0 r) = ll c0 (y r) S
    ∧ ∀ d : Fin 128, A (ix3 0 d r) = aa c0 (y r) (w r) (v d) S

theorem stM0_apply (x : FVec Ideal S512x256 .f32) (M : Vec Ideal S1x256 .f32) (r : Fin 256) :
    stM0 x M (ix2 0 r) = max (M (ix2 0 r)) (Finset.univ.sup fun j : Fin 512 => x (ix2 j r)) := by
  pointwise [stM0]
  rw [ofBits_neg_inf]
  rfl

theorem stM_apply (x : FVec Ideal S512x256 .f32) (M : Vec Ideal S1x256 .f32) (r : Fin 256) :
    stM x M (ix2 0 r) = stM0 x M (ix2 0 r) := by
  pointwise [Step.stM, k0_pay14]

theorem stAl_apply (x : FVec Ideal S512x256 .f32) (M : Vec Ideal S1x256 .f32) (r : Fin 256) :
    stAl x M (ix2 0 r) = Ideal.exp2 (M (ix2 0 r) - stM0 x M (ix2 0 r)) := by
  pointwise [stAl]
  rfl

theorem stE_apply (x : FVec Ideal S512x256 .f32) (M : Vec Ideal S1x256 .f32) (j : Fin 512) (r : Fin 256) :
    stE x M (ix2 j r) = Ideal.exp2 (x (ix2 j r) - stM0 x M (ix2 0 r)) := by
  pointwise [stE]
  rfl

theorem stL_apply (x : FVec Ideal S512x256 .f32) (M L : Vec Ideal S1x256 .f32) (r : Fin 256) :
    stL x M L (ix2 0 r) = stAl x M (ix2 0 r) * L (ix2 0 r) + ∑ j : Fin 512, stE x M (ix2 j r) := by
  pointwise [stL, k0_pay13]

/-- The lane of a row of scales a query reads. -/
def ln (r : Fin 256) : Fin 128 := ⟨r.val % 128, Nat.mod_lt _ (by norm_num)⟩

theorem two_copies {α : Type} (f : Fin 128 → α) (r : Fin 256) :
    (if h : r.val < 128 then f ⟨r.val, h⟩ else f ⟨r.val - 128, by have := r.isLt; omega⟩) = f (ln r) := by
  have := r.isLt
  split
  · congr 1; apply Fin.ext; show r.val = r.val % 128; omega
  · congr 1; apply Fin.ext; show r.val - 128 = r.val % 128; omega

theorem stA_apply (x : FVec Ideal S512x256 .f32) (vt : Vec Ideal S1x128x512 .fp8e4m3) (vs : Vec Ideal S512x128 .f32)
    (M : Vec Ideal S1x256 .f32) (A : Vec Ideal S1x128x256 .f32) (d : Fin 128) (r : Fin 256) :
    stA x vt vs M A (ix3 0 d r) = A (ix3 0 d r) * stAl x M (ix2 0 r)
      + ∑ j : Fin 512, vt (ix3 0 d j) * (stE x M (ix2 j r) * vs (ix2 j (ln r))) := by
  pointwise [stA, k0_pay15, k0_pay5, k0_pay7]
  congr 1
  refine Finset.sum_congr rfl fun j _ => ?_
  congr 2
  exact two_copies (fun l => vs (ix2 j l)) r

/-- ONE BLOCK. -/
theorem step {M L : Vec Ideal S1x256 .f32} {A : Vec Ideal S1x128x256 .f32} {y w : Fin 256 → Fin 21504 → EReal}
    {v : Fin 128 → Fin 21504 → EReal} {S : Finset (Fin 21504)} (hI : InvAt M L A y w v S)
    (b : ℕ) (hb : b + 512 ≤ 21504) (hd : Disjoint S (blk b hb))
    (x : FVec Ideal S512x256 .f32) (vt : Vec Ideal S1x128x512 .fp8e4m3) (vs : Vec Ideal S512x128 .f32)
    (hx : ∀ j r, x (ix2 j r) = y r (emb b hb j)) (hvt : ∀ d j, vt (ix3 0 d j) = v d (emb b hb j))
    (hvs : ∀ j r, vs (ix2 j (ln r)) = w r (emb b hb j)) :
    InvAt (stM x M) (stL x M L) (stA x vt vs M A) y w v (S ∪ blk b hb) := by
  intro r
  obtain ⟨hM, hL, hA⟩ := hI r
  have hm : stM0 x M (ix2 0 r) = mx c0 (y r) (S ∪ blk b hb) := by
    rw [stM0_apply, mx_union, hM, sup_blk]
    congr 2
    funext j
    exact hx j r
  refine ⟨?_, ?_, fun d => ?_⟩
  · rw [stM_apply, hm]
  · rw [stL_apply, stAl_apply, hm, hM, hL, ← ll_union c0_real.1 (y r) hd, sum_blk]
    congr 1
    refine Finset.sum_congr rfl fun j _ => ?_
    rw [stE_apply, hm, hx]
  · rw [stA_apply, stAl_apply, hm, hM, hA, ← aa_union c0_real.1 (y r) (w r) (v d) hd, sum_blk]
    congr 1
    refine Finset.sum_congr rfl fun j _ => ?_
    rw [stE_apply, hm, hx, hvt, hvs]

/-- The output of a head, from its running values. -/
theorem out_apply (A : Vec Ideal S1x128x256 .f32) (L : Vec Ideal S1x256 .f32) (r : Fin 256) (d : Fin 128) :
    k0_pay3 A L (ix2 r d) = Ideal.div (A (ix3 0 d r)) (L (ix2 0 r)) := by
  pointwise [k0_pay3]

/-- `1 / log 2` as the kernel's constant. -/
def l2e : EReal := (((Real.log 2)⁻¹ : ℝ) : EReal)

theorem named_l2e : (Named.named (F := Ideal) (φ := .f32) κ "log2_e" 0x3FB8AA3B#32 : EReal) = l2e :=
  IdealRules.named_const.ideal_named_scalar _ _ _ _ rfl

/-- The scale of a score. -/
def smc : EReal := Ideal.ofBits .f32 0x3DB504F3#32

theorem x_apply (K : Vec Ideal S1x512x128 .fp8e4m3) (ks : Vec Ideal S512x128 .f32) (q : Vec Ideal S1x128x256 .fp8e4m3)
    (qs : Vec Ideal S1x1x256 .f32) (j : Fin 512) (r : Fin 256) :
    k0_pay8 K ks q qs (ix2 j r)
      = (∑ d : Fin 128, K (ix3 0 j d) * q (ix3 0 d r)) * (qs (ix3 0 0 r) * smc * l2e) * ks (ix2 j (ln r)) := by
  pointwise [k0_pay8, k0_pay6, k0_pay4]
  rw [named_l2e]
  congr 1
  exact two_copies (fun l => ks (ix2 j l)) r

theorem sle_iff (a b : ℕ) (ha : a < 2 ^ 31) (hb : b < 2 ^ 31) :
    (BitVec.ofNat 32 a).sle (BitVec.ofNat 32 b) = decide (a ≤ b) := by
  rw [BitVec.sle_eq_decide, BitVec.toInt_ofNat', BitVec.toInt_ofNat']
  congr 1
  simp only [eq_iff_iff]
  rw [Int.bmod_eq_of_le (by omega) (by omega), Int.bmod_eq_of_le (by omega) (by omega)]
  omega

theorem xm_apply (q0 k0 : ℕ) (hq : q0 < 2 ^ 30) (hk : k0 < 2 ^ 30) (K : Vec Ideal S1x512x128 .fp8e4m3)
    (ks : Vec Ideal S512x128 .f32) (q : Vec Ideal S1x128x256 .fp8e4m3)
    (qs : Vec Ideal S1x1x256 .f32) (j : Fin 512) (r : Fin 256) :
    k0_pay253 (BitVec.ofNat 32 q0) (BitVec.ofNat 32 k0) K ks q qs (ix2 j r)
      = if k0 + j.val ≤ q0 + r.val then
          (∑ d : Fin 128, K (ix3 0 j d) * q (ix3 0 d r)) * (qs (ix3 0 0 r) * smc * l2e) * ks (ix2 j (ln r))
        else ⊥ := by
  pointwise [k0_pay253, k0_pay251, k0_pay249]
  rw [named_l2e, ofBits_neg_inf, two_copies (fun l => ks (ix2 j l)) r]
  have hj := j.isLt
  have hr := r.isLt
  show Scalar.select (BitVec.ofBool ((BitVec.ofNat 32 k0 + BitVec.ofNat 32 j.val).sle (BitVec.ofNat 32 q0 + BitVec.ofNat 32 r.val))) _ _ = _
  rw [← BitVec.ofNat_add, ← BitVec.ofNat_add, sle_iff _ _ (by omega) (by omega)]
  by_cases h : k0 + j.val ≤ q0 + r.val
  · rw [if_pos h, decide_eq_true h]; rfl
  · rw [if_neg h, decide_eq_false h]; rfl

end Cert.KernelIdeal.Tile
-- ==== Proof.Run.lean ====
/- The body run once at a symbolic grid point, in its two cases: the first query tile of a key/value head, which also
   expands the two scale rows into their scratch buffers, and every other tile. The run records what is stored. -/
module

public import proofs.«01_k».proof.Proof.Gen.KernelIdeal.Frame
public import proofs.«01_k».proof.Proof.Gen.KernelIdeal.Loops

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
@[irreducible] def runFirst (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (hi : k0_cond1 i = 1#1) :
    Σ' (L9 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S21504x128 .f32)) (L10 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S21504x128 .f32)), { L8 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S256x896 .bf16) // ∀ (E : Set ℕ) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := F)) Variants.none c none) E (cc0_star_attention (F := F) i arg2 harg2 arg3 harg3 arg4 harg4 arg5 harg5 arg6 harg6 arg7 harg7 arg8 harg8 arg9 harg9 arg10 harg10 arg11 harg11 arg12 harg12 arg13 harg13)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} (arg8.view.writes (Elt F) f8 (L8 f8 f9 f10 f11 f12 f13))) ∗ (arg9.view.loc (c : Thread nD τ) ↦[arg9.view.set]{fullShare} (arg9.view.writes (Elt F) f9 (L9 f8 f9 f10 f11 f12 f13))) ∗ (arg10.view.loc (c : Thread nD τ) ↦[arg10.view.set]{fullShare} (arg10.view.writes (Elt F) f10 (L10 f8 f9 f10 f11 f12 f13))) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))) } := by
  refine ⟨?_, ?_, ?_, fun E f8 f9 f10 f11 f12 f13 => ?run⟩
  case run =>
    simp only [cc0_star_attention_eq_skeleton]; unfold cc0_star_attention_skel
    simp only [k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    iintro ⟨H2, H3, H4, H5, H6, H7, H8, H9, H10, H11, H12, H13⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    iexists _; iexact H13

set_option maxHeartbeats 8000000 in
@[irreducible] def runLater (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (hi : ¬ k0_cond1 i = 1#1) :
    { L8 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S256x896 .bf16) // ∀ (E : Set ℕ) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := F)) Variants.none c none) E (cc0_star_attention (F := F) i arg2 harg2 arg3 harg3 arg4 harg4 arg5 harg5 arg6 harg6 arg7 harg7 arg8 harg8 arg9 harg9 arg10 harg10 arg11 harg11 arg12 harg12 arg13 harg13)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} (arg8.view.writes (Elt F) f8 (L8 f8 f9 f10 f11 f12 f13))) ∗ (arg9.view.loc (c : Thread nD τ) ↦[arg9.view.set]{fullShare} f9) ∗ (arg10.view.loc (c : Thread nD τ) ↦[arg10.view.set]{fullShare} f10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))) } := by
  refine ⟨?_, fun E f8 f9 f10 f11 f12 f13 => ?run⟩
  case run =>
    simp only [cc0_star_attention_eq_skeleton]; unfold cc0_star_attention_skel
    simp only [k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    iintro ⟨H2, H3, H4, H5, H6, H7, H8, H9, H10, H11, H12, H13⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    iexists _; iexact H13

end Cert.KernelIdeal.Run

end
-- ==== Proof.Words.lean ====
/- The trip counts and block addresses of the kernel's loops, in closed form. -/
module

public import proofs.«01_k».proof.Proof.Run

@[expose] public section

set_option maxRecDepth 16384

noncomputable section

namespace Cert.KernelIdeal.Words

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.Run

/-- The query tile of a grid point. -/
abbrev qi (i : grid0.Coords) : ℕ := (i 1).val

/-- The first local key of a query tile: its chunk's start. -/
abbrev cs (j : ℕ) : ℕ := j / 24 * 6144

/-- The number of whole local blocks before the query tile. -/
abbrev nl (j : ℕ) : ℕ := j % 24 / 2

/-- The number of anchor blocks. -/
abbrev na (j : ℕ) : ℕ := if 24 ≤ j then 12 else 0

theorem qi_lt (i : grid0.Coords) : qi i < 84 := (i 1).isLt

theorem trips1 : Scf.trips k0_t1_loop.lb k0_t1_loop.ub k0_t1_loop.st = 168 := by decide +kernel
theorem trips2 : Scf.trips k0_t2_loop.lb k0_t2_loop.ub k0_t2_loop.st = 168 := by decide +kernel

theorem trips3 (i : grid0.Coords) : (k0_t3_loop i).trips = na (qi i) := by
  unfold k0_t3_loop
  try unfold qi
  generalize i 1 = j
  revert j
  decide +kernel

theorem trips4 (i : grid0.Coords) : (k0_t4_loop i).trips = 0 := by
  unfold k0_t4_loop
  try unfold qi
  generalize i 1 = j
  revert j
  decide +kernel

theorem trips5 (i : grid0.Coords) : (k0_t5_loop i).trips = nl (qi i) := by
  unfold k0_t5_loop
  try unfold qi
  generalize i 1 = j
  revert j
  decide +kernel

theorem trips6 (i : grid0.Coords) : (k0_t6_loop i).trips = 0 := by
  unfold k0_t6_loop
  try unfold qi
  generalize i 1 = j
  revert j
  decide +kernel

theorem off1 : ∀ k, k0_off1 k = ![0, k.val, 0] := by decide +kernel
theorem off2 : ∀ k, k0_off2 k = ![128 * k.val, 0] := by decide +kernel
theorem off3 : ∀ k, k0_off3 k = ![0, k.val, 0] := by decide +kernel
theorem off4 : ∀ k, k0_off4 k = ![128 * k.val, 0] := by decide +kernel
theorem off5 (i : grid0.Coords) (k : Fin (k0_t3_loop i).trips) : k0_off5 i k = ![0, 512 * k.val, 0] := by
  obtain ⟨k, hk⟩ := k
  have h : k < 12 := lt_of_lt_of_le (hk.trans_eq (trips3 i)) (by unfold na; split <;> omega)
  unfold k0_off5
  dsimp only
  obtain ⟨k', rfl⟩ : ∃ k' : Fin 12, k = k'.val := ⟨⟨k, h⟩, rfl⟩
  clear hk h
  revert k'
  decide +kernel

theorem off6 (i : grid0.Coords) (k : Fin (k0_t3_loop i).trips) : k0_off6 i k = ![0, 0, 512 * k.val] := by
  obtain ⟨k, hk⟩ := k
  have h : k < 12 := lt_of_lt_of_le (hk.trans_eq (trips3 i)) (by unfold na; split <;> omega)
  unfold k0_off6
  dsimp only
  obtain ⟨k', rfl⟩ : ∃ k' : Fin 12, k = k'.val := ⟨⟨k, h⟩, rfl⟩
  clear hk h
  revert k'
  decide +kernel

theorem off7 (i : grid0.Coords) (k : Fin (k0_t3_loop i).trips) : k0_off7 i k = ![512 * k.val, 0] := by
  obtain ⟨k, hk⟩ := k
  have h : k < 12 := lt_of_lt_of_le (hk.trans_eq (trips3 i)) (by unfold na; split <;> omega)
  unfold k0_off7
  dsimp only
  obtain ⟨k', rfl⟩ : ∃ k' : Fin 12, k = k'.val := ⟨⟨k, h⟩, rfl⟩
  clear hk h
  revert k'
  decide +kernel

theorem off11 (i : grid0.Coords) (k : Fin (k0_t5_loop i).trips) : k0_off11 i k = ![0, cs (qi i) + 512 * k.val, 0] := by
  obtain ⟨k, hk⟩ := k
  have h : k < 12 := lt_of_lt_of_le (hk.trans_eq (trips5 i)) (by have := qi_lt i; unfold nl; omega)
  unfold k0_off11
  dsimp only
  obtain ⟨k', rfl⟩ : ∃ k' : Fin 12, k = k'.val := ⟨⟨k, h⟩, rfl⟩
  clear hk h
  try unfold qi
  generalize i 1 = j
  revert j k'
  decide +kernel

theorem off12 (i : grid0.Coords) (k : Fin (k0_t5_loop i).trips) : k0_off12 i k = ![0, 0, cs (qi i) + 512 * k.val] := by
  obtain ⟨k, hk⟩ := k
  have h : k < 12 := lt_of_lt_of_le (hk.trans_eq (trips5 i)) (by have := qi_lt i; unfold nl; omega)
  unfold k0_off12
  dsimp only
  obtain ⟨k', rfl⟩ : ∃ k' : Fin 12, k = k'.val := ⟨⟨k, h⟩, rfl⟩
  clear hk h
  try unfold qi
  generalize i 1 = j
  revert j k'
  decide +kernel

theorem off13 (i : grid0.Coords) (k : Fin (k0_t5_loop i).trips) : k0_off13 i k = ![cs (qi i) + 512 * k.val, 0] := by
  obtain ⟨k, hk⟩ := k
  have h : k < 12 := lt_of_lt_of_le (hk.trans_eq (trips5 i)) (by have := qi_lt i; unfold nl; omega)
  unfold k0_off13
  dsimp only
  obtain ⟨k', rfl⟩ : ∃ k' : Fin 12, k = k'.val := ⟨⟨k, h⟩, rfl⟩
  clear hk h
  try unfold qi
  generalize i 1 = j
  revert j k'
  decide +kernel

theorem off17 (i : grid0.Coords) : k0_off17 i = ![0, cs (qi i) + 512 * nl (qi i), 0] := by
  unfold k0_off17
  try unfold qi
  generalize i 1 = j
  revert j
  decide +kernel

theorem off18 (i : grid0.Coords) : k0_off18 i = ![0, 0, cs (qi i) + 512 * nl (qi i)] := by
  unfold k0_off18
  try unfold qi
  generalize i 1 = j
  revert j
  decide +kernel

theorem off19 (i : grid0.Coords) : k0_off19 i = ![cs (qi i) + 512 * nl (qi i), 0] := by
  unfold k0_off19
  try unfold qi
  generalize i 1 = j
  revert j
  decide +kernel

theorem First_v3 (i : grid0.Coords) : runFirst.sl.v3 i = BitVec.ofNat 32 (256 * qi i) := by
  unfold runFirst.sl.v3 qi
  try unfold qi
  generalize i 1 = j
  revert j
  decide +kernel

theorem First_v65 (i : grid0.Coords) : runFirst.sl.v65 i = BitVec.ofNat 32 (cs (qi i) + 512 * nl (qi i)) := by
  have h : (runFirst.sl.v65 i).toNat = k0_off17 i 1 := rfl
  rw [off17] at h
  have h' : (runFirst.sl.v65 i).toNat = cs (qi i) + 512 * nl (qi i) := h
  rw [← h', BitVec.ofNat_toNat, BitVec.setWidth_eq]

theorem Later_v3 (i : grid0.Coords) : runLater.sl.v3 i = BitVec.ofNat 32 (256 * qi i) := by
  unfold runLater.sl.v3 qi
  try unfold qi
  generalize i 1 = j
  revert j
  decide +kernel

theorem Later_v65 (i : grid0.Coords) : runLater.sl.v65 i = BitVec.ofNat 32 (cs (qi i) + 512 * nl (qi i)) := by
  have h : (runLater.sl.v65 i).toNat = k0_off17 i 1 := rfl
  rw [off17] at h
  have h' : (runLater.sl.v65 i).toNat = cs (qi i) + 512 * nl (qi i) := h
  rw [← h', BitVec.ofNat_toNat, BitVec.setWidth_eq]

theorem first (i : grid0.Coords) : k0_cond1 i = 1#1 ↔ qi i = 0 := by
  unfold k0_cond1 qi
  generalize i 1 = j
  revert j
  decide +kernel

end Cert.KernelIdeal.Words
-- ==== Proof.Mid.lean ====
/- What the body stores in a head's columns of the output block, in terms of the running values after the two loops. -/
module

public import proofs.«01_k».proof.Proof.Run
public import proofs.«01_k».proof.Proof.Step

@[expose] public section

set_option maxRecDepth 16384

noncomputable section

namespace Cert.KernelIdeal.Mid

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.Step Cert.KernelIdeal.Run

attribute [local irreducible] pb_k0_t1 pb_k0_t2 pb_k0_t3 pb_k0_t4 pb_k0_t5 pb_k0_t6

/-- The pieces stored when the three running buffers are reset. -/
def z : List (View.Piece (Elt F) S7x128x256 .f32) × List (View.Piece (Elt F) S8x256 .f32) × List (View.Piece (Elt F) S8x256 .f32) :=
  ([⟨Rect.unit ![0, 0, 0] S7x128x256.size inb_S7x128x256_S7x128x256_0_0_0, k0_pay222⟩],
    [⟨Rect.unit ![0, 0] S8x256.size inb_S8x256_S8x256_0_0, k0_pay224⟩], [⟨Rect.unit ![0, 0] S8x256.size inb_S8x256_S8x256_0_0, k0_pay223⟩])
/-- The pieces after the first loop, -/
def l3 (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (v21 v23 v25 : BitVec 32) (v36 : BitVec 1) (v37 v58 v63 : BitVec 32) (X2 : BufTy.Contents (Elt F) arg2.view.ty) (X3 : BufTy.Contents (Elt F) arg3.view.ty) (X4 : BufTy.Contents (Elt F) arg4.view.ty) (X6 : BufTy.Contents (Elt F) arg6.view.ty) (X9 : BufTy.Contents (Elt F) arg9.view.ty) (X10 : BufTy.Contents (Elt F) arg10.view.ty) : List (View.Piece (Elt F) S7x128x256 .f32) × List (View.Piece (Elt F) S8x256 .f32) × List (View.Piece (Elt F) S8x256 .f32) := ((pb_k0_t3 (F := F) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 (arg11.view.writes (Elt F) arg11.view.junk (z (F := F)).1) (arg12.view.writes (Elt F) arg12.view.junk (z (F := F)).2.1) (arg13.view.writes (Elt F) arg13.view.junk (z (F := F)).2.2) (Scf.trips (k0_t3_loop i).lb (k0_t3_loop i).ub (k0_t3_loop i).st)).1 ++ (z (F := F)).1, (pb_k0_t3 (F := F) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 (arg11.view.writes (Elt F) arg11.view.junk (z (F := F)).1) (arg12.view.writes (Elt F) arg12.view.junk (z (F := F)).2.1) (arg13.view.writes (Elt F) arg13.view.junk (z (F := F)).2.2) (Scf.trips (k0_t3_loop i).lb (k0_t3_loop i).ub (k0_t3_loop i).st)).2.1 ++ (z (F := F)).2.1, (pb_k0_t3 (F := F) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 (arg11.view.writes (Elt F) arg11.view.junk (z (F := F)).1) (arg12.view.writes (Elt F) arg12.view.junk (z (F := F)).2.1) (arg13.view.writes (Elt F) arg13.view.junk (z (F := F)).2.2) (Scf.trips (k0_t3_loop i).lb (k0_t3_loop i).ub (k0_t3_loop i).st)).2.2 ++ (z (F := F)).2.2)
/-- after its remainder, -/
def l4 (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (v21 v23 v25 : BitVec 32) (v36 : BitVec 1) (v37 v58 v63 : BitVec 32) (X2 : BufTy.Contents (Elt F) arg2.view.ty) (X3 : BufTy.Contents (Elt F) arg3.view.ty) (X4 : BufTy.Contents (Elt F) arg4.view.ty) (X6 : BufTy.Contents (Elt F) arg6.view.ty) (X9 : BufTy.Contents (Elt F) arg9.view.ty) (X10 : BufTy.Contents (Elt F) arg10.view.ty) : List (View.Piece (Elt F) S7x128x256 .f32) × List (View.Piece (Elt F) S8x256 .f32) × List (View.Piece (Elt F) S8x256 .f32) := ((pb_k0_t4 (F := F) Variants.none c none i arg2 harg2 arg3 harg3 arg4 harg4 arg5 harg5 arg6 harg6 arg7 harg7 arg8 harg8 arg9 harg9 arg10 harg10 arg11 harg11 arg12 harg12 arg13 harg13 v21 v23 v25 v36 v37 v58 X2 X3 X4 X6 X9 X10 (arg11.view.writes (Elt F) arg11.view.junk (l3 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).1) (arg12.view.writes (Elt F) arg12.view.junk (l3 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.1) (arg13.view.writes (Elt F) arg13.view.junk (l3 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.2) (Scf.trips (k0_t4_loop i).lb (k0_t4_loop i).ub (k0_t4_loop i).st)).1 ++ (l3 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).1, (pb_k0_t4 (F := F) Variants.none c none i arg2 harg2 arg3 harg3 arg4 harg4 arg5 harg5 arg6 harg6 arg7 harg7 arg8 harg8 arg9 harg9 arg10 harg10 arg11 harg11 arg12 harg12 arg13 harg13 v21 v23 v25 v36 v37 v58 X2 X3 X4 X6 X9 X10 (arg11.view.writes (Elt F) arg11.view.junk (l3 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).1) (arg12.view.writes (Elt F) arg12.view.junk (l3 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.1) (arg13.view.writes (Elt F) arg13.view.junk (l3 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.2) (Scf.trips (k0_t4_loop i).lb (k0_t4_loop i).ub (k0_t4_loop i).st)).2.1 ++ (l3 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.1, (pb_k0_t4 (F := F) Variants.none c none i arg2 harg2 arg3 harg3 arg4 harg4 arg5 harg5 arg6 harg6 arg7 harg7 arg8 harg8 arg9 harg9 arg10 harg10 arg11 harg11 arg12 harg12 arg13 harg13 v21 v23 v25 v36 v37 v58 X2 X3 X4 X6 X9 X10 (arg11.view.writes (Elt F) arg11.view.junk (l3 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).1) (arg12.view.writes (Elt F) arg12.view.junk (l3 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.1) (arg13.view.writes (Elt F) arg13.view.junk (l3 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.2) (Scf.trips (k0_t4_loop i).lb (k0_t4_loop i).ub (k0_t4_loop i).st)).2.2 ++ (l3 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.2)
/-- after the second loop, -/
def l5 (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (v21 v23 v25 : BitVec 32) (v36 : BitVec 1) (v37 v58 v63 : BitVec 32) (X2 : BufTy.Contents (Elt F) arg2.view.ty) (X3 : BufTy.Contents (Elt F) arg3.view.ty) (X4 : BufTy.Contents (Elt F) arg4.view.ty) (X6 : BufTy.Contents (Elt F) arg6.view.ty) (X9 : BufTy.Contents (Elt F) arg9.view.ty) (X10 : BufTy.Contents (Elt F) arg10.view.ty) : List (View.Piece (Elt F) S7x128x256 .f32) × List (View.Piece (Elt F) S8x256 .f32) × List (View.Piece (Elt F) S8x256 .f32) := ((pb_k0_t5 (F := F) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 (arg11.view.writes (Elt F) arg11.view.junk (l4 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).1) (arg12.view.writes (Elt F) arg12.view.junk (l4 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.1) (arg13.view.writes (Elt F) arg13.view.junk (l4 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.2) (Scf.trips (k0_t5_loop i).lb (k0_t5_loop i).ub (k0_t5_loop i).st)).1 ++ (l4 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).1, (pb_k0_t5 (F := F) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 (arg11.view.writes (Elt F) arg11.view.junk (l4 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).1) (arg12.view.writes (Elt F) arg12.view.junk (l4 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.1) (arg13.view.writes (Elt F) arg13.view.junk (l4 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.2) (Scf.trips (k0_t5_loop i).lb (k0_t5_loop i).ub (k0_t5_loop i).st)).2.1 ++ (l4 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.1, (pb_k0_t5 (F := F) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 (arg11.view.writes (Elt F) arg11.view.junk (l4 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).1) (arg12.view.writes (Elt F) arg12.view.junk (l4 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.1) (arg13.view.writes (Elt F) arg13.view.junk (l4 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.2) (Scf.trips (k0_t5_loop i).lb (k0_t5_loop i).ub (k0_t5_loop i).st)).2.2 ++ (l4 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.2)
/-- after its remainder. -/
def l6 (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (v21 v23 v25 : BitVec 32) (v36 : BitVec 1) (v37 v58 v63 : BitVec 32) (X2 : BufTy.Contents (Elt F) arg2.view.ty) (X3 : BufTy.Contents (Elt F) arg3.view.ty) (X4 : BufTy.Contents (Elt F) arg4.view.ty) (X6 : BufTy.Contents (Elt F) arg6.view.ty) (X9 : BufTy.Contents (Elt F) arg9.view.ty) (X10 : BufTy.Contents (Elt F) arg10.view.ty) : List (View.Piece (Elt F) S7x128x256 .f32) × List (View.Piece (Elt F) S8x256 .f32) × List (View.Piece (Elt F) S8x256 .f32) := ((pb_k0_t6 (F := F) Variants.none c none i arg2 harg2 arg3 harg3 arg4 harg4 arg5 harg5 arg6 harg6 arg7 harg7 arg8 harg8 arg9 harg9 arg10 harg10 arg11 harg11 arg12 harg12 arg13 harg13 v21 v23 v25 v36 v37 v63 X2 X3 X4 X6 X9 X10 (arg11.view.writes (Elt F) arg11.view.junk (l5 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).1) (arg12.view.writes (Elt F) arg12.view.junk (l5 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.1) (arg13.view.writes (Elt F) arg13.view.junk (l5 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.2) (Scf.trips (k0_t6_loop i).lb (k0_t6_loop i).ub (k0_t6_loop i).st)).1 ++ (l5 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).1, (pb_k0_t6 (F := F) Variants.none c none i arg2 harg2 arg3 harg3 arg4 harg4 arg5 harg5 arg6 harg6 arg7 harg7 arg8 harg8 arg9 harg9 arg10 harg10 arg11 harg11 arg12 harg12 arg13 harg13 v21 v23 v25 v36 v37 v63 X2 X3 X4 X6 X9 X10 (arg11.view.writes (Elt F) arg11.view.junk (l5 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).1) (arg12.view.writes (Elt F) arg12.view.junk (l5 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.1) (arg13.view.writes (Elt F) arg13.view.junk (l5 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.2) (Scf.trips (k0_t6_loop i).lb (k0_t6_loop i).ub (k0_t6_loop i).st)).2.1 ++ (l5 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.1, (pb_k0_t6 (F := F) Variants.none c none i arg2 harg2 arg3 harg3 arg4 harg4 arg5 harg5 arg6 harg6 arg7 harg7 arg8 harg8 arg9 harg9 arg10 harg10 arg11 harg11 arg12 harg12 arg13 harg13 v21 v23 v25 v36 v37 v63 X2 X3 X4 X6 X9 X10 (arg11.view.writes (Elt F) arg11.view.junk (l5 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).1) (arg12.view.writes (Elt F) arg12.view.junk (l5 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.1) (arg13.view.writes (Elt F) arg13.view.junk (l5 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.2) (Scf.trips (k0_t6_loop i).lb (k0_t6_loop i).ub (k0_t6_loop i).st)).2.2 ++ (l5 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.2)

/-- The scores of head `h` in the masked block. -/
abbrev xm (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (v3 v65 : BitVec 32) (X2 : BufTy.Contents (Elt F) arg2.view.ty) (X3 : BufTy.Contents (Elt F) arg3.view.ty) (X4 : BufTy.Contents (Elt F) arg4.view.ty) (X6 : BufTy.Contents (Elt F) arg6.view.ty) (X9 : BufTy.Contents (Elt F) arg9.view.ty) (X10 : BufTy.Contents (Elt F) arg10.view.ty) (h : Fin 7) : FVec F S512x256 .f32 :=
  k0_pay253 v3 v65 (arg4.view.readAt (Elt F) (Rect.unit (s := S1x21504x128) (k0_off17 i) S1x512x128.size (k0_off17_inb i)).toLoadRect X4)
    (arg9.view.readAt (Elt F) (Rect.unit (s := S21504x128) (k0_off19 i) S512x128.size (k0_off19_inb i)).toLoadRect X9)
    (rowQ arg2 h X2) (rowS arg3 h X3)

/-- A load disjoint, on the second axis, from the newest piece does not see it. -/
theorem miss1 {sig : RefSig} {κ : Kind} {sp : Space} {n : ℕ} {d : Fin (n + 2) → ℕ} {e : EltTy} {Val : EltTy → Type}
    (v : View sig κ sp ⟨n + 2, d⟩ e)
    (f : v.ty.Contents Val) {off size off' size' : Fin (n + 2) → ℕ} (inb : ∀ a, off a + size a ≤ d a)
    (inb' : ∀ a, off' a + size' a ≤ d a)
    (w : (Rect.unit (s := ⟨n + 2, d⟩) off size inb).shape.Idx → Val e) (L : List (View.Piece Val ⟨n + 2, d⟩ e))
    (h : off' 1 + size' 1 ≤ off 1 ∨ off 1 + size 1 ≤ off' 1) :
    v.readAt Val (Rect.unit (s := ⟨n + 2, d⟩) off' size' inb').toLoadRect
        (v.writes Val f (⟨Rect.unit (s := ⟨n + 2, d⟩) off size inb, w⟩ :: L))
      = v.readAt Val (Rect.unit (s := ⟨n + 2, d⟩) off' size' inb').toLoadRect (v.writes Val f L) := by
  funext x
  refine View.read_writes_cons_unit_of_not_mem v f inb w L _ rfl 1 ?_
  have hx : (x 1).val < size' 1 := (x 1).isLt
  show off' 1 + 1 * (x 1).val < off 1 ∨ off 1 + size 1 ≤ off' 1 + 1 * (x 1).val
  omega

theorem inbO (h : Fin 7) : ∀ a, (![0, 128 * h.val] : Fin 2 → ℕ) a + S256x128.size a ≤ S256x896.size a := by
  intro a; have := h.isLt
  match a with
  | ⟨0, _⟩ => show 0 + 256 ≤ 256; omega
  | ⟨1, _⟩ => show 128 * h.val + 128 ≤ 896; omega
/-- The columns of the output block that hold head `h`. -/
abbrev colO (m : Memref sig .tc .vmem S256x896 .bf16) (h : Fin 7) (f : BufTy.Contents (Elt F) m.view.ty) : Vec F S256x128 .bf16 :=
  m.view.readAt (Elt F) (Rect.unit (s := S256x896) ![0, 128 * h.val] S256x128.size (inbO h)).toLoadRect f

end Cert.KernelIdeal.Mid
-- ==== Proof.Fold.lean ====
/- The loops of the kernel at the extended reals: what the three running buffers hold after them. -/
module

public import proofs.«01_k».proof.Proof.Tile
public import proofs.«01_k».proof.Proof.Words
public import proofs.«01_k».proof.Proof.Mid

@[expose] public section

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.KernelIdeal.Step Cert.KernelIdeal.Run Cert.KernelIdeal.Words Cert.KernelIdeal.Tile Cert.KernelIdeal.Mid
open Cert.Softmax Idealize.ShloMosaic.Pointwise

/-- A load of a block reads the buffer at the block's address. -/
theorem ld {sig : RefSig} {κ : Kind} {sp : Space} {s : Shape} {e : EltTy} {Val : EltTy → Type}
    (v : View sig κ sp s e) (f : v.ty.Contents Val) {off size : Fin s.rank → ℕ} (inb : ∀ a, off a + size a ≤ s.size a)
    (x : (⟨s.rank, size⟩ : Shape).Idx) (y : s.Idx) (h : ∀ a, (y a).val = off a + (x a).val) :
    v.readAt Val (Rect.unit (s := s) off size inb).toLoadRect f x = v.read Val f y := by
  rw [View.readAt_apply]
  congr 1
  funext a
  apply Fin.ext
  rw [LoadRect.idx_apply, h a]
  show off a + 1 * (x a).val = _
  omega

/-- The keys a query attends to: the first chunk, and its own chunk up to itself. -/
def seen (t : ℕ) (u : Fin 21504) : Prop := u.val ≤ t ∧ (u.val < 6144 ∨ t / 6144 * 6144 ≤ u.val)

/-- A row of a head of the queries. -/
def qd (h : Fin 7) (d : Fin 128) : Fin 896 := ⟨128 * h.val + d.val, by have := h.isLt; have := d.isLt; omega⟩

/-- The score of head `h`, query `r` of the tile, key `u`. -/
def sc (q : Vec Ideal S1x896x256 .fp8e4m3) (qs : Vec Ideal S1x7x256 .f32) (k : Vec Ideal S1x21504x128 .fp8e4m3)
    (ks : Vec Ideal S21504x128 .f32) (h : Fin 7) (r : Fin 256) (u : Fin 21504) : EReal :=
  (∑ d : Fin 128, k (ix3 0 u d) * q (ix3 0 (qd h d) r)) * (qs (ix3 0 h r) * smc * l2e) * ks (ix2 u (ln r))

open Classical in
/-- The scores with the unseen keys masked. -/
def ym (q : Vec Ideal S1x896x256 .fp8e4m3) (qs : Vec Ideal S1x7x256 .f32) (k : Vec Ideal S1x21504x128 .fp8e4m3)
    (ks : Vec Ideal S21504x128 .f32) (j : ℕ) (h : Fin 7) (r : Fin 256) (u : Fin 21504) : EReal :=
  if seen (256 * j + r.val) u then sc q qs k ks h r u else ⊥

section Body

variable (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (v21 v23 v25 : BitVec 32) (v36 : BitVec 1) (v37 : BitVec 32) (X2 : BufTy.Contents (Elt Ideal) arg2.view.ty) (X3 : BufTy.Contents (Elt Ideal) arg3.view.ty) (X4 : BufTy.Contents (Elt Ideal) arg4.view.ty) (X6 : BufTy.Contents (Elt Ideal) arg6.view.ty) (X9 : BufTy.Contents (Elt Ideal) arg9.view.ty) (X10 : BufTy.Contents (Elt Ideal) arg10.view.ty)

/-- The masked scores of the grid point, -/
def yy (h : Fin 7) : Fin 256 → Fin 21504 → EReal :=
  ym (arg2.view.read (Elt Ideal) X2) (arg3.view.read (Elt Ideal) X3) (arg4.view.read (Elt Ideal) X4) (arg9.view.read (Elt Ideal) X9) (qi i) h

/-- the value scales, -/
def ww (r : Fin 256) (u : Fin 21504) : EReal := arg10.view.read (Elt Ideal) X10 (ix2 u (ln r))

/-- and the values. -/
def vv (d : Fin 128) (u : Fin 21504) : EReal := arg6.view.read (Elt Ideal) X6 (ix3 0 d u)

/-- All seven heads hold the running values of the keys `S`. -/
def Rows (f11 : BufTy.Contents (Elt Ideal) arg11.view.ty) (f12 : BufTy.Contents (Elt Ideal) arg12.view.ty) (f13 : BufTy.Contents (Elt Ideal) arg13.view.ty)
    (S : Finset (Fin 21504)) : Prop :=
  ∀ h, InvAt (rowM arg12 h f12) (rowM arg13 h f13) (rowA arg11 h f11) (yy i arg2 arg3 arg4 arg9 X2 X3 X4 X9 h) (ww arg10 X10) (vv arg6 X6) S

theorem row_q (h : Fin 7) (d : Fin 128) (r : Fin 256) :
    rowQ arg2 h X2 (ix3 0 d r) = arg2.view.read (Elt Ideal) X2 (ix3 0 (qd h d) r) := by
  refine ld arg2.view X2 _ _ _ fun a => ?_
  match a with
  | ⟨0, _⟩ => rfl
  | ⟨1, _⟩ => rfl
  | ⟨2, _⟩ => show r.val = 0 + r.val; omega

theorem row_s (h : Fin 7) (r : Fin 256) :
    rowS arg3 h X3 (ix3 0 0 r) = arg3.view.read (Elt Ideal) X3 (ix3 0 h r) := by
  refine ld arg3.view X3 _ _ _ fun a => ?_
  match a with
  | ⟨0, _⟩ => rfl
  | ⟨1, _⟩ => rfl
  | ⟨2, _⟩ => show r.val = 0 + r.val; omega

/-- Loads of the block at key `b`. -/
theorem blk_k {off : Fin 3 → ℕ} (inb : ∀ a, off a + S1x512x128.size a ≤ S1x21504x128.size a) (b : ℕ) (hb : b + 512 ≤ 21504)
    (ho : off = ![0, b, 0]) (j : Fin 512) (d : Fin 128) :
    arg4.view.readAt (Elt Ideal) (Rect.unit (s := S1x21504x128) off S1x512x128.size inb).toLoadRect X4 (ix3 0 j d)
      = arg4.view.read (Elt Ideal) X4 (ix3 0 (emb b hb j) d) := by
  subst ho
  refine ld arg4.view X4 _ _ _ fun a => ?_
  match a with
  | ⟨0, _⟩ => rfl
  | ⟨1, _⟩ => rfl
  | ⟨2, _⟩ => show d.val = 0 + d.val; omega

theorem blk_v {off : Fin 3 → ℕ} (inb : ∀ a, off a + S1x128x512.size a ≤ S1x128x21504.size a) (b : ℕ) (hb : b + 512 ≤ 21504)
    (ho : off = ![0, 0, b]) (d : Fin 128) (j : Fin 512) :
    arg6.view.readAt (Elt Ideal) (Rect.unit (s := S1x128x21504) off S1x128x512.size inb).toLoadRect X6 (ix3 0 d j)
      = vv arg6 X6 d (emb b hb j) := by
  subst ho
  refine ld arg6.view X6 _ _ _ fun a => ?_
  match a with
  | ⟨0, _⟩ => rfl
  | ⟨1, _⟩ => show d.val = 0 + d.val; omega
  | ⟨2, _⟩ => rfl

theorem blk_s9 {off : Fin 2 → ℕ} (inb : ∀ a, off a + S512x128.size a ≤ S21504x128.size a) (b : ℕ) (hb : b + 512 ≤ 21504)
    (ho : off = ![b, 0]) (j : Fin 512) (l : Fin 128) :
    arg9.view.readAt (Elt Ideal) (Rect.unit (s := S21504x128) off S512x128.size inb).toLoadRect X9 (ix2 j l)
      = arg9.view.read (Elt Ideal) X9 (ix2 (emb b hb j) l) := by
  subst ho
  refine ld arg9.view X9 _ _ _ fun a => ?_
  match a with
  | ⟨0, _⟩ => rfl
  | ⟨1, _⟩ => show l.val = 0 + l.val; omega

theorem blk_s10 {off : Fin 2 → ℕ} (inb : ∀ a, off a + S512x128.size a ≤ S21504x128.size a) (b : ℕ) (hb : b + 512 ≤ 21504)
    (ho : off = ![b, 0]) (j : Fin 512) (l : Fin 128) :
    arg10.view.readAt (Elt Ideal) (Rect.unit (s := S21504x128) off S512x128.size inb).toLoadRect X10 (ix2 j l)
      = arg10.view.read (Elt Ideal) X10 (ix2 (emb b hb j) l) := by
  subst ho
  refine ld arg10.view X10 _ _ _ fun a => ?_
  match a with
  | ⟨0, _⟩ => rfl
  | ⟨1, _⟩ => show l.val = 0 + l.val; omega

/-- The keys of `n` blocks from key `a` on. -/
def seg (a n : ℕ) : Finset (Fin 21504) := Finset.univ.filter fun u => a ≤ u.val ∧ u.val < a + 512 * n

theorem seg_zero (a : ℕ) : seg a 0 = ∅ := by
  ext u; simp [seg]

theorem seg_succ (S : Finset (Fin 21504)) (a n : ℕ) (hb : a + 512 * n + 512 ≤ 21504) : S ∪ seg a (n + 1) = (S ∪ seg a n) ∪ blk (a + 512 * n) hb := by
  ext u
  simp only [Finset.mem_union, mem_blk, seg, Finset.mem_filter, Finset.mem_univ, true_and]
  constructor
  · rintro (h | h)
    · exact Or.inl (Or.inl h)
    · by_cases h2 : u.val < a + 512 * n
      · exact Or.inl (Or.inr ⟨h.1, h2⟩)
      · exact Or.inr (by omega)
  · rintro ((h | h) | h)
    · exact Or.inl h
    · exact Or.inr (by omega)
    · exact Or.inr (by omega)

theorem seg_disj {S : Finset (Fin 21504)} {a N n : ℕ} (hn : n < N) (hb : a + 512 * n + 512 ≤ 21504) (hS : Disjoint S (seg a N)) :
    Disjoint (S ∪ seg a n) (blk (a + 512 * n) hb) := by
  rw [Finset.disjoint_left] at hS ⊢
  intro u hu hv
  rw [mem_blk] at hv
  simp only [Finset.mem_union, seg, Finset.mem_filter, Finset.mem_univ, true_and] at hu hS
  rcases hu with h | h
  · exact hS h ⟨by omega, by omega⟩
  · omega

theorem hb3 (k : Fin (k0_t3_loop i).trips) : 0 + 512 * k.val + 512 ≤ 21504 := by
  have hk := k.isLt.trans_eq (trips3 i)
  have := qi_lt i
  unfold na at hk; split at hk <;> omega

/-- The scores of a block of the loop. -/
theorem x3_eq (k : Fin (k0_t3_loop i).trips) (h : Fin 7) (j : Fin 512) (r : Fin 256) :
    x3 i arg2 harg2 arg3 harg3 arg4 harg4 arg5 harg5 arg6 harg6 arg7 harg7 arg8 harg8 arg9 harg9 arg10 harg10 arg11 harg11 arg12 harg12 arg13 harg13 X2 X3 X4 X6 X9 X10 k h (ix2 j r) = yy i arg2 arg3 arg4 arg9 X2 X3 X4 X9 h r (emb (0 + 512 * k.val) (hb3 i k) j) := by
  have hk := k.isLt.trans_eq (trips3 i)
  have hq := qi_lt i
  have hj := j.isLt
  have hr := r.isLt
  have hs : seen (256 * qi i + r.val) (emb (0 + 512 * k.val) (hb3 i k) j) := by
    have h24 : 24 ≤ qi i ∧ k.val < 12 := by
      unfold na at hk; split at hk
      · exact ⟨by assumption, hk⟩
      · omega
    refine ⟨?_, Or.inl ?_⟩
    · show 0 + 512 * k.val + j.val ≤ 256 * qi i + r.val
      omega
    · show 0 + 512 * k.val + j.val < 6144
      omega
  unfold x3
  rw [x_apply, blk_s9 arg9 X9 (k0_off7_inb i k) _ (hb3 i k) ((off7 i k).trans (by rw [Nat.zero_add])), row_s]
  simp only [blk_k arg4 X4 (k0_off5_inb i k) _ (hb3 i k) ((off5 i k).trans (by rw [Nat.zero_add])), row_q]
  unfold yy ym
  rw [if_pos hs]
  rfl

theorem fold3 (G11 : BufTy.Contents (Elt Ideal) arg11.view.ty) (G12 : BufTy.Contents (Elt Ideal) arg12.view.ty) (G13 : BufTy.Contents (Elt Ideal) arg13.view.ty) (S : Finset (Fin 21504)) (hS : Disjoint S (seg (0) (na (qi i)))) (h0 : Rows i arg2 arg3 arg4 arg6 arg9 arg10 arg11 arg12 arg13 X2 X3 X4 X6 X9 X10 G11 G12 G13 S) :
    ∀ n, n ≤ na (qi i) → Rows i arg2 arg3 arg4 arg6 arg9 arg10 arg11 arg12 arg13 X2 X3 X4 X6 X9 X10 (arg11.view.writes (Elt Ideal) G11 (pb_k0_t3 (F := Ideal) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 G11 G12 G13 n).1) (arg12.view.writes (Elt Ideal) G12 (pb_k0_t3 (F := Ideal) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 G11 G12 G13 n).2.1) (arg13.view.writes (Elt Ideal) G13 (pb_k0_t3 (F := Ideal) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 G11 G12 G13 n).2.2) (S ∪ seg (0) n) := by
  intro n
  induction n with
  | zero =>
    intro _
    rw [seg_zero, Finset.union_empty]
    exact h0
  | succ n ih =>
    intro hn
    have hI := ih (by omega)
    obtain ⟨k, rfl⟩ : ∃ k : Fin (k0_t3_loop i).trips, n = k.val := ⟨⟨n, by rw [trips3]; omega⟩, rfl⟩
    rw [pb_k0_t3_succ, seg_succ _ _ _ (hb3 i k)]
    dsimp only
    rw [View.writes_append, View.writes_append, View.writes_append]
    intro h
    obtain ⟨e1, e2, e3⟩ := trip3_row (F := Ideal) c i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 k (arg11.view.writes (Elt Ideal) G11 (pb_k0_t3 (F := Ideal) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 G11 G12 G13 k.val).1) (arg12.view.writes (Elt Ideal) G12 (pb_k0_t3 (F := Ideal) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 G11 G12 G13 k.val).2.1) (arg13.view.writes (Elt Ideal) G13 (pb_k0_t3 (F := Ideal) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 G11 G12 G13 k.val).2.2) h
    rw [e1, e2, e3]
    exact Tile.step (hI h) _ (hb3 i k) (seg_disj (by omega) _ hS) _ _ _
      (fun j r => x3_eq i arg2 harg2 arg3 harg3 arg4 harg4 arg5 harg5 arg6 harg6 arg7 harg7 arg8 harg8 arg9 harg9 arg10 harg10 arg11 harg11 arg12 harg12 arg13 harg13 X2 X3 X4 X6 X9 X10 k h j r)
      (fun d j => blk_v arg6 X6 (k0_off6_inb i k) _ (hb3 i k) ((off6 i k).trans (by rw [Nat.zero_add])) d j)
      (fun j r => blk_s10 arg10 X10 (k0_off7_inb i k) _ (hb3 i k) ((off7 i k).trans (by rw [Nat.zero_add])) j (ln r))

theorem hb5 (k : Fin (k0_t5_loop i).trips) : cs (qi i) + 512 * k.val + 512 ≤ 21504 := by
  have hk := k.isLt.trans_eq (trips5 i)
  have := qi_lt i
  unfold nl at hk; unfold cs; omega

/-- The scores of a block of the loop. -/
theorem x5_eq (k : Fin (k0_t5_loop i).trips) (h : Fin 7) (j : Fin 512) (r : Fin 256) :
    x5 i arg2 harg2 arg3 harg3 arg4 harg4 arg5 harg5 arg6 harg6 arg7 harg7 arg8 harg8 arg9 harg9 arg10 harg10 arg11 harg11 arg12 harg12 arg13 harg13 X2 X3 X4 X6 X9 X10 k h (ix2 j r) = yy i arg2 arg3 arg4 arg9 X2 X3 X4 X9 h r (emb (cs (qi i) + 512 * k.val) (hb5 i k) j) := by
  have hk := k.isLt.trans_eq (trips5 i)
  have hq := qi_lt i
  have hj := j.isLt
  have hr := r.isLt
  have hs : seen (256 * qi i + r.val) (emb (cs (qi i) + 512 * k.val) (hb5 i k) j) := by
    refine ⟨?_, Or.inr ?_⟩
    · show cs (qi i) + 512 * k.val + j.val ≤ 256 * qi i + r.val
      unfold nl at hk; unfold cs; omega
    · show (256 * qi i + r.val) / 6144 * 6144 ≤ cs (qi i) + 512 * k.val + j.val
      unfold cs; omega
  unfold x5
  rw [x_apply, blk_s9 arg9 X9 (k0_off13_inb i k) _ (hb5 i k) (off13 i k), row_s]
  simp only [blk_k arg4 X4 (k0_off11_inb i k) _ (hb5 i k) (off11 i k), row_q]
  unfold yy ym
  rw [if_pos hs]
  rfl

theorem fold5 (G11 : BufTy.Contents (Elt Ideal) arg11.view.ty) (G12 : BufTy.Contents (Elt Ideal) arg12.view.ty) (G13 : BufTy.Contents (Elt Ideal) arg13.view.ty) (S : Finset (Fin 21504)) (hS : Disjoint S (seg (cs (qi i)) (nl (qi i)))) (h0 : Rows i arg2 arg3 arg4 arg6 arg9 arg10 arg11 arg12 arg13 X2 X3 X4 X6 X9 X10 G11 G12 G13 S) :
    ∀ n, n ≤ nl (qi i) → Rows i arg2 arg3 arg4 arg6 arg9 arg10 arg11 arg12 arg13 X2 X3 X4 X6 X9 X10 (arg11.view.writes (Elt Ideal) G11 (pb_k0_t5 (F := Ideal) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 G11 G12 G13 n).1) (arg12.view.writes (Elt Ideal) G12 (pb_k0_t5 (F := Ideal) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 G11 G12 G13 n).2.1) (arg13.view.writes (Elt Ideal) G13 (pb_k0_t5 (F := Ideal) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 G11 G12 G13 n).2.2) (S ∪ seg (cs (qi i)) n) := by
  intro n
  induction n with
  | zero =>
    intro _
    rw [seg_zero, Finset.union_empty]
    exact h0
  | succ n ih =>
    intro hn
    have hI := ih (by omega)
    obtain ⟨k, rfl⟩ : ∃ k : Fin (k0_t5_loop i).trips, n = k.val := ⟨⟨n, by rw [trips5]; omega⟩, rfl⟩
    rw [pb_k0_t5_succ, seg_succ _ _ _ (hb5 i k)]
    dsimp only
    rw [View.writes_append, View.writes_append, View.writes_append]
    intro h
    obtain ⟨e1, e2, e3⟩ := trip5_row (F := Ideal) c i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 k (arg11.view.writes (Elt Ideal) G11 (pb_k0_t5 (F := Ideal) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 G11 G12 G13 k.val).1) (arg12.view.writes (Elt Ideal) G12 (pb_k0_t5 (F := Ideal) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 G11 G12 G13 k.val).2.1) (arg13.view.writes (Elt Ideal) G13 (pb_k0_t5 (F := Ideal) Variants.none c none i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 G11 G12 G13 k.val).2.2) h
    rw [e1, e2, e3]
    exact Tile.step (hI h) _ (hb5 i k) (seg_disj (by omega) _ hS) _ _ _
      (fun j r => x5_eq i arg2 harg2 arg3 harg3 arg4 harg4 arg5 harg5 arg6 harg6 arg7 harg7 arg8 harg8 arg9 harg9 arg10 harg10 arg11 harg11 arg12 harg12 arg13 harg13 X2 X3 X4 X6 X9 X10 k h j r)
      (fun d j => blk_v arg6 X6 (k0_off12_inb i k) _ (hb5 i k) (off12 i k) d j)
      (fun j r => blk_s10 arg10 X10 (k0_off13_inb i k) _ (hb5 i k) (off13 i k) j (ln r))

end Body

end Cert.KernelIdeal.Fold
-- ==== Proof.Block.lean ====
/- The whole of a grid point at the extended reals: what a query tile's output block holds. -/
module

public import proofs.«01_k».proof.Proof.Fold

@[expose] public section

set_option maxRecDepth 16384

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.KernelIdeal.Step Cert.KernelIdeal.Run Cert.KernelIdeal.Words Cert.KernelIdeal.Tile Cert.KernelIdeal.Mid Cert.KernelIdeal.Fold
open Cert.Softmax Idealize.ShloMosaic.Pointwise

open Classical in
/-- The score of the mathematics: the scaled product where the key is seen, minus infinity elsewhere. -/
def xr (q : Vec Ideal S1x896x256 .fp8e4m3) (qs : Vec Ideal S1x7x256 .f32) (k : Vec Ideal S1x21504x128 .fp8e4m3)
    (ks : Vec Ideal S21504x128 .f32) (j : ℕ) (h : Fin 7) (r : Fin 256) (u : Fin 21504) : EReal :=
  if seen (256 * j + r.val) u then
    (∑ d : Fin 128, k (ix3 0 u d) * q (ix3 0 (qd h d) r)) * (qs (ix3 0 h r) * smc) * ks (ix2 u (ln r))
  else ⊥

open Classical in
/-- Softmax of the scores `x` applied to the values `v`, each weight multiplied by its key's scale `w` after it is
    normalised; the fill value where the normaliser is zero. -/
def att (x w v : Fin 21504 → EReal) : EReal :=
  if (∑ u, Ideal.exp (x u - Finset.univ.sup x)) = 0 then ⊥
  else ∑ u, Ideal.div (Ideal.exp (x u - Finset.univ.sup x)) (∑ u', Ideal.exp (x u' - Finset.univ.sup x)) * w u * v u

theorem ym_eq (q : Vec Ideal S1x896x256 .fp8e4m3) (qs : Vec Ideal S1x7x256 .f32) (k : Vec Ideal S1x21504x128 .fp8e4m3)
    (ks : Vec Ideal S21504x128 .f32) (j : ℕ) (h : Fin 7) (r : Fin 256) :
    ym q qs k ks j h r = fun u => xr q qs k ks j h r u * (((Real.log 2)⁻¹ : ℝ) : EReal) := by
  funext u
  unfold ym xr
  by_cases hs : seen (256 * j + r.val) u
  · rw [if_pos hs, if_pos hs]
    unfold sc l2e
    generalize (∑ d : Fin 128, k (ix3 0 u d) * q (ix3 0 (qd h d) r)) = a
    generalize qs (ix3 0 h r) = b
    generalize ks (ix2 u (ln r)) = e
    rw [mul_assoc, mul_assoc a, mul_assoc a]
    congr 1
    rw [mul_assoc, mul_assoc, mul_assoc, mul_comm e]
    exact (mul_assoc b smc _).symm
  · rw [if_neg hs, if_neg hs]
    exact (EReal.bot_mul_coe_of_pos (inv_pos.mpr (Real.log_pos (by norm_num)))).symm

/-- The output element of the mathematics from running values over all keys. -/
theorem att_eq (q : Vec Ideal S1x896x256 .fp8e4m3) (qs : Vec Ideal S1x7x256 .f32) (k : Vec Ideal S1x21504x128 .fp8e4m3)
    (ks : Vec Ideal S21504x128 .f32) (j : ℕ) (h : Fin 7) (r : Fin 256) (w v : Fin 21504 → EReal) :
    Ideal.div (aa c0 (ym q qs k ks j h r) w v Finset.univ) (ll c0 (ym q qs k ks j h r) Finset.univ)
      = att (xr q qs k ks j h r) w v := by
  rw [ym_eq, quotient c0_real.1 c0_real.2]
  rfl

/-- A read after a store of the whole buffer. -/
theorem whole_read {sig : RefSig} {κ : Kind} {sp : Space} {s : Shape} {e : EltTy} {Val : EltTy → Type}
    (v : View sig κ sp s e) (f : v.ty.Contents Val) {off : Fin s.rank → ℕ} (inb : ∀ a, off a + s.size a ≤ s.size a)
    (w : s.Idx → Val e) (L : List (View.Piece Val s e)) (x : s.Idx) (h : ∀ a, off a = 0) :
    v.read Val (v.writes Val f (⟨Rect.unit off s.size inb, w⟩ :: L)) x = w x :=
  View.read_writes_cons_unit_of_mem v f inb w L x x rfl fun a => by rw [h a, Nat.zero_add]

section Body

variable (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (v21 v23 v25 : BitVec 32) (v36 : BitVec 1) (v37 : BitVec 32) (v58 v63 : BitVec 32) (X2 : BufTy.Contents (Elt Ideal) arg2.view.ty) (X3 : BufTy.Contents (Elt Ideal) arg3.view.ty) (X4 : BufTy.Contents (Elt Ideal) arg4.view.ty) (X6 : BufTy.Contents (Elt Ideal) arg6.view.ty) (X9 : BufTy.Contents (Elt Ideal) arg9.view.ty) (X10 : BufTy.Contents (Elt Ideal) arg10.view.ty)

/-- The reset leaves the running values of no keys. -/
theorem rows_z : Rows i arg2 arg3 arg4 arg6 arg9 arg10 arg11 arg12 arg13 X2 X3 X4 X6 X9 X10 (arg11.view.writes (Elt Ideal) arg11.view.junk (z (F := Ideal)).1) (arg12.view.writes (Elt Ideal) arg12.view.junk (z (F := Ideal)).2.1) (arg13.view.writes (Elt Ideal) arg13.view.junk (z (F := Ideal)).2.2) ∅ := by
  intro h r
  have hh := h.isLt
  refine ⟨?_, ?_, fun d => ?_⟩
  · rw [mx_empty]
    rw [show rowM arg12 h (arg12.view.writes (Elt Ideal) arg12.view.junk (z (F := Ideal)).2.1) (ix2 0 r)
        = arg12.view.read (Elt Ideal) (arg12.view.writes (Elt Ideal) arg12.view.junk (z (F := Ideal)).2.1) (ix2 ⟨h.val, by omega⟩ r) from
      ld arg12.view _ _ _ _ fun a => by
        match a with
        | ⟨0, _⟩ => rfl
        | ⟨1, _⟩ => show r.val = 0 + r.val; omega]
    rw [show (z (F := Ideal)).2.1 = [⟨Rect.unit ![0, 0] S8x256.size inb_S8x256_S8x256_0_0, k0_pay224 (F := Ideal)⟩] from rfl, whole_read arg12.view _ _ _ _ _ (by decide)]
    pointwise [k0_pay224]
    try rfl
  · rw [ll_empty]
    rw [show rowM arg13 h (arg13.view.writes (Elt Ideal) arg13.view.junk (z (F := Ideal)).2.2) (ix2 0 r)
        = arg13.view.read (Elt Ideal) (arg13.view.writes (Elt Ideal) arg13.view.junk (z (F := Ideal)).2.2) (ix2 ⟨h.val, by omega⟩ r) from
      ld arg13.view _ _ _ _ fun a => by
        match a with
        | ⟨0, _⟩ => rfl
        | ⟨1, _⟩ => show r.val = 0 + r.val; omega]
    rw [show (z (F := Ideal)).2.2 = [⟨Rect.unit ![0, 0] S8x256.size inb_S8x256_S8x256_0_0, k0_pay223 (F := Ideal)⟩] from rfl, whole_read arg13.view _ _ _ _ _ (by decide)]
    pointwise [k0_pay223]
  · rw [aa_empty]
    rw [show rowA arg11 h (arg11.view.writes (Elt Ideal) arg11.view.junk (z (F := Ideal)).1) (ix3 0 d r)
        = arg11.view.read (Elt Ideal) (arg11.view.writes (Elt Ideal) arg11.view.junk (z (F := Ideal)).1) (ix3 h d r) from
      ld arg11.view _ _ _ _ fun a => by
        match a with
        | ⟨0, _⟩ => rfl
        | ⟨1, _⟩ => show d.val = 0 + d.val; omega
        | ⟨2, _⟩ => show r.val = 0 + r.val; omega]
    rw [show (z (F := Ideal)).1 = [⟨Rect.unit ![0, 0, 0] S7x128x256.size inb_S7x128x256_S7x128x256_0_0_0, k0_pay222 (F := Ideal)⟩] from rfl, whole_read arg11.view _ _ _ _ _ (by decide)]
    pointwise [k0_pay222]

/-- The two loops leave the running values of the anchor blocks and the whole local blocks. -/
theorem rows_l6 : Rows i arg2 arg3 arg4 arg6 arg9 arg10 arg11 arg12 arg13 X2 X3 X4 X6 X9 X10 (arg11.view.writes (Elt Ideal) arg11.view.junk (l6 (F := Ideal) c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).1) (arg12.view.writes (Elt Ideal) arg12.view.junk (l6 (F := Ideal) c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.1) (arg13.view.writes (Elt Ideal) arg13.view.junk (l6 (F := Ideal) c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.2) (seg 0 (na (qi i)) ∪ seg (cs (qi i)) (nl (qi i))) := by
  have hq := qi_lt i
  have e6 : Scf.trips (k0_t6_loop i).lb (k0_t6_loop i).ub (k0_t6_loop i).st = 0 := trips6 i
  have e4 : Scf.trips (k0_t4_loop i).lb (k0_t4_loop i).ub (k0_t4_loop i).st = 0 := trips4 i
  have e5 : Scf.trips (k0_t5_loop i).lb (k0_t5_loop i).ub (k0_t5_loop i).st = nl (qi i) := trips5 i
  have e3 : Scf.trips (k0_t3_loop i).lb (k0_t3_loop i).ub (k0_t3_loop i).st = na (qi i) := trips3 i
  have l65 : (l6 (F := Ideal) c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10) = (l5 (F := Ideal) c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10) := by
    unfold l6
    rw [e6]
    rw [pb_k0_t6.eq_1]
    generalize (l5 (F := Ideal) c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10) = L
    rfl
  have l43 : (l4 (F := Ideal) c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10) = (l3 (F := Ideal) c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10) := by
    unfold l4
    rw [e4]
    rw [pb_k0_t4.eq_1]
    generalize (l3 (F := Ideal) c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10) = L
    rfl
  have h3 : Rows i arg2 arg3 arg4 arg6 arg9 arg10 arg11 arg12 arg13 X2 X3 X4 X6 X9 X10 (arg11.view.writes (Elt Ideal) arg11.view.junk (l3 (F := Ideal) c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).1) (arg12.view.writes (Elt Ideal) arg12.view.junk (l3 (F := Ideal) c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.1) (arg13.view.writes (Elt Ideal) arg13.view.junk (l3 (F := Ideal) c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.2) (∅ ∪ seg 0 (na (qi i))) := by
    unfold l3
    dsimp only
    rw [View.writes_append, View.writes_append, View.writes_append, e3]
    exact fold3 c i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 (arg11.view.writes (Elt Ideal) arg11.view.junk (z (F := Ideal)).1) (arg12.view.writes (Elt Ideal) arg12.view.junk (z (F := Ideal)).2.1) (arg13.view.writes (Elt Ideal) arg13.view.junk (z (F := Ideal)).2.2) ∅ (Finset.disjoint_empty_left _) (rows_z i arg2 arg3 arg4 arg6 arg9 arg10 arg11 arg12 arg13 X2 X3 X4 X6 X9 X10) _ le_rfl
  rw [l65]
  unfold l5
  dsimp only
  rw [View.writes_append, View.writes_append, View.writes_append, e5, l43]
  rw [Finset.empty_union] at h3
  refine fold5 c i arg2 harg2 arg3 harg3 arg4 harg4 arg5 harg5 arg6 harg6 arg7 harg7 arg8 harg8 arg9 harg9 arg10 harg10 arg11 harg11 arg12 harg12 arg13 harg13 v21 v23 v25 v36 v37 X2 X3 X4 X6 X9 X10 (arg11.view.writes (Elt Ideal) arg11.view.junk (l3 (F := Ideal) c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).1) (arg12.view.writes (Elt Ideal) arg12.view.junk (l3 (F := Ideal) c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.1) (arg13.view.writes (Elt Ideal) arg13.view.junk (l3 (F := Ideal) c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.2) _ ?_ h3 _ le_rfl
  rw [Finset.disjoint_left]
  intro u hu hv
  simp only [seg, Finset.mem_filter, Finset.mem_univ, true_and] at hu hv
  unfold na at hu
  unfold cs at hv
  split at hu <;> omega

/-- The masked block. -/
theorem xm_eq (h : Fin 7) (j : Fin 512) (r : Fin 256) (hb : cs (qi i) + 512 * nl (qi i) + 512 ≤ 21504) :
    xm i arg2 harg2 arg3 harg3 arg4 harg4 arg5 harg5 arg6 harg6 arg7 harg7 arg8 harg8 arg9 harg9 arg10 harg10 arg11 harg11 arg12 harg12 arg13 harg13 (BitVec.ofNat 32 (256 * qi i)) (BitVec.ofNat 32 (cs (qi i) + 512 * nl (qi i))) X2 X3 X4 X6 X9 X10 h (ix2 j r)
      = yy i arg2 arg3 arg4 arg9 X2 X3 X4 X9 h r (emb (cs (qi i) + 512 * nl (qi i)) hb j) := by
  have hq := qi_lt i
  have hj := j.isLt
  have hr := r.isLt
  unfold xm
  rw [xm_apply _ _ (by omega) (by omega), blk_s9 arg9 X9 (k0_off19_inb i) _ hb (off19 i), row_s]
  simp only [blk_k arg4 X4 (k0_off17_inb i) _ hb (off17 i), row_q]
  unfold yy ym
  have hs : seen (256 * qi i + r.val) (emb (cs (qi i) + 512 * nl (qi i)) hb j) ↔ cs (qi i) + 512 * nl (qi i) + j.val ≤ 256 * qi i + r.val := by
    constructor
    · intro h; exact h.1
    · intro h
      refine ⟨h, Or.inr ?_⟩
      show (256 * qi i + r.val) / 6144 * 6144 ≤ cs (qi i) + 512 * nl (qi i) + j.val
      unfold cs; omega
  by_cases hd : cs (qi i) + 512 * nl (qi i) + j.val ≤ 256 * qi i + r.val
  · rw [if_pos hd, if_pos (hs.mpr hd)]
    rfl
  · rw [if_neg hd, if_neg (fun h => hd (hs.mp h))]

/-- The output block of the grid point, one column strip per head. -/
theorem out_eq (h : Fin 7) (r : Fin 256) (d : Fin 128) (v3 v65 : BitVec 32) (h3 : v3 = BitVec.ofNat 32 (256 * qi i))
    (h65 : v65 = BitVec.ofNat 32 (cs (qi i) + 512 * nl (qi i))) :
    k0_pay3 (stA (xm i arg2 harg2 arg3 harg3 arg4 harg4 arg5 harg5 arg6 harg6 arg7 harg7 arg8 harg8 arg9 harg9 arg10 harg10 arg11 harg11 arg12 harg12 arg13 harg13 v3 v65 X2 X3 X4 X6 X9 X10 h) (arg6.view.readAt (Elt Ideal) (Rect.unit (s := S1x128x21504) (k0_off18 i) S1x128x512.size (k0_off18_inb i)).toLoadRect X6) (arg10.view.readAt (Elt Ideal) (Rect.unit (s := S21504x128) (k0_off19 i) S512x128.size (k0_off19_inb i)).toLoadRect X10)
          (rowM arg12 h (arg12.view.writes (Elt Ideal) arg12.view.junk (l6 (F := Ideal) c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.1)) (rowA arg11 h (arg11.view.writes (Elt Ideal) arg11.view.junk (l6 (F := Ideal) c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).1)))
        (stL (xm i arg2 harg2 arg3 harg3 arg4 harg4 arg5 harg5 arg6 harg6 arg7 harg7 arg8 harg8 arg9 harg9 arg10 harg10 arg11 harg11 arg12 harg12 arg13 harg13 v3 v65 X2 X3 X4 X6 X9 X10 h) (rowM arg12 h (arg12.view.writes (Elt Ideal) arg12.view.junk (l6 (F := Ideal) c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.1))
          (rowM arg13 h (arg13.view.writes (Elt Ideal) arg13.view.junk (l6 (F := Ideal) c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10).2.2))) (ix2 r d)
      = att (xr (arg2.view.read (Elt Ideal) X2) (arg3.view.read (Elt Ideal) X3) (arg4.view.read (Elt Ideal) X4) (arg9.view.read (Elt Ideal) X9) (qi i) h r)
          (ww arg10 X10 r) (vv arg6 X6 d) := by
  subst h3 h65
  have hq := qi_lt i
  have hb : cs (qi i) + 512 * nl (qi i) + 512 ≤ 21504 := by unfold cs nl; omega
  have hI := Tile.step (rows_l6 c i arg2 harg2 arg3 harg3 arg4 harg4 arg5 harg5 arg6 harg6 arg7 harg7 arg8 harg8 arg9 harg9 arg10 harg10 arg11 harg11 arg12 harg12 arg13 harg13 v21 v23 v25 v36 v37 v58 v63 X2 X3 X4 X6 X9 X10 h) _ hb (by
      rw [Finset.disjoint_left]
      intro u hu hv
      rw [mem_blk] at hv
      simp only [Finset.mem_union, seg, Finset.mem_filter, Finset.mem_univ, true_and] at hu
      unfold na at hu
      unfold cs nl at hv hu
      rcases hu with hu | hu
      · split at hu <;> omega
      · omega) (xm i arg2 harg2 arg3 harg3 arg4 harg4 arg5 harg5 arg6 harg6 arg7 harg7 arg8 harg8 arg9 harg9 arg10 harg10 arg11 harg11 arg12 harg12 arg13 harg13 (BitVec.ofNat 32 (256 * qi i)) (BitVec.ofNat 32 (cs (qi i) + 512 * nl (qi i))) X2 X3 X4 X6 X9 X10 h) (arg6.view.readAt (Elt Ideal) (Rect.unit (s := S1x128x21504) (k0_off18 i) S1x128x512.size (k0_off18_inb i)).toLoadRect X6) (arg10.view.readAt (Elt Ideal) (Rect.unit (s := S21504x128) (k0_off19 i) S512x128.size (k0_off19_inb i)).toLoadRect X10)
      (fun j r => xm_eq i arg2 harg2 arg3 harg3 arg4 harg4 arg5 harg5 arg6 harg6 arg7 harg7 arg8 harg8 arg9 harg9 arg10 harg10 arg11 harg11 arg12 harg12 arg13 harg13 X2 X3 X4 X6 X9 X10 h j r hb)
      (fun d j => blk_v arg6 X6 (k0_off18_inb i) _ hb (off18 i) d j)
      (fun j r => blk_s10 arg10 X10 (k0_off19_inb i) _ hb (off19 i) j (ln r))
  obtain ⟨-, hL, hA⟩ := hI r
  rw [out_apply, hL, hA d]
  have hun : ∀ u, u ∉ (seg 0 (na (qi i)) ∪ seg (cs (qi i)) (nl (qi i))) ∪ blk (cs (qi i) + 512 * nl (qi i)) hb → yy i arg2 arg3 arg4 arg9 X2 X3 X4 X9 h r u = ⊥ := by
    intro u hu
    unfold yy ym
    refine if_neg fun hs => hu ?_
    obtain ⟨hs1, hs2⟩ := hs
    have hr := r.isLt
    simp only [Finset.mem_union, mem_blk, seg, Finset.mem_filter, Finset.mem_univ, true_and]
    by_cases h24 : 24 ≤ qi i
    · rw [show na (qi i) = 12 from if_pos h24]
      unfold cs nl
      rcases hs2 with h | h
      · exact Or.inl (Or.inl (by omega))
      · by_cases h2 : u.val < qi i / 24 * 6144 + 512 * (qi i % 24 / 2)
        · exact Or.inl (Or.inr (by omega))
        · exact Or.inr (by omega)
    · unfold cs nl
      by_cases h2 : u.val < qi i / 24 * 6144 + 512 * (qi i % 24 / 2)
      · exact Or.inl (Or.inr (by omega))
      · exact Or.inr (by omega)
  rw [ll_univ _ _ hun, aa_univ _ _ _ _ hun]
  exact att_eq _ _ _ _ _ _ _ _ _

end Body

end Cert.KernelIdeal.Block
-- ==== Proof.MidFirst.lean ====
/- What the body stores in a head's columns of the output block, in terms of the running values after the two loops. -/
module

public import proofs.«01_k».proof.Proof.Run
public import proofs.«01_k».proof.Proof.Mid

@[expose] public section

set_option maxRecDepth 16384

noncomputable section

namespace Cert.KernelIdeal.Mid

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.Step Cert.KernelIdeal.Run

attribute [local irreducible] pb_k0_t1 pb_k0_t2 pb_k0_t3 pb_k0_t4 pb_k0_t5 pb_k0_t6

/-- The first head's load of its running value reads what the loops left. -/
theorem runFirst_t12 (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (hi : k0_cond1 i = 1#1) (f9 : BufTy.Contents (Elt F) arg9.view.ty) (f10 : BufTy.Contents (Elt F) arg10.view.ty) :
    runFirst.sl.v100 c i arg2 harg2 arg3 harg3 arg4 harg4 arg5 harg5 arg6 harg6 arg7 harg7 arg8 harg8 arg9 harg9 arg10 harg10 arg11 harg11 arg12 harg12 arg13 harg13 X2 X3 X4 X5 X6 X7 hi f9 f10 = arg12.view.readAt (Elt F) (Rect.unit (s := S8x256) ![0, 0] S1x256.size inb_S8x256_S1x256_0_0).toLoadRect
      (arg12.view.writes (Elt F) arg12.view.junk (l6 c i arg2 harg2 arg3 harg3 arg4 harg4 arg5 harg5 arg6 harg6 arg7 harg7 arg8 harg8 arg9 harg9 arg10 harg10 arg11 harg11 arg12 harg12 arg13 harg13 (runFirst.sl.v21 i) (runFirst.sl.v23 i) (runFirst.sl.v25 i) (runFirst.sl.v36 i) (runFirst.sl.v37 i) (runFirst.sl.v58 i) (runFirst.sl.v63 i) X2 X3 X4 X6 (arg9.view.writes (Elt F) f9 (pb_k0_t1 (F := F) Variants.none c none i arg2 harg2 arg3 harg3 arg4 harg4 arg5 harg5 arg6 harg6 arg7 harg7 arg8 harg8 arg9 harg9 arg10 harg10 arg11 harg11 arg12 harg12 arg13 harg13 hi X5 (Scf.trips k0_t1_loop.lb k0_t1_loop.ub k0_t1_loop.st))) (arg10.view.writes (Elt F) f10 (pb_k0_t2 (F := F) Variants.none c none i arg2 harg2 arg3 harg3 arg4 harg4 arg5 harg5 arg6 harg6 arg7 harg7 arg8 harg8 arg9 harg9 arg10 harg10 arg11 harg11 arg12 harg12 arg13 harg13 hi X7 (Scf.trips k0_t2_loop.lb k0_t2_loop.ub k0_t2_loop.st)))).2.1) := by
  unfold runFirst.sl.v100 View.readCov l6 l5 l4 l3
  dsimp only
  rfl

/-- Every other head's load does not see what the first head stored. -/
theorem runFirst_s12 (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (hi : k0_cond1 i = 1#1) (f9 : BufTy.Contents (Elt F) arg9.view.ty) (f10 : BufTy.Contents (Elt F) arg10.view.ty) {off size : Fin 2 → ℕ}
    (inb : ∀ a, off a + size a ≤ S8x256.size a) (h : 1 ≤ off 0) :
    arg12.view.readAt (Elt F) (Rect.unit (s := S8x256) off size inb).toLoadRect (arg12.view.writes (Elt F) arg12.view.junk (runFirst.sl.H12_1_1 c i arg2 harg2 arg3 harg3 arg4 harg4 arg5 harg5 arg6 harg6 arg7 harg7 arg8 harg8 arg9 harg9 arg10 harg10 arg11 harg11 arg12 harg12 arg13 harg13 X2 X3 X4 X5 X6 X7 hi f9 f10))
      = arg12.view.readAt (Elt F) (Rect.unit (s := S8x256) off size inb).toLoadRect
      (arg12.view.writes (Elt F) arg12.view.junk (l6 c i arg2 harg2 arg3 harg3 arg4 harg4 arg5 harg5 arg6 harg6 arg7 harg7 arg8 harg8 arg9 harg9 arg10 harg10 arg11 harg11 arg12 harg12 arg13 harg13 (runFirst.sl.v21 i) (runFirst.sl.v23 i) (runFirst.sl.v25 i) (runFirst.sl.v36 i) (runFirst.sl.v37 i) (runFirst.sl.v58 i) (runFirst.sl.v63 i) X2 X3 X4 X6 (arg9.view.writes (Elt F) f9 (pb_k0_t1 (F := F) Variants.none c none i arg2 harg2 arg3 harg3 arg4 harg4 arg5 harg5 arg6 harg6 arg7 harg7 arg8 harg8 arg9 harg9 arg10 harg10 arg11 harg11 arg12 harg12 arg13 harg13 hi X5 (Scf.trips k0_t1_loop.lb k0_t1_loop.ub k0_t1_loop.st))) (arg10.view.writes (Elt F) f10 (pb_k0_t2 (F := F) Variants.none c none i arg2 harg2 arg3 harg3 arg4 harg4 arg5 harg5 arg6 harg6 arg7 harg7 arg8 harg8 arg9 harg9 arg10 harg10 arg11 harg11 arg12 harg12 arg13 harg13 hi X7 (Scf.trips k0_t2_loop.lb k0_t2_loop.ub k0_t2_loop.st)))).2.1) :=
  by
  unfold runFirst.sl.H12_1_1 l6 l5 l4 l3
  dsimp only
  exact miss arg12.view _ _ inb _ _ (Or.inr h)

/-- The first head's load of its running value reads what the loops left. -/
theorem runFirst_t13 (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (hi : k0_cond1 i = 1#1) (f9 : BufTy.Contents (Elt F) arg9.view.ty) (f10 : BufTy.Contents (Elt F) arg10.view.ty) :
    runFirst.sl.v109 c i arg2 harg2 arg3 harg3 arg4 harg4 arg5 harg5 arg6 harg6 arg7 harg7 arg8 harg8 arg9 harg9 arg10 harg10 arg11 harg11 arg12 harg12 arg13 harg13 X2 X3 X4 X5 X6 X7 hi f9 f10 = arg13.view.readAt (Elt F) (Rect.unit (s := S8x256) ![0, 0] S1x256.size inb_S8x256_S1x256_0_0).toLoadRect
      (arg13.view.writes (Elt F) arg13.view.junk (l6 c i arg2 harg2 arg3 harg3 arg4 harg4 arg5 harg5 arg6 harg6 arg7 harg7 arg8 harg8 arg9 harg9 arg10 harg10 arg11 harg11 arg12 harg12 arg13 harg13 (runFirst.sl.v21 i) (runFirst.sl.v23 i) (runFirst.sl.v25 i) (runFirst.sl.v36 i) (runFirst.sl.v37 i) (runFirst.sl.v58 i) (runFirst.sl.v63 i) X2 X3 X4 X6 (arg9.view.writes (Elt F) f9 (pb_k0_t1 (F := F) Variants.none c none i arg2 harg2 arg3 harg3 arg4 harg4 arg5 harg5 arg6 harg6 arg7 harg7 arg8 harg8 arg9 harg9 arg10 harg10 arg11 harg11 arg12 harg12 arg13 harg13 hi X5 (Scf.trips k0_t1_loop.lb k0_t1_loop.ub k0_t1_loop.st))) (arg10.view.writes (Elt F) f10 (pb_k0_t2 (F := F) Variants.none c none i arg2 harg2 arg3 harg3 arg4 harg4 arg5 harg5 arg6 harg6 arg7 harg7 arg8 harg8 arg9 harg9 arg10 harg10 arg11 harg11 arg12 harg12 arg13 harg13 hi X7 (Scf.trips k0_t2_loop.lb k0_t2_loop.ub k0_t2_loop.st)))).2.2) := by
  unfold runFirst.sl.v109 View.readCov l6 l5 l4 l3
  dsimp only
  rfl

/-- Every other head's load does not see what the first head stored. -/
theorem runFirst_s13 (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (hi : k0_cond1 i = 1#1) (f9 : BufTy.Contents (Elt F) arg9.view.ty) (f10 : BufTy.Contents (Elt F) arg10.view.ty) {off size : Fin 2 → ℕ}
    (inb : ∀ a, off a + size a ≤ S8x256.size a) (h : 1 ≤ off 0) :
    arg13.view.readAt (Elt F) (Rect.unit (s := S8x256) off size inb).toLoadRect (arg13.view.writes (Elt F) arg13.view.junk (runFirst.sl.H13_1_1 c i arg2 harg2 arg3 harg3 arg4 harg4 arg5 harg5 arg6 harg6 arg7 harg7 arg8 harg8 arg9 harg9 arg10 harg10 arg11 harg11 arg12 harg12 arg13 harg13 X2 X3 X4 X5 X6 X7 hi f9 f10))
      = arg13.view.readAt (Elt F) (Rect.unit (s := S8x256) off size inb).toLoadRect
      (arg13.view.writes (Elt F) arg13.view.junk (l6 c i arg2 harg2 arg3 harg3 arg4 harg4 arg5 harg5 arg6 harg6 arg7 harg7 arg8 harg8 arg9 harg9 arg10 harg10 arg11 harg11 arg12 harg12 arg13 harg13 (runFirst.sl.v21 i) (runFirst.sl.v23 i) (runFirst.sl.v25 i) (runFirst.sl.v36 i) (runFirst.sl.v37 i) (runFirst.sl.v58 i) (runFirst.sl.v63 i) X2 X3 X4 X6 (arg9.view.writes (Elt F) f9 (pb_k0_t1 (F := F) Variants.none c none i arg2 harg2 arg3 harg3 arg4 harg4 arg5 harg5 arg6 harg6 arg7 harg7 arg8 harg8 arg9 harg9 arg10 harg10 arg11 harg11 arg12 harg12 arg13 harg13 hi X5 (Scf.trips k0_t1_loop.lb k0_t1_loop.ub k0_t1_loop.st))) (arg10.view.writes (Elt F) f10 (pb_k0_t2 (F := F) Variants.none c none i arg2 harg2 arg3 harg3 arg4 harg4 arg5 harg5 arg6 harg6 arg7 harg7 arg8 harg8 arg9 harg9 arg10 harg10 arg11 harg11 arg12 harg12 arg13 harg13 hi X7 (Scf.trips k0_t2_loop.lb k0_t2_loop.ub k0_t2_loop.st)))).2.2) :=
  by
  unfold runFirst.sl.H13_1_1 l6 l5 l4 l3
  dsimp only
  exact miss arg13.view _ _ inb _ _ (Or.inr h)

/-- The first head's load of its running value reads what the loops left. -/
theorem runFirst_t11 (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (hi : k0_cond1 i = 1#1) (f9 : BufTy.Contents (Elt F) arg9.view.ty) (f10 : BufTy.Contents (Elt F) arg10.view.ty) :
    runFirst.sl.v123 c i arg2 harg2 arg3 harg3 arg4 harg4 arg5 harg5 arg6 harg6 arg7 harg7 arg8 harg8 arg9 harg9 arg10 harg10 arg11 harg11 arg12 harg12 arg13 harg13 X2 X3 X4 X5 X6 X7 hi f9 f10 = arg11.view.readAt (Elt F) (Rect.unit (s := S7x128x256) ![0, 0, 0] S1x128x256.size inb_S7x128x256_S1x128x256_0_0_0).toLoadRect
      (arg11.view.writes (Elt F) arg11.view.junk (l6 c i arg2 harg2 arg3 harg3 arg4 harg4 arg5 harg5 arg6 harg6 arg7 harg7 arg8 harg8 arg9 harg9 arg10 harg10 arg11 harg11 arg12 harg12 arg13 harg13 (runFirst.sl.v21 i) (runFirst.sl.v23 i) (runFirst.sl.v25 i) (runFirst.sl.v36 i) (runFirst.sl.v37 i) (runFirst.sl.v58 i) (runFirst.sl.v63 i) X2 X3 X4 X6 (arg9.view.writes (Elt F) f9 (pb_k0_t1 (F := F) Variants.none c none i arg2 harg2 arg3 harg3 arg4 harg4 arg5 harg5 arg6 harg6 arg7 harg7 arg8 harg8 arg9 harg9 arg10 harg10 arg11 harg11 arg12 harg12 arg13 harg13 hi X5 (Scf.trips k0_t1_loop.lb k0_t1_loop.ub k0_t1_loop.st))) (arg10.view.writes (Elt F) f10 (pb_k0_t2 (F := F) Variants.none c none i arg2 harg2 arg3 harg3 arg4 harg4 arg5 harg5 arg6 harg6 arg7 harg7 arg8 harg8 arg9 harg9 arg10 harg10 arg11 harg11 arg12 harg12 arg13 harg13 hi X7 (Scf.trips k0_t2_loop.lb k0_t2_loop.ub k0_t2_loop.st)))).1) := by
  unfold runFirst.sl.v123 View.readCov l6 l5 l4 l3
  dsimp only
  rfl

/-- Every other head's load does not see what the first head stored. -/
theorem runFirst_s11 (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (hi : k0_cond1 i = 1#1) (f9 : BufTy.Contents (Elt F) arg9.view.ty) (f10 : BufTy.Contents (Elt F) arg10.view.ty) {off size : Fin 3 → ℕ}
    (inb : ∀ a, off a + size a ≤ S7x128x256.size a) (h : 1 ≤ off 0) :
    arg11.view.readAt (Elt F) (Rect.unit (s := S7x128x256) off size inb).toLoadRect (arg11.view.writes (Elt F) arg11.view.junk (runFirst.sl.H11_1_1 c i arg2 harg2 arg3 harg3 arg4 harg4 arg5 harg5 arg6 harg6 arg7 harg7 arg8 harg8 arg9 harg9 arg10 harg10 arg11 harg11 arg12 harg12 arg13 harg13 X2 X3 X4 X5 X6 X7 hi f9 f10))
      = arg11.view.readAt (Elt F) (Rect.unit (s := S7x128x256) off size inb).toLoadRect
      (arg11.view.writes (Elt F) arg11.view.junk (l6 c i arg2 harg2 arg3 harg3 arg4 harg4 arg5 harg5 arg6 harg6 arg7 harg7 arg8 harg8 arg9 harg9 arg10 harg10 arg11 harg11 arg12 harg12 arg13 harg13 (runFirst.sl.v21 i) (runFirst.sl.v23 i) (runFirst.sl.v25 i) (runFirst.sl.v36 i) (runFirst.sl.v37 i) (runFirst.sl.v58 i) (runFirst.sl.v63 i) X2 X3 X4 X6 (arg9.view.writes (Elt F) f9 (pb_k0_t1 (F := F) Variants.none c none i arg2 harg2 arg3 harg3 arg4 harg4 arg5 harg5 arg6 harg6 arg7 harg7 arg8 harg8 arg9 harg9 arg10 harg10 arg11 harg11 arg12 harg12 arg13 harg13 hi X5 (Scf.trips k0_t1_loop.lb k0_t1_loop.ub k0_t1_loop.st))) (arg10.view.writes (Elt F) f10 (pb_k0_t2 (F := F) Variants.none c none i arg2 harg2 arg3 harg3 arg4 harg4 arg5 harg5 arg6 harg6 arg7 harg7 arg8 harg8 arg9 harg9 arg10 harg10 arg11 harg11 arg12 harg12 arg13 harg13 hi X7 (Scf.trips k0_t2_loop.lb k0_t2_loop.ub k0_t2_loop.st)))).1) :=
  by
  unfold runFirst.sl.H11_1_1 l6 l5 l4 l3
  dsimp only
  exact miss arg11.view _ _ inb _ _ (Or.inr h)

set_option maxHeartbeats 8000000 in
/-- What the body leaves in the output columns of a head: the quotient of the running values after the masked block. -/
theorem runFirst_col (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (hi : k0_cond1 i = 1#1) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (h : Fin 7) :
    colO arg8 h (arg8.view.writes (Elt F) f8 ((runFirst c i arg2 harg2 arg3 harg3 arg4 harg4 arg5 harg5 arg6 harg6 arg7 harg7 arg8 harg8 arg9 harg9 arg10 harg10 arg11 harg11 arg12 harg12 arg13 harg13 X2 X3 X4 X5 X6 X7 hi).2.2.1 f8 f9 f10 f11 f12 f13))
      = k0_pay3 (stA (xm i arg2 harg2 arg3 harg3 arg4 harg4 arg5 harg5 arg6 harg6 arg7 harg7 arg8 harg8 arg9 harg9 arg10 harg10 arg11 harg11 arg12 harg12 arg13 harg13 (runFirst.sl.v3 i) (runFirst.sl.v65 i) X2 X3 X4 X6 (arg9.view.writes (Elt F) f9 (pb_k0_t1 (F := F) Variants.none c none i arg2 harg2 arg3 harg3 arg4 harg4 arg5 harg5 arg6 harg6 arg7 harg7 arg8 harg8 arg9 harg9 arg10 harg10 arg11 harg11 arg12 harg12 arg13 harg13 hi X5 (Scf.trips k0_t1_loop.lb k0_t1_loop.ub k0_t1_loop.st))) (arg10.view.writes (Elt F) f10 (pb_k0_t2 (F := F) Variants.none c none i arg2 harg2 arg3 harg3 arg4 harg4 arg5 harg5 arg6 harg6 arg7 harg7 arg8 harg8 arg9 harg9 arg10 harg10 arg11 harg11 arg12 harg12 arg13 harg13 hi X7 (Scf.trips k0_t2_loop.lb k0_t2_loop.ub k0_t2_loop.st))) h) (arg6.view.readAt (Elt F) (Rect.unit (s := S1x128x21504) (k0_off18 i) S1x128x512.size (k0_off18_inb i)).toLoadRect X6)
            (arg10.view.readAt (Elt F) (Rect.unit (s := S21504x128) (k0_off19 i) S512x128.size (k0_off19_inb i)).toLoadRect (arg10.view.writes (Elt F) f10 (pb_k0_t2 (F := F) Variants.none c none i arg2 harg2 arg3 harg3 arg4 harg4 arg5 harg5 arg6 harg6 arg7 harg7 arg8 harg8 arg9 harg9 arg10 harg10 arg11 harg11 arg12 harg12 arg13 harg13 hi X7 (Scf.trips k0_t2_loop.lb k0_t2_loop.ub k0_t2_loop.st))))
            (rowM arg12 h (arg12.view.writes (Elt F) arg12.view.junk (l6 c i arg2 harg2 arg3 harg3 arg4 harg4 arg5 harg5 arg6 harg6 arg7 harg7 arg8 harg8 arg9 harg9 arg10 harg10 arg11 harg11 arg12 harg12 arg13 harg13 (runFirst.sl.v21 i) (runFirst.sl.v23 i) (runFirst.sl.v25 i) (runFirst.sl.v36 i) (runFirst.sl.v37 i) (runFirst.sl.v58 i) (runFirst.sl.v63 i) X2 X3 X4 X6 (arg9.view.writes (Elt F) f9 (pb_k0_t1 (F := F) Variants.none c none i arg2 harg2 arg3 harg3 arg4 harg4 arg5 harg5 arg6 harg6 arg7 harg7 arg8 harg8 arg9 harg9 arg10 harg10 arg11 harg11 arg12 harg12 arg13 harg13 hi X5 (Scf.trips k0_t1_loop.lb k0_t1_loop.ub k0_t1_loop.st))) (arg10.view.writes (Elt F) f10 (pb_k0_t2 (F := F) Variants.none c none i arg2 harg2 arg3 harg3 arg4 harg4 arg5 harg5 arg6 harg6 arg7 harg7 arg8 harg8 arg9 harg9 arg10 harg10 arg11 harg11 arg12 harg12 arg13 harg13 hi X7 (Scf.trips k0_t2_loop.lb k0_t2_loop.ub k0_t2_loop.st)))).2.1)) (rowA arg11 h (arg11.view.writes (Elt F) arg11.view.junk (l6 c i arg2 harg2 arg3 harg3 arg4 harg4 arg5 harg5 arg6 harg6 arg7 harg7 arg8 harg8 arg9 harg9 arg10 harg10 arg11 harg11 arg12 harg12 arg13 harg13 (runFirst.sl.v21 i) (runFirst.sl.v23 i) (runFirst.sl.v25 i) (runFirst.sl.v36 i) (runFirst.sl.v37 i) (runFirst.sl.v58 i) (runFirst.sl.v63 i) X2 X3 X4 X6 (arg9.view.writes (Elt F) f9 (pb_k0_t1 (F := F) Variants.none c none i arg2 harg2 arg3 harg3 arg4 harg4 arg5 harg5 arg6 harg6 arg7 harg7 arg8 harg8 arg9 harg9 arg10 harg10 arg11 harg11 arg12 harg12 arg13 harg13 hi X5 (Scf.trips k0_t1_loop.lb k0_t1_loop.ub k0_t1_loop.st))) (arg10.view.writes (Elt F) f10 (pb_k0_t2 (F := F) Variants.none c none i arg2 harg2 arg3 harg3 arg4 harg4 arg5 harg5 arg6 harg6 arg7 harg7 arg8 harg8 arg9 harg9 arg10 harg10 arg11 harg11 arg12 harg12 arg13 harg13 hi X7 (Scf.trips k0_t2_loop.lb k0_t2_loop.ub k0_t2_loop.st)))).1)))
          (stL (xm i arg2 harg2 arg3 harg3 arg4 harg4 arg5 harg5 arg6 harg6 arg7 harg7 arg8 harg8 arg9 harg9 arg10 harg10 arg11 harg11 arg12 harg12 arg13 harg13 (runFirst.sl.v3 i) (runFirst.sl.v65 i) X2 X3 X4 X6 (arg9.view.writes (Elt F) f9 (pb_k0_t1 (F := F) Variants.none c none i arg2 harg2 arg3 harg3 arg4 harg4 arg5 harg5 arg6 harg6 arg7 harg7 arg8 harg8 arg9 harg9 arg10 harg10 arg11 harg11 arg12 harg12 arg13 harg13 hi X5 (Scf.trips k0_t1_loop.lb k0_t1_loop.ub k0_t1_loop.st))) (arg10.view.writes (Elt F) f10 (pb_k0_t2 (F := F) Variants.none c none i arg2 harg2 arg3 harg3 arg4 harg4 arg5 harg5 arg6 harg6 arg7 harg7 arg8 harg8 arg9 harg9 arg10 harg10 arg11 harg11 arg12 harg12 arg13 harg13 hi X7 (Scf.trips k0_t2_loop.lb k0_t2_loop.ub k0_t2_loop.st))) h) (rowM arg12 h (arg12.view.writes (Elt F) arg12.view.junk (l6 c i arg2 harg2 arg3 harg3 arg4 harg4 arg5 harg5 arg6 harg6 arg7 harg7 arg8 harg8 arg9 harg9 arg10 harg10 arg11 harg11 arg12 harg12 arg13 harg13 (runFirst.sl.v21 i) (runFirst.sl.v23 i) (runFirst.sl.v25 i) (runFirst.sl.v36 i) (runFirst.sl.v37 i) (runFirst.sl.v58 i) (runFirst.sl.v63 i) X2 X3 X4 X6 (arg9.view.writes (Elt F) f9 (pb_k0_t1 (F := F) Variants.none c none i arg2 harg2 arg3 harg3 arg4 harg4 arg5 harg5 arg6 harg6 arg7 harg7 arg8 harg8 arg9 harg9 arg10 harg10 arg11 harg11 arg12 harg12 arg13 harg13 hi X5 (Scf.trips k0_t1_loop.lb k0_t1_loop.ub k0_t1_loop.st))) (arg10.view.writes (Elt F) f10 (pb_k0_t2 (F := F) Variants.none c none i arg2 harg2 arg3 harg3 arg4 harg4 arg5 harg5 arg6 harg6 arg7 harg7 arg8 harg8 arg9 harg9 arg10 harg10 arg11 harg11 arg12 harg12 arg13 harg13 hi X7 (Scf.trips k0_t2_loop.lb k0_t2_loop.ub k0_t2_loop.st)))).2.1)) (rowM arg13 h (arg13.view.writes (Elt F) arg13.view.junk (l6 c i arg2 harg2 arg3 harg3 arg4 harg4 arg5 harg5 arg6 harg6 arg7 harg7 arg8 harg8 arg9 harg9 arg10 harg10 arg11 harg11 arg12 harg12 arg13 harg13 (runFirst.sl.v21 i) (runFirst.sl.v23 i) (runFirst.sl.v25 i) (runFirst.sl.v36 i) (runFirst.sl.v37 i) (runFirst.sl.v58 i) (runFirst.sl.v63 i) X2 X3 X4 X6 (arg9.view.writes (Elt F) f9 (pb_k0_t1 (F := F) Variants.none c none i arg2 harg2 arg3 harg3 arg4 harg4 arg5 harg5 arg6 harg6 arg7 harg7 arg8 harg8 arg9 harg9 arg10 harg10 arg11 harg11 arg12 harg12 arg13 harg13 hi X5 (Scf.trips k0_t1_loop.lb k0_t1_loop.ub k0_t1_loop.st))) (arg10.view.writes (Elt F) f10 (pb_k0_t2 (F := F) Variants.none c none i arg2 harg2 arg3 harg3 arg4 harg4 arg5 harg5 arg6 harg6 arg7 harg7 arg8 harg8 arg9 harg9 arg10 harg10 arg11 harg11 arg12 harg12 arg13 harg13 hi X7 (Scf.trips k0_t2_loop.lb k0_t2_loop.ub k0_t2_loop.st)))).2.2))) := by
  unfold runFirst
  obtain ⟨h, hh⟩ := h
  interval_cases h
  · show arg8.view.readAt (Elt F) (Rect.unit (s := S256x896) ![0, 0] S256x128.size (inbO ⟨0, hh⟩)).toLoadRect _ = _
    try simp (disch := decide) only [miss1, hit]
    try simp only [runFirst.sl.r_22, runFirst.sl.r_23, runFirst.sl.r_24]
    try simp (disch := decide) only [runFirst.sl.v443, runFirst.sl.v445, runFirst.sl.H11_2, runFirst.sl.H11_3, runFirst.sl.H11_4, runFirst.sl.H11_5, runFirst.sl.H11_6, runFirst.sl.H11_7, runFirst.sl.H13_2, runFirst.sl.H13_3, runFirst.sl.H13_4, runFirst.sl.H13_5, runFirst.sl.H13_6, runFirst.sl.H13_7, View.readCov, miss, hit]
    try simp only [runFirst.sl.r_18, runFirst.sl.r_6, runFirst.sl.r_22, runFirst.sl.r_1, runFirst.sl.r_4, runFirst.sl.r_5, runFirst.sl.r_11, runFirst.sl.r_9, runFirst.sl.r_7, runFirst.sl.r_24, runFirst.sl.r_14, runFirst.sl.r_8, runFirst.sl.r_17, runFirst.sl.r_23, runFirst.sl.r_16, runFirst.sl.r_15, runFirst.sl.r_2, runFirst.sl.r_12, runFirst.sl.r, runFirst.sl.r_20, runFirst.sl.r_13, runFirst.sl.r_19, runFirst.sl.r_21, runFirst.sl.r_10, runFirst.sl.r_3]
    simp (disch := decide) only [runFirst.sl.H11_1_1, runFirst.sl.H13_1_1, hit]
    try simp only [runFirst.sl.r_18, runFirst.sl.r_6, runFirst.sl.r_22, runFirst.sl.r_1, runFirst.sl.r_4, runFirst.sl.r_5, runFirst.sl.r_11, runFirst.sl.r_9, runFirst.sl.r_7, runFirst.sl.r_24, runFirst.sl.r_14, runFirst.sl.r_8, runFirst.sl.r_17, runFirst.sl.r_23, runFirst.sl.r_16, runFirst.sl.r_15, runFirst.sl.r_2, runFirst.sl.r_12, runFirst.sl.r, runFirst.sl.r_20, runFirst.sl.r_13, runFirst.sl.r_19, runFirst.sl.r_21, runFirst.sl.r_10, runFirst.sl.r_3]
    rw [runFirst_t12 c i arg2 harg2 arg3 harg3 arg4 harg4 arg5 harg5 arg6 harg6 arg7 harg7 arg8 harg8 arg9 harg9 arg10 harg10 arg11 harg11 arg12 harg12 arg13 harg13 X2 X3 X4 X5 X6 X7 hi, runFirst_t13 c i arg2 harg2 arg3 harg3 arg4 harg4 arg5 harg5 arg6 harg6 arg7 harg7 arg8 harg8 arg9 harg9 arg10 harg10 arg11 harg11 arg12 harg12 arg13 harg13 X2 X3 X4 X5 X6 X7 hi, runFirst_t11 c i arg2 harg2 arg3 harg3 arg4 harg4 arg5 harg5 arg6 harg6 arg7 harg7 arg8 harg8 arg9 harg9 arg10 harg10 arg11 harg11 arg12 harg12 arg13 harg13 X2 X3 X4 X5 X6 X7 hi]
    generalize l6 c i arg2 harg2 arg3 harg3 arg4 harg4 arg5 harg5 arg6 harg6 arg7 harg7 arg8 harg8 arg9 harg9 arg10 harg10 arg11 harg11 arg12 harg12 arg13 harg13 (runFirst.sl.v21 i) (runFirst.sl.v23 i) (runFirst.sl.v25 i) (runFirst.sl.v36 i) (runFirst.sl.v37 i) (runFirst.sl.v58 i) (runFirst.sl.v63 i) X2 X3 X4 X6 (arg9.view.writes (Elt F) f9 (pb_k0_t1 (F := F) Variants.none c none i arg2 harg2 arg3 harg3 arg4 harg4 arg5 harg5 arg6 harg6 arg7 harg7 arg8 harg8 arg9 harg9 arg10 harg10 arg11 harg11 arg12 harg12 arg13 harg13 hi X5 (Scf.trips k0_t1_loop.lb k0_t1_loop.ub k0_t1_loop.st))) (arg10.view.writes (Elt F) f10 (pb_k0_t2 (F := F) Variants.none c none i arg2 harg2 arg3 harg3 arg4 harg4 arg5 harg5 arg6 harg6 arg7 harg7 arg8 harg8 arg9 harg9 arg10 harg10 arg11 harg11 arg12 harg12 arg13 harg13 hi X7 (Scf.trips k0_t2_loop.lb k0_t2_loop.ub k0_t2_loop.st))) = l
    rfl
  · show arg8.view.readAt (Elt F) (Rect.unit (s := S256x896) ![0, 128] S256x128.size (inbO ⟨1, hh⟩)).toLoadRect _ = _
    try simp (disch := decide) only [miss1, hit]
    try simp only [runFirst.sl.r_22, runFirst.sl.r_23, runFirst.sl.r_24]
    try simp (disch := decide) only [runFirst.sl.v451, runFirst.sl.v453, runFirst.sl.H11_2, runFirst.sl.H11_3, runFirst.sl.H11_4, runFirst.sl.H11_5, runFirst.sl.H11_6, runFirst.sl.H11_7, runFirst.sl.H13_2, runFirst.sl.H13_3, runFirst.sl.H13_4, runFirst.sl.H13_5, runFirst.sl.H13_6, runFirst.sl.H13_7, View.readCov, miss, hit]
    try simp only [runFirst.sl.r_18, runFirst.sl.r_6, runFirst.sl.r_22, runFirst.sl.r_1, runFirst.sl.r_4, runFirst.sl.r_5, runFirst.sl.r_11, runFirst.sl.r_9, runFirst.sl.r_7, runFirst.sl.r_24, runFirst.sl.r_14, runFirst.sl.r_8, runFirst.sl.r_17, runFirst.sl.r_23, runFirst.sl.r_16, runFirst.sl.r_15, runFirst.sl.r_2, runFirst.sl.r_12, runFirst.sl.r, runFirst.sl.r_20, runFirst.sl.r_13, runFirst.sl.r_19, runFirst.sl.r_21, runFirst.sl.r_10, runFirst.sl.r_3]
    try simp (disch := decide) only [runFirst.sl.v152, runFirst.sl.v161, runFirst.sl.v175, runFirst.sl.H11_2, runFirst.sl.H11_3, runFirst.sl.H11_4, runFirst.sl.H11_5, runFirst.sl.H11_6, runFirst.sl.H11_7, runFirst.sl.H12_2, runFirst.sl.H12_3, runFirst.sl.H12_4, runFirst.sl.H12_5, runFirst.sl.H12_6, runFirst.sl.H13_2, runFirst.sl.H13_3, runFirst.sl.H13_4, runFirst.sl.H13_5, runFirst.sl.H13_6, runFirst.sl.H13_7, View.readCov, miss, runFirst_s11 c i arg2 harg2 arg3 harg3 arg4 harg4 arg5 harg5 arg6 harg6 arg7 harg7 arg8 harg8 arg9 harg9 arg10 harg10 arg11 harg11 arg12 harg12 arg13 harg13 X2 X3 X4 X5 X6 X7 hi, runFirst_s12 c i arg2 harg2 arg3 harg3 arg4 harg4 arg5 harg5 arg6 harg6 arg7 harg7 arg8 harg8 arg9 harg9 arg10 harg10 arg11 harg11 arg12 harg12 arg13 harg13 X2 X3 X4 X5 X6 X7 hi, runFirst_s13 c i arg2 harg2 arg3 harg3 arg4 harg4 arg5 harg5 arg6 harg6 arg7 harg7 arg8 harg8 arg9 harg9 arg10 harg10 arg11 harg11 arg12 harg12 arg13 harg13 X2 X3 X4 X5 X6 X7 hi]
    generalize l6 c i arg2 harg2 arg3 harg3 arg4 harg4 arg5 harg5 arg6 harg6 arg7 harg7 arg8 harg8 arg9 harg9 arg10 harg10 arg11 harg11 arg12 harg12 arg13 harg13 (runFirst.sl.v21 i) (runFirst.sl.v23 i) (runFirst.sl.v25 i) (runFirst.sl.v36 i) (runFirst.sl.v37 i) (runFirst.sl.v58 i) (runFirst.sl.v63 i) X2 X3 X4 X6 (arg9.view.writes (Elt F) f9 (pb_k0_t1 (F := F) Variants.none c none i arg2 harg2 arg3 harg3 arg4 harg4 arg5 harg5 arg6 harg6 arg7 harg7 arg8 harg8 arg9 harg9 arg10 harg10 arg11 harg11 arg12 harg12 arg13 harg13 hi X5 (Scf.trips k0_t1_loop.lb k0_t1_loop.ub k0_t1_loop.st))) (arg10.view.writes (Elt F) f10 (pb_k0_t2 (F := F) Variants.none c none i arg2 harg2 arg3 harg3 arg4 harg4 arg5 harg5 arg6 harg6 arg7 harg7 arg8 harg8 arg9 harg9 arg10 harg10 arg11 harg11 arg12 harg12 arg13 harg13 hi X7 (Scf.trips k0_t2_loop.lb k0_t2_loop.ub k0_t2_loop.st))) = l
    rfl
  · show arg8.view.readAt (Elt F) (Rect.unit (s := S256x896) ![0, 256] S256x128.size (inbO ⟨2, hh⟩)).toLoadRect _ = _
    try simp (disch := decide) only [miss1, hit]
    try simp only [runFirst.sl.r_22, runFirst.sl.r_23, runFirst.sl.r_24]
    try simp (disch := decide) only [runFirst.sl.v459, runFirst.sl.v461, runFirst.sl.H11_2, runFirst.sl.H11_3, runFirst.sl.H11_4, runFirst.sl.H11_5, runFirst.sl.H11_6, runFirst.sl.H11_7, runFirst.sl.H13_2, runFirst.sl.H13_3, runFirst.sl.H13_4, runFirst.sl.H13_5, runFirst.sl.H13_6, runFirst.sl.H13_7, View.readCov, miss, hit]
    try simp only [runFirst.sl.r_18, runFirst.sl.r_6, runFirst.sl.r_22, runFirst.sl.r_1, runFirst.sl.r_4, runFirst.sl.r_5, runFirst.sl.r_11, runFirst.sl.r_9, runFirst.sl.r_7, runFirst.sl.r_24, runFirst.sl.r_14, runFirst.sl.r_8, runFirst.sl.r_17, runFirst.sl.r_23, runFirst.sl.r_16, runFirst.sl.r_15, runFirst.sl.r_2, runFirst.sl.r_12, runFirst.sl.r, runFirst.sl.r_20, runFirst.sl.r_13, runFirst.sl.r_19, runFirst.sl.r_21, runFirst.sl.r_10, runFirst.sl.r_3]
    try simp (disch := decide) only [runFirst.sl.v204, runFirst.sl.v213, runFirst.sl.v227, runFirst.sl.H11_2, runFirst.sl.H11_3, runFirst.sl.H11_4, runFirst.sl.H11_5, runFirst.sl.H11_6, runFirst.sl.H11_7, runFirst.sl.H12_2, runFirst.sl.H12_3, runFirst.sl.H12_4, runFirst.sl.H12_5, runFirst.sl.H12_6, runFirst.sl.H13_2, runFirst.sl.H13_3, runFirst.sl.H13_4, runFirst.sl.H13_5, runFirst.sl.H13_6, runFirst.sl.H13_7, View.readCov, miss, runFirst_s11 c i arg2 harg2 arg3 harg3 arg4 harg4 arg5 harg5 arg6 harg6 arg7 harg7 arg8 harg8 arg9 harg9 arg10 harg10 arg11 harg11 arg12 harg12 arg13 harg13 X2 X3 X4 X5 X6 X7 hi, runFirst_s12 c i arg2 harg2 arg3 harg3 arg4 harg4 arg5 harg5 arg6 harg6 arg7 harg7 arg8 harg8 arg9 harg9 arg10 harg10 arg11 harg11 arg12 harg12 arg13 harg13 X2 X3 X4 X5 X6 X7 hi, runFirst_s13 c i arg2 harg2 arg3 harg3 arg4 harg4 arg5 harg5 arg6 harg6 arg7 harg7 arg8 harg8 arg9 harg9 arg10 harg10 arg11 harg11 arg12 harg12 arg13 harg13 X2 X3 X4 X5 X6 X7 hi]
    generalize l6 c i arg2 harg2 arg3 harg3 arg4 harg4 arg5 harg5 arg6 harg6 arg7 harg7 arg8 harg8 arg9 harg9 arg10 harg10 arg11 harg11 arg12 harg12 arg13 harg13 (runFirst.sl.v21 i) (runFirst.sl.v23 i) (runFirst.sl.v25 i) (runFirst.sl.v36 i) (runFirst.sl.v37 i) (runFirst.sl.v58 i) (runFirst.sl.v63 i) X2 X3 X4 X6 (arg9.view.writes (Elt F) f9 (pb_k0_t1 (F := F) Variants.none c none i arg2 harg2 arg3 harg3 arg4 harg4 arg5 harg5 arg6 harg6 arg7 harg7 arg8 harg8 arg9 harg9 arg10 harg10 arg11 harg11 arg12 harg12 arg13 harg13 hi X5 (Scf.trips k0_t1_loop.lb k0_t1_loop.ub k0_t1_loop.st))) (arg10.view.writes (Elt F) f10 (pb_k0_t2 (F := F) Variants.none c none i arg2 harg2 arg3 harg3 arg4 harg4 arg5 harg5 arg6 harg6 arg7 harg7 arg8 harg8 arg9 harg9 arg10 harg10 arg11 harg11 arg12 harg12 arg13 harg13 hi X7 (Scf.trips k0_t2_loop.lb k0_t2_loop.ub k0_t2_loop.st))) = l
    rfl
  · show arg8.view.readAt (Elt F) (Rect.unit (s := S256x896) ![0, 384] S256x128.size (inbO ⟨3, hh⟩)).toLoadRect _ = _
    try simp (disch := decide) only [miss1, hit]
    try simp only [runFirst.sl.r_22, runFirst.sl.r_23, runFirst.sl.r_24]
    try simp (disch := decide) only [runFirst.sl.v467, runFirst.sl.v469, runFirst.sl.H11_2, runFirst.sl.H11_3, runFirst.sl.H11_4, runFirst.sl.H11_5, runFirst.sl.H11_6, runFirst.sl.H11_7, runFirst.sl.H13_2, runFirst.sl.H13_3, runFirst.sl.H13_4, runFirst.sl.H13_5, runFirst.sl.H13_6, runFirst.sl.H13_7, View.readCov, miss, hit]
    try simp only [runFirst.sl.r_18, runFirst.sl.r_6, runFirst.sl.r_22, runFirst.sl.r_1, runFirst.sl.r_4, runFirst.sl.r_5, runFirst.sl.r_11, runFirst.sl.r_9, runFirst.sl.r_7, runFirst.sl.r_24, runFirst.sl.r_14, runFirst.sl.r_8, runFirst.sl.r_17, runFirst.sl.r_23, runFirst.sl.r_16, runFirst.sl.r_15, runFirst.sl.r_2, runFirst.sl.r_12, runFirst.sl.r, runFirst.sl.r_20, runFirst.sl.r_13, runFirst.sl.r_19, runFirst.sl.r_21, runFirst.sl.r_10, runFirst.sl.r_3]
    try simp (disch := decide) only [runFirst.sl.v256, runFirst.sl.v265, runFirst.sl.v279, runFirst.sl.H11_2, runFirst.sl.H11_3, runFirst.sl.H11_4, runFirst.sl.H11_5, runFirst.sl.H11_6, runFirst.sl.H11_7, runFirst.sl.H12_2, runFirst.sl.H12_3, runFirst.sl.H12_4, runFirst.sl.H12_5, runFirst.sl.H12_6, runFirst.sl.H13_2, runFirst.sl.H13_3, runFirst.sl.H13_4, runFirst.sl.H13_5, runFirst.sl.H13_6, runFirst.sl.H13_7, View.readCov, miss, runFirst_s11 c i arg2 harg2 arg3 harg3 arg4 harg4 arg5 harg5 arg6 harg6 arg7 harg7 arg8 harg8 arg9 harg9 arg10 harg10 arg11 harg11 arg12 harg12 arg13 harg13 X2 X3 X4 X5 X6 X7 hi, runFirst_s12 c i arg2 harg2 arg3 harg3 arg4 harg4 arg5 harg5 arg6 harg6 arg7 harg7 arg8 harg8 arg9 harg9 arg10 harg10 arg11 harg11 arg12 harg12 arg13 harg13 X2 X3 X4 X5 X6 X7 hi, runFirst_s13 c i arg2 harg2 arg3 harg3 arg4 harg4 arg5 harg5 arg6 harg6 arg7 harg7 arg8 harg8 arg9 harg9 arg10 harg10 arg11 harg11 arg12 harg12 arg13 harg13 X2 X3 X4 X5 X6 X7 hi]
    generalize l6 c i arg2 harg2 arg3 harg3 arg4 harg4 arg5 harg5 arg6 harg6 arg7 harg7 arg8 harg8 arg9 harg9 arg10 harg10 arg11 harg11 arg12 harg12 arg13 harg13 (runFirst.sl.v21 i) (runFirst.sl.v23 i) (runFirst.sl.v25 i) (runFirst.sl.v36 i) (runFirst.sl.v37 i) (runFirst.sl.v58 i) (runFirst.sl.v63 i) X2 X3 X4 X6 (arg9.view.writes (Elt F) f9 (pb_k0_t1 (F := F) Variants.none c none i arg2 harg2 arg3 harg3 arg4 harg4 arg5 harg5 arg6 harg6 arg7 harg7 arg8 harg8 arg9 harg9 arg10 harg10 arg11 harg11 arg12 harg12 arg13 harg13 hi X5 (Scf.trips k0_t1_loop.lb k0_t1_loop.ub k0_t1_loop.st))) (arg10.view.writes (Elt F) f10 (pb_k0_t2 (F := F) Variants.none c none i arg2 harg2 arg3 harg3 arg4 harg4 arg5 harg5 arg6 harg6 arg7 harg7 arg8 harg8 arg9 harg9 arg10 harg10 arg11 harg11 arg12 harg12 arg13 harg13 hi X7 (Scf.trips k0_t2_loop.lb k0_t2_loop.ub k0_t2_loop.st))) = l
    rfl
  · show arg8.view.readAt (Elt F) (Rect.unit (s := S256x896) ![0, 512] S256x128.size (inbO ⟨4, hh⟩)).toLoadRect _ = _
    try simp (disch := decide) only [miss1, hit]
    try simp only [runFirst.sl.r_22, runFirst.sl.r_23, runFirst.sl.r_24]
    try simp (disch := decide) only [runFirst.sl.v475, runFirst.sl.v477, runFirst.sl.H11_2, runFirst.sl.H11_3, runFirst.sl.H11_4, runFirst.sl.H11_5, runFirst.sl.H11_6, runFirst.sl.H11_7, runFirst.sl.H13_2, runFirst.sl.H13_3, runFirst.sl.H13_4, runFirst.sl.H13_5, runFirst.sl.H13_6, runFirst.sl.H13_7, View.readCov, miss, hit]
    try simp only [runFirst.sl.r_18, runFirst.sl.r_6, runFirst.sl.r_22, runFirst.sl.r_1, runFirst.sl.r_4, runFirst.sl.r_5, runFirst.sl.r_11, runFirst.sl.r_9, runFirst.sl.r_7, runFirst.sl.r_24, runFirst.sl.r_14, runFirst.sl.r_8, runFirst.sl.r_17, runFirst.sl.r_23, runFirst.sl.r_16, runFirst.sl.r_15, runFirst.sl.r_2, runFirst.sl.r_12, runFirst.sl.r, runFirst.sl.r_20, runFirst.sl.r_13, runFirst.sl.r_19, runFirst.sl.r_21, runFirst.sl.r_10, runFirst.sl.r_3]
    try simp (disch := decide) only [runFirst.sl.v308, runFirst.sl.v317, runFirst.sl.v331, runFirst.sl.H11_2, runFirst.sl.H11_3, runFirst.sl.H11_4, runFirst.sl.H11_5, runFirst.sl.H11_6, runFirst.sl.H11_7, runFirst.sl.H12_2, runFirst.sl.H12_3, runFirst.sl.H12_4, runFirst.sl.H12_5, runFirst.sl.H12_6, runFirst.sl.H13_2, runFirst.sl.H13_3, runFirst.sl.H13_4, runFirst.sl.H13_5, runFirst.sl.H13_6, runFirst.sl.H13_7, View.readCov, miss, runFirst_s11 c i arg2 harg2 arg3 harg3 arg4 harg4 arg5 harg5 arg6 harg6 arg7 harg7 arg8 harg8 arg9 harg9 arg10 harg10 arg11 harg11 arg12 harg12 arg13 harg13 X2 X3 X4 X5 X6 X7 hi, runFirst_s12 c i arg2 harg2 arg3 harg3 arg4 harg4 arg5 harg5 arg6 harg6 arg7 harg7 arg8 harg8 arg9 harg9 arg10 harg10 arg11 harg11 arg12 harg12 arg13 harg13 X2 X3 X4 X5 X6 X7 hi, runFirst_s13 c i arg2 harg2 arg3 harg3 arg4 harg4 arg5 harg5 arg6 harg6 arg7 harg7 arg8 harg8 arg9 harg9 arg10 harg10 arg11 harg11 arg12 harg12 arg13 harg13 X2 X3 X4 X5 X6 X7 hi]
    generalize l6 c i arg2 harg2 arg3 harg3 arg4 harg4 arg5 harg5 arg6 harg6 arg7 harg7 arg8 harg8 arg9 harg9 arg10 harg10 arg11 harg11 arg12 harg12 arg13 harg13 (runFirst.sl.v21 i) (runFirst.sl.v23 i) (runFirst.sl.v25 i) (runFirst.sl.v36 i) (runFirst.sl.v37 i) (runFirst.sl.v58 i) (runFirst.sl.v63 i) X2 X3 X4 X6 (arg9.view.writes (Elt F) f9 (pb_k0_t1 (F := F) Variants.none c none i arg2 harg2 arg3 harg3 arg4 harg4 arg5 harg5 arg6 harg6 arg7 harg7 arg8 harg8 arg9 harg9 arg10 harg10 arg11 harg11 arg12 harg12 arg13 harg13 hi X5 (Scf.trips k0_t1_loop.lb k0_t1_loop.ub k0_t1_loop.st))) (arg10.view.writes (Elt F) f10 (pb_k0_t2 (F := F) Variants.none c none i arg2 harg2 arg3 harg3 arg4 harg4 arg5 harg5 arg6 harg6 arg7 harg7 arg8 harg8 arg9 harg9 arg10 harg10 arg11 harg11 arg12 harg12 arg13 harg13 hi X7 (Scf.trips k0_t2_loop.lb k0_t2_loop.ub k0_t2_loop.st))) = l
    rfl
  · show arg8.view.readAt (Elt F) (Rect.unit (s := S256x896) ![0, 640] S256x128.size (inbO ⟨5, hh⟩)).toLoadRect _ = _
    try simp (disch := decide) only [miss1, hit]
    try simp only [runFirst.sl.r_22, runFirst.sl.r_23, runFirst.sl.r_24]
    try simp (disch := decide) only [runFirst.sl.v483, runFirst.sl.v485, runFirst.sl.H11_2, runFirst.sl.H11_3, runFirst.sl.H11_4, runFirst.sl.H11_5, runFirst.sl.H11_6, runFirst.sl.H11_7, runFirst.sl.H13_2, runFirst.sl.H13_3, runFirst.sl.H13_4, runFirst.sl.H13_5, runFirst.sl.H13_6, runFirst.sl.H13_7, View.readCov, miss, hit]
    try simp only [runFirst.sl.r_18, runFirst.sl.r_6, runFirst.sl.r_22, runFirst.sl.r_1, runFirst.sl.r_4, runFirst.sl.r_5, runFirst.sl.r_11, runFirst.sl.r_9, runFirst.sl.r_7, runFirst.sl.r_24, runFirst.sl.r_14, runFirst.sl.r_8, runFirst.sl.r_17, runFirst.sl.r_23, runFirst.sl.r_16, runFirst.sl.r_15, runFirst.sl.r_2, runFirst.sl.r_12, runFirst.sl.r, runFirst.sl.r_20, runFirst.sl.r_13, runFirst.sl.r_19, runFirst.sl.r_21, runFirst.sl.r_10, runFirst.sl.r_3]
    try simp (disch := decide) only [runFirst.sl.v360, runFirst.sl.v369, runFirst.sl.v383, runFirst.sl.H11_2, runFirst.sl.H11_3, runFirst.sl.H11_4, runFirst.sl.H11_5, runFirst.sl.H11_6, runFirst.sl.H11_7, runFirst.sl.H12_2, runFirst.sl.H12_3, runFirst.sl.H12_4, runFirst.sl.H12_5, runFirst.sl.H12_6, runFirst.sl.H13_2, runFirst.sl.H13_3, runFirst.sl.H13_4, runFirst.sl.H13_5, runFirst.sl.H13_6, runFirst.sl.H13_7, View.readCov, miss, runFirst_s11 c i arg2 harg2 arg3 harg3 arg4 harg4 arg5 harg5 arg6 harg6 arg7 harg7 arg8 harg8 arg9 harg9 arg10 harg10 arg11 harg11 arg12 harg12 arg13 harg13 X2 X3 X4 X5 X6 X7 hi, runFirst_s12 c i arg2 harg2 arg3 harg3 arg4 harg4 arg5 harg5 arg6 harg6 arg7 harg7 arg8 harg8 arg9 harg9 arg10 harg10 arg11 harg11 arg12 harg12 arg13 harg13 X2 X3 X4 X5 X6 X7 hi, runFirst_s13 c i arg2 harg2 arg3 harg3 arg4 harg4 arg5 harg5 arg6 harg6 arg7 harg7 arg8 harg8 arg9 harg9 arg10 harg10 arg11 harg11 arg12 harg12 arg13 harg13 X2 X3 X4 X5 X6 X7 hi]
    generalize l6 c i arg2 harg2 arg3 harg3 arg4 harg4 arg5 harg5 arg6 harg6 arg7 harg7 arg8 harg8 arg9 harg9 arg10 harg10 arg11 harg11 arg12 harg12 arg13 harg13 (runFirst.sl.v21 i) (runFirst.sl.v23 i) (runFirst.sl.v25 i) (runFirst.sl.v36 i) (runFirst.sl.v37 i) (runFirst.sl.v58 i) (runFirst.sl.v63 i) X2 X3 X4 X6 (arg9.view.writes (Elt F) f9 (pb_k0_t1 (F := F) Variants.none c none i arg2 harg2 arg3 harg3 arg4 harg4 arg5 harg5 arg6 harg6 arg7 harg7 arg8 harg8 arg9 harg9 arg10 harg10 arg11 harg11 arg12 harg12 arg13 harg13 hi X5 (Scf.trips k0_t1_loop.lb k0_t1_loop.ub k0_t1_loop.st))) (arg10.view.writes (Elt F) f10 (pb_k0_t2 (F := F) Variants.none c none i arg2 harg2 arg3 harg3 arg4 harg4 arg5 harg5 arg6 harg6 arg7 harg7 arg8 harg8 arg9 harg9 arg10 harg10 arg11 harg11 arg12 harg12 arg13 harg13 hi X7 (Scf.trips k0_t2_loop.lb k0_t2_loop.ub k0_t2_loop.st))) = l
    rfl
  · show arg8.view.readAt (Elt F) (Rect.unit (s := S256x896) ![0, 768] S256x128.size (inbO ⟨6, hh⟩)).toLoadRect _ = _
    try simp (disch := decide) only [miss1, hit]
    try simp only [runFirst.sl.r_22, runFirst.sl.r_23, runFirst.sl.r_24]
    try simp (disch := decide) only [runFirst.sl.v491, runFirst.sl.v493, runFirst.sl.H11_2, runFirst.sl.H11_3, runFirst.sl.H11_4, runFirst.sl.H11_5, runFirst.sl.H11_6, runFirst.sl.H11_7, runFirst.sl.H13_2, runFirst.sl.H13_3, runFirst.sl.H13_4, runFirst.sl.H13_5, runFirst.sl.H13_6, runFirst.sl.H13_7, View.readCov, miss, hit]
    try simp only [runFirst.sl.r_18, runFirst.sl.r_6, runFirst.sl.r_22, runFirst.sl.r_1, runFirst.sl.r_4, runFirst.sl.r_5, runFirst.sl.r_11, runFirst.sl.r_9, runFirst.sl.r_7, runFirst.sl.r_24, runFirst.sl.r_14, runFirst.sl.r_8, runFirst.sl.r_17, runFirst.sl.r_23, runFirst.sl.r_16, runFirst.sl.r_15, runFirst.sl.r_2, runFirst.sl.r_12, runFirst.sl.r, runFirst.sl.r_20, runFirst.sl.r_13, runFirst.sl.r_19, runFirst.sl.r_21, runFirst.sl.r_10, runFirst.sl.r_3]
    try simp (disch := decide) only [runFirst.sl.v412, runFirst.sl.v421, runFirst.sl.v435, runFirst.sl.H11_2, runFirst.sl.H11_3, runFirst.sl.H11_4, runFirst.sl.H11_5, runFirst.sl.H11_6, runFirst.sl.H11_7, runFirst.sl.H12_2, runFirst.sl.H12_3, runFirst.sl.H12_4, runFirst.sl.H12_5, runFirst.sl.H12_6, runFirst.sl.H13_2, runFirst.sl.H13_3, runFirst.sl.H13_4, runFirst.sl.H13_5, runFirst.sl.H13_6, runFirst.sl.H13_7, View.readCov, miss, runFirst_s11 c i arg2 harg2 arg3 harg3 arg4 harg4 arg5 harg5 arg6 harg6 arg7 harg7 arg8 harg8 arg9 harg9 arg10 harg10 arg11 harg11 arg12 harg12 arg13 harg13 X2 X3 X4 X5 X6 X7 hi, runFirst_s12 c i arg2 harg2 arg3 harg3 arg4 harg4 arg5 harg5 arg6 harg6 arg7 harg7 arg8 harg8 arg9 harg9 arg10 harg10 arg11 harg11 arg12 harg12 arg13 harg13 X2 X3 X4 X5 X6 X7 hi, runFirst_s13 c i arg2 harg2 arg3 harg3 arg4 harg4 arg5 harg5 arg6 harg6 arg7 harg7 arg8 harg8 arg9 harg9 arg10 harg10 arg11 harg11 arg12 harg12 arg13 harg13 X2 X3 X4 X5 X6 X7 hi]
    generalize l6 c i arg2 harg2 arg3 harg3 arg4 harg4 arg5 harg5 arg6 harg6 arg7 harg7 arg8 harg8 arg9 harg9 arg10 harg10 arg11 harg11 arg12 harg12 arg13 harg13 (runFirst.sl.v21 i) (runFirst.sl.v23 i) (runFirst.sl.v25 i) (runFirst.sl.v36 i) (runFirst.sl.v37 i) (runFirst.sl.v58 i) (runFirst.sl.v63 i) X2 X3 X4 X6 (arg9.view.writes (Elt F) f9 (pb_k0_t1 (F := F) Variants.none c none i arg2 harg2 arg3 harg3 arg4 harg4 arg5 harg5 arg6 harg6 arg7 harg7 arg8 harg8 arg9 harg9 arg10 harg10 arg11 harg11 arg12 harg12 arg13 harg13 hi X5 (Scf.trips k0_t1_loop.lb k0_t1_loop.ub k0_t1_loop.st))) (arg10.view.writes (Elt F) f10 (pb_k0_t2 (F := F) Variants.none c none i arg2 harg2 arg3 harg3 arg4 harg4 arg5 harg5 arg6 harg6 arg7 harg7 arg8 harg8 arg9 harg9 arg10 harg10 arg11 harg11 arg12 harg12 arg13 harg13 hi X7 (Scf.trips k0_t2_loop.lb k0_t2_loop.ub k0_t2_loop.st))) = l
    rfl

end Cert.KernelIdeal.Mid
-- ==== Proof.MidLater.lean ====
/- What the body stores in a head's columns of the output block, in terms of the running values after the two loops. -/
module

public import proofs.«01_k».proof.Proof.Run
public import proofs.«01_k».proof.Proof.Mid

@[expose] public section

set_option maxRecDepth 16384

noncomputable section

namespace Cert.KernelIdeal.Mid

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.Step Cert.KernelIdeal.Run

attribute [local irreducible] pb_k0_t1 pb_k0_t2 pb_k0_t3 pb_k0_t4 pb_k0_t5 pb_k0_t6

/-- The first head's load of its running value reads what the loops left. -/
theorem runLater_t12 (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (hi : ¬ k0_cond1 i = 1#1) (f9 : BufTy.Contents (Elt F) arg9.view.ty) (f10 : BufTy.Contents (Elt F) arg10.view.ty) :
    runLater.sl.v100 c i arg2 harg2 arg3 harg3 arg4 harg4 arg5 harg5 arg6 harg6 arg7 harg7 arg8 harg8 arg9 harg9 arg10 harg10 arg11 harg11 arg12 harg12 arg13 harg13 X2 X3 X4 X6 f9 f10 = arg12.view.readAt (Elt F) (Rect.unit (s := S8x256) ![0, 0] S1x256.size inb_S8x256_S1x256_0_0).toLoadRect
      (arg12.view.writes (Elt F) arg12.view.junk (l6 c i arg2 harg2 arg3 harg3 arg4 harg4 arg5 harg5 arg6 harg6 arg7 harg7 arg8 harg8 arg9 harg9 arg10 harg10 arg11 harg11 arg12 harg12 arg13 harg13 (runLater.sl.v21 i) (runLater.sl.v23 i) (runLater.sl.v25 i) (runLater.sl.v36 i) (runLater.sl.v37 i) (runLater.sl.v58 i) (runLater.sl.v63 i) X2 X3 X4 X6 f9 f10).2.1) := by
  unfold runLater.sl.v100 View.readCov l6 l5 l4 l3
  dsimp only
  rfl

/-- Every other head's load does not see what the first head stored. -/
theorem runLater_s12 (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (hi : ¬ k0_cond1 i = 1#1) (f9 : BufTy.Contents (Elt F) arg9.view.ty) (f10 : BufTy.Contents (Elt F) arg10.view.ty) {off size : Fin 2 → ℕ}
    (inb : ∀ a, off a + size a ≤ S8x256.size a) (h : 1 ≤ off 0) :
    arg12.view.readAt (Elt F) (Rect.unit (s := S8x256) off size inb).toLoadRect (arg12.view.writes (Elt F) arg12.view.junk (runLater.sl.H12_1_1 c i arg2 harg2 arg3 harg3 arg4 harg4 arg5 harg5 arg6 harg6 arg7 harg7 arg8 harg8 arg9 harg9 arg10 harg10 arg11 harg11 arg12 harg12 arg13 harg13 X2 X3 X4 X6 f9 f10))
      = arg12.view.readAt (Elt F) (Rect.unit (s := S8x256) off size inb).toLoadRect
      (arg12.view.writes (Elt F) arg12.view.junk (l6 c i arg2 harg2 arg3 harg3 arg4 harg4 arg5 harg5 arg6 harg6 arg7 harg7 arg8 harg8 arg9 harg9 arg10 harg10 arg11 harg11 arg12 harg12 arg13 harg13 (runLater.sl.v21 i) (runLater.sl.v23 i) (runLater.sl.v25 i) (runLater.sl.v36 i) (runLater.sl.v37 i) (runLater.sl.v58 i) (runLater.sl.v63 i) X2 X3 X4 X6 f9 f10).2.1) :=
  by
  unfold runLater.sl.H12_1_1 l6 l5 l4 l3
  dsimp only
  exact miss arg12.view _ _ inb _ _ (Or.inr h)

/-- The first head's load of its running value reads what the loops left. -/
theorem runLater_t13 (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (hi : ¬ k0_cond1 i = 1#1) (f9 : BufTy.Contents (Elt F) arg9.view.ty) (f10 : BufTy.Contents (Elt F) arg10.view.ty) :
    runLater.sl.v109 c i arg2 harg2 arg3 harg3 arg4 harg4 arg5 harg5 arg6 harg6 arg7 harg7 arg8 harg8 arg9 harg9 arg10 harg10 arg11 harg11 arg12 harg12 arg13 harg13 X2 X3 X4 X6 f9 f10 = arg13.view.readAt (Elt F) (Rect.unit (s := S8x256) ![0, 0] S1x256.size inb_S8x256_S1x256_0_0).toLoadRect
      (arg13.view.writes (Elt F) arg13.view.junk (l6 c i arg2 harg2 arg3 harg3 arg4 harg4 arg5 harg5 arg6 harg6 arg7 harg7 arg8 harg8 arg9 harg9 arg10 harg10 arg11 harg11 arg12 harg12 arg13 harg13 (runLater.sl.v21 i) (runLater.sl.v23 i) (runLater.sl.v25 i) (runLater.sl.v36 i) (runLater.sl.v37 i) (runLater.sl.v58 i) (runLater.sl.v63 i) X2 X3 X4 X6 f9 f10).2.2) := by
  unfold runLater.sl.v109 View.readCov l6 l5 l4 l3
  dsimp only
  rfl

/-- Every other head's load does not see what the first head stored. -/
theorem runLater_s13 (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (hi : ¬ k0_cond1 i = 1#1) (f9 : BufTy.Contents (Elt F) arg9.view.ty) (f10 : BufTy.Contents (Elt F) arg10.view.ty) {off size : Fin 2 → ℕ}
    (inb : ∀ a, off a + size a ≤ S8x256.size a) (h : 1 ≤ off 0) :
    arg13.view.readAt (Elt F) (Rect.unit (s := S8x256) off size inb).toLoadRect (arg13.view.writes (Elt F) arg13.view.junk (runLater.sl.H13_1_1 c i arg2 harg2 arg3 harg3 arg4 harg4 arg5 harg5 arg6 harg6 arg7 harg7 arg8 harg8 arg9 harg9 arg10 harg10 arg11 harg11 arg12 harg12 arg13 harg13 X2 X3 X4 X6 f9 f10))
      = arg13.view.readAt (Elt F) (Rect.unit (s := S8x256) off size inb).toLoadRect
      (arg13.view.writes (Elt F) arg13.view.junk (l6 c i arg2 harg2 arg3 harg3 arg4 harg4 arg5 harg5 arg6 harg6 arg7 harg7 arg8 harg8 arg9 harg9 arg10 harg10 arg11 harg11 arg12 harg12 arg13 harg13 (runLater.sl.v21 i) (runLater.sl.v23 i) (runLater.sl.v25 i) (runLater.sl.v36 i) (runLater.sl.v37 i) (runLater.sl.v58 i) (runLater.sl.v63 i) X2 X3 X4 X6 f9 f10).2.2) :=
  by
  unfold runLater.sl.H13_1_1 l6 l5 l4 l3
  dsimp only
  exact miss arg13.view _ _ inb _ _ (Or.inr h)

/-- The first head's load of its running value reads what the loops left. -/
theorem runLater_t11 (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (hi : ¬ k0_cond1 i = 1#1) (f9 : BufTy.Contents (Elt F) arg9.view.ty) (f10 : BufTy.Contents (Elt F) arg10.view.ty) :
    runLater.sl.v123 c i arg2 harg2 arg3 harg3 arg4 harg4 arg5 harg5 arg6 harg6 arg7 harg7 arg8 harg8 arg9 harg9 arg10 harg10 arg11 harg11 arg12 harg12 arg13 harg13 X2 X3 X4 X6 f9 f10 = arg11.view.readAt (Elt F) (Rect.unit (s := S7x128x256) ![0, 0, 0] S1x128x256.size inb_S7x128x256_S1x128x256_0_0_0).toLoadRect
      (arg11.view.writes (Elt F) arg11.view.junk (l6 c i arg2 harg2 arg3 harg3 arg4 harg4 arg5 harg5 arg6 harg6 arg7 harg7 arg8 harg8 arg9 harg9 arg10 harg10 arg11 harg11 arg12 harg12 arg13 harg13 (runLater.sl.v21 i) (runLater.sl.v23 i) (runLater.sl.v25 i) (runLater.sl.v36 i) (runLater.sl.v37 i) (runLater.sl.v58 i) (runLater.sl.v63 i) X2 X3 X4 X6 f9 f10).1) := by
  unfold runLater.sl.v123 View.readCov l6 l5 l4 l3
  dsimp only
  rfl

/-- Every other head's load does not see what the first head stored. -/
theorem runLater_s11 (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (hi : ¬ k0_cond1 i = 1#1) (f9 : BufTy.Contents (Elt F) arg9.view.ty) (f10 : BufTy.Contents (Elt F) arg10.view.ty) {off size : Fin 3 → ℕ}
    (inb : ∀ a, off a + size a ≤ S7x128x256.size a) (h : 1 ≤ off 0) :
    arg11.view.readAt (Elt F) (Rect.unit (s := S7x128x256) off size inb).toLoadRect (arg11.view.writes (Elt F) arg11.view.junk (runLater.sl.H11_1_1 c i arg2 harg2 arg3 harg3 arg4 harg4 arg5 harg5 arg6 harg6 arg7 harg7 arg8 harg8 arg9 harg9 arg10 harg10 arg11 harg11 arg12 harg12 arg13 harg13 X2 X3 X4 X6 f9 f10))
      = arg11.view.readAt (Elt F) (Rect.unit (s := S7x128x256) off size inb).toLoadRect
      (arg11.view.writes (Elt F) arg11.view.junk (l6 c i arg2 harg2 arg3 harg3 arg4 harg4 arg5 harg5 arg6 harg6 arg7 harg7 arg8 harg8 arg9 harg9 arg10 harg10 arg11 harg11 arg12 harg12 arg13 harg13 (runLater.sl.v21 i) (runLater.sl.v23 i) (runLater.sl.v25 i) (runLater.sl.v36 i) (runLater.sl.v37 i) (runLater.sl.v58 i) (runLater.sl.v63 i) X2 X3 X4 X6 f9 f10).1) :=
  by
  unfold runLater.sl.H11_1_1 l6 l5 l4 l3
  dsimp only
  exact miss arg11.view _ _ inb _ _ (Or.inr h)

set_option maxHeartbeats 8000000 in
/-- What the body leaves in the output columns of a head: the quotient of the running values after the masked block. -/
theorem runLater_col (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (hi : ¬ k0_cond1 i = 1#1) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (h : Fin 7) :
    colO arg8 h (arg8.view.writes (Elt F) f8 ((runLater c i arg2 harg2 arg3 harg3 arg4 harg4 arg5 harg5 arg6 harg6 arg7 harg7 arg8 harg8 arg9 harg9 arg10 harg10 arg11 harg11 arg12 harg12 arg13 harg13 X2 X3 X4 X5 X6 X7 hi).1 f8 f9 f10 f11 f12 f13))
      = k0_pay3 (stA (xm i arg2 harg2 arg3 harg3 arg4 harg4 arg5 harg5 arg6 harg6 arg7 harg7 arg8 harg8 arg9 harg9 arg10 harg10 arg11 harg11 arg12 harg12 arg13 harg13 (runLater.sl.v3 i) (runLater.sl.v65 i) X2 X3 X4 X6 f9 f10 h) (arg6.view.readAt (Elt F) (Rect.unit (s := S1x128x21504) (k0_off18 i) S1x128x512.size (k0_off18_inb i)).toLoadRect X6)
            (arg10.view.readAt (Elt F) (Rect.unit (s := S21504x128) (k0_off19 i) S512x128.size (k0_off19_inb i)).toLoadRect f10)
            (rowM arg12 h (arg12.view.writes (Elt F) arg12.view.junk (l6 c i arg2 harg2 arg3 harg3 arg4 harg4 arg5 harg5 arg6 harg6 arg7 harg7 arg8 harg8 arg9 harg9 arg10 harg10 arg11 harg11 arg12 harg12 arg13 harg13 (runLater.sl.v21 i) (runLater.sl.v23 i) (runLater.sl.v25 i) (runLater.sl.v36 i) (runLater.sl.v37 i) (runLater.sl.v58 i) (runLater.sl.v63 i) X2 X3 X4 X6 f9 f10).2.1)) (rowA arg11 h (arg11.view.writes (Elt F) arg11.view.junk (l6 c i arg2 harg2 arg3 harg3 arg4 harg4 arg5 harg5 arg6 harg6 arg7 harg7 arg8 harg8 arg9 harg9 arg10 harg10 arg11 harg11 arg12 harg12 arg13 harg13 (runLater.sl.v21 i) (runLater.sl.v23 i) (runLater.sl.v25 i) (runLater.sl.v36 i) (runLater.sl.v37 i) (runLater.sl.v58 i) (runLater.sl.v63 i) X2 X3 X4 X6 f9 f10).1)))
          (stL (xm i arg2 harg2 arg3 harg3 arg4 harg4 arg5 harg5 arg6 harg6 arg7 harg7 arg8 harg8 arg9 harg9 arg10 harg10 arg11 harg11 arg12 harg12 arg13 harg13 (runLater.sl.v3 i) (runLater.sl.v65 i) X2 X3 X4 X6 f9 f10 h) (rowM arg12 h (arg12.view.writes (Elt F) arg12.view.junk (l6 c i arg2 harg2 arg3 harg3 arg4 harg4 arg5 harg5 arg6 harg6 arg7 harg7 arg8 harg8 arg9 harg9 arg10 harg10 arg11 harg11 arg12 harg12 arg13 harg13 (runLater.sl.v21 i) (runLater.sl.v23 i) (runLater.sl.v25 i) (runLater.sl.v36 i) (runLater.sl.v37 i) (runLater.sl.v58 i) (runLater.sl.v63 i) X2 X3 X4 X6 f9 f10).2.1)) (rowM arg13 h (arg13.view.writes (Elt F) arg13.view.junk (l6 c i arg2 harg2 arg3 harg3 arg4 harg4 arg5 harg5 arg6 harg6 arg7 harg7 arg8 harg8 arg9 harg9 arg10 harg10 arg11 harg11 arg12 harg12 arg13 harg13 (runLater.sl.v21 i) (runLater.sl.v23 i) (runLater.sl.v25 i) (runLater.sl.v36 i) (runLater.sl.v37 i) (runLater.sl.v58 i) (runLater.sl.v63 i) X2 X3 X4 X6 f9 f10).2.2))) := by
  unfold runLater
  obtain ⟨h, hh⟩ := h
  interval_cases h
  · show arg8.view.readAt (Elt F) (Rect.unit (s := S256x896) ![0, 0] S256x128.size (inbO ⟨0, hh⟩)).toLoadRect _ = _
    try simp (disch := decide) only [miss1, hit]
    try simp only [runLater.sl.r_22, runLater.sl.r_23, runLater.sl.r_24]
    try simp (disch := decide) only [runLater.sl.v443, runLater.sl.v445, runLater.sl.H11_2, runLater.sl.H11_3, runLater.sl.H11_4, runLater.sl.H11_5, runLater.sl.H11_6, runLater.sl.H11_7, runLater.sl.H13_2, runLater.sl.H13_3, runLater.sl.H13_4, runLater.sl.H13_5, runLater.sl.H13_6, runLater.sl.H13_7, View.readCov, miss, hit]
    try simp only [runLater.sl.r_4, runLater.sl.r_22, runLater.sl.r_18, runLater.sl.r_16, runLater.sl.r_19, runLater.sl.r_3, runLater.sl.r_24, runLater.sl.r_11, runLater.sl.r_23, runLater.sl.r_20, runLater.sl.r_13, runLater.sl.r_8, runLater.sl.r_1, runLater.sl.r_10, runLater.sl.r_17, runLater.sl.r, runLater.sl.r_12, runLater.sl.r_21, runLater.sl.r_6, runLater.sl.r_15, runLater.sl.r_7, runLater.sl.r_14, runLater.sl.r_2, runLater.sl.r_9, runLater.sl.r_5]
    simp (disch := decide) only [runLater.sl.H11_1_1, runLater.sl.H13_1_1, hit]
    try simp only [runLater.sl.r_4, runLater.sl.r_22, runLater.sl.r_18, runLater.sl.r_16, runLater.sl.r_19, runLater.sl.r_3, runLater.sl.r_24, runLater.sl.r_11, runLater.sl.r_23, runLater.sl.r_20, runLater.sl.r_13, runLater.sl.r_8, runLater.sl.r_1, runLater.sl.r_10, runLater.sl.r_17, runLater.sl.r, runLater.sl.r_12, runLater.sl.r_21, runLater.sl.r_6, runLater.sl.r_15, runLater.sl.r_7, runLater.sl.r_14, runLater.sl.r_2, runLater.sl.r_9, runLater.sl.r_5]
    rw [runLater_t12 c i arg2 harg2 arg3 harg3 arg4 harg4 arg5 harg5 arg6 harg6 arg7 harg7 arg8 harg8 arg9 harg9 arg10 harg10 arg11 harg11 arg12 harg12 arg13 harg13 X2 X3 X4 X5 X6 X7 hi, runLater_t13 c i arg2 harg2 arg3 harg3 arg4 harg4 arg5 harg5 arg6 harg6 arg7 harg7 arg8 harg8 arg9 harg9 arg10 harg10 arg11 harg11 arg12 harg12 arg13 harg13 X2 X3 X4 X5 X6 X7 hi, runLater_t11 c i arg2 harg2 arg3 harg3 arg4 harg4 arg5 harg5 arg6 harg6 arg7 harg7 arg8 harg8 arg9 harg9 arg10 harg10 arg11 harg11 arg12 harg12 arg13 harg13 X2 X3 X4 X5 X6 X7 hi]
    generalize l6 c i arg2 harg2 arg3 harg3 arg4 harg4 arg5 harg5 arg6 harg6 arg7 harg7 arg8 harg8 arg9 harg9 arg10 harg10 arg11 harg11 arg12 harg12 arg13 harg13 (runLater.sl.v21 i) (runLater.sl.v23 i) (runLater.sl.v25 i) (runLater.sl.v36 i) (runLater.sl.v37 i) (runLater.sl.v58 i) (runLater.sl.v63 i) X2 X3 X4 X6 f9 f10 = l
    rfl
  · show arg8.view.readAt (Elt F) (Rect.unit (s := S256x896) ![0, 128] S256x128.size (inbO ⟨1, hh⟩)).toLoadRect _ = _
    try simp (disch := decide) only [miss1, hit]
    try simp only [runLater.sl.r_22, runLater.sl.r_23, runLater.sl.r_24]
    try simp (disch := decide) only [runLater.sl.v451, runLater.sl.v453, runLater.sl.H11_2, runLater.sl.H11_3, runLater.sl.H11_4, runLater.sl.H11_5, runLater.sl.H11_6, runLater.sl.H11_7, runLater.sl.H13_2, runLater.sl.H13_3, runLater.sl.H13_4, runLater.sl.H13_5, runLater.sl.H13_6, runLater.sl.H13_7, View.readCov, miss, hit]
    try simp only [runLater.sl.r_4, runLater.sl.r_22, runLater.sl.r_18, runLater.sl.r_16, runLater.sl.r_19, runLater.sl.r_3, runLater.sl.r_24, runLater.sl.r_11, runLater.sl.r_23, runLater.sl.r_20, runLater.sl.r_13, runLater.sl.r_8, runLater.sl.r_1, runLater.sl.r_10, runLater.sl.r_17, runLater.sl.r, runLater.sl.r_12, runLater.sl.r_21, runLater.sl.r_6, runLater.sl.r_15, runLater.sl.r_7, runLater.sl.r_14, runLater.sl.r_2, runLater.sl.r_9, runLater.sl.r_5]
    try simp (disch := decide) only [runLater.sl.v152, runLater.sl.v161, runLater.sl.v175, runLater.sl.H11_2, runLater.sl.H11_3, runLater.sl.H11_4, runLater.sl.H11_5, runLater.sl.H11_6, runLater.sl.H11_7, runLater.sl.H12_2, runLater.sl.H12_3, runLater.sl.H12_4, runLater.sl.H12_5, runLater.sl.H12_6, runLater.sl.H13_2, runLater.sl.H13_3, runLater.sl.H13_4, runLater.sl.H13_5, runLater.sl.H13_6, runLater.sl.H13_7, View.readCov, miss, runLater_s11 c i arg2 harg2 arg3 harg3 arg4 harg4 arg5 harg5 arg6 harg6 arg7 harg7 arg8 harg8 arg9 harg9 arg10 harg10 arg11 harg11 arg12 harg12 arg13 harg13 X2 X3 X4 X5 X6 X7 hi, runLater_s12 c i arg2 harg2 arg3 harg3 arg4 harg4 arg5 harg5 arg6 harg6 arg7 harg7 arg8 harg8 arg9 harg9 arg10 harg10 arg11 harg11 arg12 harg12 arg13 harg13 X2 X3 X4 X5 X6 X7 hi, runLater_s13 c i arg2 harg2 arg3 harg3 arg4 harg4 arg5 harg5 arg6 harg6 arg7 harg7 arg8 harg8 arg9 harg9 arg10 harg10 arg11 harg11 arg12 harg12 arg13 harg13 X2 X3 X4 X5 X6 X7 hi]
    generalize l6 c i arg2 harg2 arg3 harg3 arg4 harg4 arg5 harg5 arg6 harg6 arg7 harg7 arg8 harg8 arg9 harg9 arg10 harg10 arg11 harg11 arg12 harg12 arg13 harg13 (runLater.sl.v21 i) (runLater.sl.v23 i) (runLater.sl.v25 i) (runLater.sl.v36 i) (runLater.sl.v37 i) (runLater.sl.v58 i) (runLater.sl.v63 i) X2 X3 X4 X6 f9 f10 = l
    rfl
  · show arg8.view.readAt (Elt F) (Rect.unit (s := S256x896) ![0, 256] S256x128.size (inbO ⟨2, hh⟩)).toLoadRect _ = _
    try simp (disch := decide) only [miss1, hit]
    try simp only [runLater.sl.r_22, runLater.sl.r_23, runLater.sl.r_24]
    try simp (disch := decide) only [runLater.sl.v459, runLater.sl.v461, runLater.sl.H11_2, runLater.sl.H11_3, runLater.sl.H11_4, runLater.sl.H11_5, runLater.sl.H11_6, runLater.sl.H11_7, runLater.sl.H13_2, runLater.sl.H13_3, runLater.sl.H13_4, runLater.sl.H13_5, runLater.sl.H13_6, runLater.sl.H13_7, View.readCov, miss, hit]
    try simp only [runLater.sl.r_4, runLater.sl.r_22, runLater.sl.r_18, runLater.sl.r_16, runLater.sl.r_19, runLater.sl.r_3, runLater.sl.r_24, runLater.sl.r_11, runLater.sl.r_23, runLater.sl.r_20, runLater.sl.r_13, runLater.sl.r_8, runLater.sl.r_1, runLater.sl.r_10, runLater.sl.r_17, runLater.sl.r, runLater.sl.r_12, runLater.sl.r_21, runLater.sl.r_6, runLater.sl.r_15, runLater.sl.r_7, runLater.sl.r_14, runLater.sl.r_2, runLater.sl.r_9, runLater.sl.r_5]
    try simp (disch := decide) only [runLater.sl.v204, runLater.sl.v213, runLater.sl.v227, runLater.sl.H11_2, runLater.sl.H11_3, runLater.sl.H11_4, runLater.sl.H11_5, runLater.sl.H11_6, runLater.sl.H11_7, runLater.sl.H12_2, runLater.sl.H12_3, runLater.sl.H12_4, runLater.sl.H12_5, runLater.sl.H12_6, runLater.sl.H13_2, runLater.sl.H13_3, runLater.sl.H13_4, runLater.sl.H13_5, runLater.sl.H13_6, runLater.sl.H13_7, View.readCov, miss, runLater_s11 c i arg2 harg2 arg3 harg3 arg4 harg4 arg5 harg5 arg6 harg6 arg7 harg7 arg8 harg8 arg9 harg9 arg10 harg10 arg11 harg11 arg12 harg12 arg13 harg13 X2 X3 X4 X5 X6 X7 hi, runLater_s12 c i arg2 harg2 arg3 harg3 arg4 harg4 arg5 harg5 arg6 harg6 arg7 harg7 arg8 harg8 arg9 harg9 arg10 harg10 arg11 harg11 arg12 harg12 arg13 harg13 X2 X3 X4 X5 X6 X7 hi, runLater_s13 c i arg2 harg2 arg3 harg3 arg4 harg4 arg5 harg5 arg6 harg6 arg7 harg7 arg8 harg8 arg9 harg9 arg10 harg10 arg11 harg11 arg12 harg12 arg13 harg13 X2 X3 X4 X5 X6 X7 hi]
    generalize l6 c i arg2 harg2 arg3 harg3 arg4 harg4 arg5 harg5 arg6 harg6 arg7 harg7 arg8 harg8 arg9 harg9 arg10 harg10 arg11 harg11 arg12 harg12 arg13 harg13 (runLater.sl.v21 i) (runLater.sl.v23 i) (runLater.sl.v25 i) (runLater.sl.v36 i) (runLater.sl.v37 i) (runLater.sl.v58 i) (runLater.sl.v63 i) X2 X3 X4 X6 f9 f10 = l
    rfl
  · show arg8.view.readAt (Elt F) (Rect.unit (s := S256x896) ![0, 384] S256x128.size (inbO ⟨3, hh⟩)).toLoadRect _ = _
    try simp (disch := decide) only [miss1, hit]
    try simp only [runLater.sl.r_22, runLater.sl.r_23, runLater.sl.r_24]
    try simp (disch := decide) only [runLater.sl.v467, runLater.sl.v469, runLater.sl.H11_2, runLater.sl.H11_3, runLater.sl.H11_4, runLater.sl.H11_5, runLater.sl.H11_6, runLater.sl.H11_7, runLater.sl.H13_2, runLater.sl.H13_3, runLater.sl.H13_4, runLater.sl.H13_5, runLater.sl.H13_6, runLater.sl.H13_7, View.readCov, miss, hit]
    try simp only [runLater.sl.r_4, runLater.sl.r_22, runLater.sl.r_18, runLater.sl.r_16, runLater.sl.r_19, runLater.sl.r_3, runLater.sl.r_24, runLater.sl.r_11, runLater.sl.r_23, runLater.sl.r_20, runLater.sl.r_13, runLater.sl.r_8, runLater.sl.r_1, runLater.sl.r_10, runLater.sl.r_17, runLater.sl.r, runLater.sl.r_12, runLater.sl.r_21, runLater.sl.r_6, runLater.sl.r_15, runLater.sl.r_7, runLater.sl.r_14, runLater.sl.r_2, runLater.sl.r_9, runLater.sl.r_5]
    try simp (disch := decide) only [runLater.sl.v256, runLater.sl.v265, runLater.sl.v279, runLater.sl.H11_2, runLater.sl.H11_3, runLater.sl.H11_4, runLater.sl.H11_5, runLater.sl.H11_6, runLater.sl.H11_7, runLater.sl.H12_2, runLater.sl.H12_3, runLater.sl.H12_4, runLater.sl.H12_5, runLater.sl.H12_6, runLater.sl.H13_2, runLater.sl.H13_3, runLater.sl.H13_4, runLater.sl.H13_5, runLater.sl.H13_6, runLater.sl.H13_7, View.readCov, miss, runLater_s11 c i arg2 harg2 arg3 harg3 arg4 harg4 arg5 harg5 arg6 harg6 arg7 harg7 arg8 harg8 arg9 harg9 arg10 harg10 arg11 harg11 arg12 harg12 arg13 harg13 X2 X3 X4 X5 X6 X7 hi, runLater_s12 c i arg2 harg2 arg3 harg3 arg4 harg4 arg5 harg5 arg6 harg6 arg7 harg7 arg8 harg8 arg9 harg9 arg10 harg10 arg11 harg11 arg12 harg12 arg13 harg13 X2 X3 X4 X5 X6 X7 hi, runLater_s13 c i arg2 harg2 arg3 harg3 arg4 harg4 arg5 harg5 arg6 harg6 arg7 harg7 arg8 harg8 arg9 harg9 arg10 harg10 arg11 harg11 arg12 harg12 arg13 harg13 X2 X3 X4 X5 X6 X7 hi]
    generalize l6 c i arg2 harg2 arg3 harg3 arg4 harg4 arg5 harg5 arg6 harg6 arg7 harg7 arg8 harg8 arg9 harg9 arg10 harg10 arg11 harg11 arg12 harg12 arg13 harg13 (runLater.sl.v21 i) (runLater.sl.v23 i) (runLater.sl.v25 i) (runLater.sl.v36 i) (runLater.sl.v37 i) (runLater.sl.v58 i) (runLater.sl.v63 i) X2 X3 X4 X6 f9 f10 = l
    rfl
  · show arg8.view.readAt (Elt F) (Rect.unit (s := S256x896) ![0, 512] S256x128.size (inbO ⟨4, hh⟩)).toLoadRect _ = _
    try simp (disch := decide) only [miss1, hit]
    try simp only [runLater.sl.r_22, runLater.sl.r_23, runLater.sl.r_24]
    try simp (disch := decide) only [runLater.sl.v475, runLater.sl.v477, runLater.sl.H11_2, runLater.sl.H11_3, runLater.sl.H11_4, runLater.sl.H11_5, runLater.sl.H11_6, runLater.sl.H11_7, runLater.sl.H13_2, runLater.sl.H13_3, runLater.sl.H13_4, runLater.sl.H13_5, runLater.sl.H13_6, runLater.sl.H13_7, View.readCov, miss, hit]
    try simp only [runLater.sl.r_4, runLater.sl.r_22, runLater.sl.r_18, runLater.sl.r_16, runLater.sl.r_19, runLater.sl.r_3, runLater.sl.r_24, runLater.sl.r_11, runLater.sl.r_23, runLater.sl.r_20, runLater.sl.r_13, runLater.sl.r_8, runLater.sl.r_1, runLater.sl.r_10, runLater.sl.r_17, runLater.sl.r, runLater.sl.r_12, runLater.sl.r_21, runLater.sl.r_6, runLater.sl.r_15, runLater.sl.r_7, runLater.sl.r_14, runLater.sl.r_2, runLater.sl.r_9, runLater.sl.r_5]
    try simp (disch := decide) only [runLater.sl.v308, runLater.sl.v317, runLater.sl.v331, runLater.sl.H11_2, runLater.sl.H11_3, runLater.sl.H11_4, runLater.sl.H11_5, runLater.sl.H11_6, runLater.sl.H11_7, runLater.sl.H12_2, runLater.sl.H12_3, runLater.sl.H12_4, runLater.sl.H12_5, runLater.sl.H12_6, runLater.sl.H13_2, runLater.sl.H13_3, runLater.sl.H13_4, runLater.sl.H13_5, runLater.sl.H13_6, runLater.sl.H13_7, View.readCov, miss, runLater_s11 c i arg2 harg2 arg3 harg3 arg4 harg4 arg5 harg5 arg6 harg6 arg7 harg7 arg8 harg8 arg9 harg9 arg10 harg10 arg11 harg11 arg12 harg12 arg13 harg13 X2 X3 X4 X5 X6 X7 hi, runLater_s12 c i arg2 harg2 arg3 harg3 arg4 harg4 arg5 harg5 arg6 harg6 arg7 harg7 arg8 harg8 arg9 harg9 arg10 harg10 arg11 harg11 arg12 harg12 arg13 harg13 X2 X3 X4 X5 X6 X7 hi, runLater_s13 c i arg2 harg2 arg3 harg3 arg4 harg4 arg5 harg5 arg6 harg6 arg7 harg7 arg8 harg8 arg9 harg9 arg10 harg10 arg11 harg11 arg12 harg12 arg13 harg13 X2 X3 X4 X5 X6 X7 hi]
    generalize l6 c i arg2 harg2 arg3 harg3 arg4 harg4 arg5 harg5 arg6 harg6 arg7 harg7 arg8 harg8 arg9 harg9 arg10 harg10 arg11 harg11 arg12 harg12 arg13 harg13 (runLater.sl.v21 i) (runLater.sl.v23 i) (runLater.sl.v25 i) (runLater.sl.v36 i) (runLater.sl.v37 i) (runLater.sl.v58 i) (runLater.sl.v63 i) X2 X3 X4 X6 f9 f10 = l
    rfl
  · show arg8.view.readAt (Elt F) (Rect.unit (s := S256x896) ![0, 640] S256x128.size (inbO ⟨5, hh⟩)).toLoadRect _ = _
    try simp (disch := decide) only [miss1, hit]
    try simp only [runLater.sl.r_22, runLater.sl.r_23, runLater.sl.r_24]
    try simp (disch := decide) only [runLater.sl.v483, runLater.sl.v485, runLater.sl.H11_2, runLater.sl.H11_3, runLater.sl.H11_4, runLater.sl.H11_5, runLater.sl.H11_6, runLater.sl.H11_7, runLater.sl.H13_2, runLater.sl.H13_3, runLater.sl.H13_4, runLater.sl.H13_5, runLater.sl.H13_6, runLater.sl.H13_7, View.readCov, miss, hit]
    try simp only [runLater.sl.r_4, runLater.sl.r_22, runLater.sl.r_18, runLater.sl.r_16, runLater.sl.r_19, runLater.sl.r_3, runLater.sl.r_24, runLater.sl.r_11, runLater.sl.r_23, runLater.sl.r_20, runLater.sl.r_13, runLater.sl.r_8, runLater.sl.r_1, runLater.sl.r_10, runLater.sl.r_17, runLater.sl.r, runLater.sl.r_12, runLater.sl.r_21, runLater.sl.r_6, runLater.sl.r_15, runLater.sl.r_7, runLater.sl.r_14, runLater.sl.r_2, runLater.sl.r_9, runLater.sl.r_5]
    try simp (disch := decide) only [runLater.sl.v360, runLater.sl.v369, runLater.sl.v383, runLater.sl.H11_2, runLater.sl.H11_3, runLater.sl.H11_4, runLater.sl.H11_5, runLater.sl.H11_6, runLater.sl.H11_7, runLater.sl.H12_2, runLater.sl.H12_3, runLater.sl.H12_4, runLater.sl.H12_5, runLater.sl.H12_6, runLater.sl.H13_2, runLater.sl.H13_3, runLater.sl.H13_4, runLater.sl.H13_5, runLater.sl.H13_6, runLater.sl.H13_7, View.readCov, miss, runLater_s11 c i arg2 harg2 arg3 harg3 arg4 harg4 arg5 harg5 arg6 harg6 arg7 harg7 arg8 harg8 arg9 harg9 arg10 harg10 arg11 harg11 arg12 harg12 arg13 harg13 X2 X3 X4 X5 X6 X7 hi, runLater_s12 c i arg2 harg2 arg3 harg3 arg4 harg4 arg5 harg5 arg6 harg6 arg7 harg7 arg8 harg8 arg9 harg9 arg10 harg10 arg11 harg11 arg12 harg12 arg13 harg13 X2 X3 X4 X5 X6 X7 hi, runLater_s13 c i arg2 harg2 arg3 harg3 arg4 harg4 arg5 harg5 arg6 harg6 arg7 harg7 arg8 harg8 arg9 harg9 arg10 harg10 arg11 harg11 arg12 harg12 arg13 harg13 X2 X3 X4 X5 X6 X7 hi]
    generalize l6 c i arg2 harg2 arg3 harg3 arg4 harg4 arg5 harg5 arg6 harg6 arg7 harg7 arg8 harg8 arg9 harg9 arg10 harg10 arg11 harg11 arg12 harg12 arg13 harg13 (runLater.sl.v21 i) (runLater.sl.v23 i) (runLater.sl.v25 i) (runLater.sl.v36 i) (runLater.sl.v37 i) (runLater.sl.v58 i) (runLater.sl.v63 i) X2 X3 X4 X6 f9 f10 = l
    rfl
  · show arg8.view.readAt (Elt F) (Rect.unit (s := S256x896) ![0, 768] S256x128.size (inbO ⟨6, hh⟩)).toLoadRect _ = _
    try simp (disch := decide) only [miss1, hit]
    try simp only [runLater.sl.r_22, runLater.sl.r_23, runLater.sl.r_24]
    try simp (disch := decide) only [runLater.sl.v491, runLater.sl.v493, runLater.sl.H11_2, runLater.sl.H11_3, runLater.sl.H11_4, runLater.sl.H11_5, runLater.sl.H11_6, runLater.sl.H11_7, runLater.sl.H13_2, runLater.sl.H13_3, runLater.sl.H13_4, runLater.sl.H13_5, runLater.sl.H13_6, runLater.sl.H13_7, View.readCov, miss, hit]
    try simp only [runLater.sl.r_4, runLater.sl.r_22, runLater.sl.r_18, runLater.sl.r_16, runLater.sl.r_19, runLater.sl.r_3, runLater.sl.r_24, runLater.sl.r_11, runLater.sl.r_23, runLater.sl.r_20, runLater.sl.r_13, runLater.sl.r_8, runLater.sl.r_1, runLater.sl.r_10, runLater.sl.r_17, runLater.sl.r, runLater.sl.r_12, runLater.sl.r_21, runLater.sl.r_6, runLater.sl.r_15, runLater.sl.r_7, runLater.sl.r_14, runLater.sl.r_2, runLater.sl.r_9, runLater.sl.r_5]
    try simp (disch := decide) only [runLater.sl.v412, runLater.sl.v421, runLater.sl.v435, runLater.sl.H11_2, runLater.sl.H11_3, runLater.sl.H11_4, runLater.sl.H11_5, runLater.sl.H11_6, runLater.sl.H11_7, runLater.sl.H12_2, runLater.sl.H12_3, runLater.sl.H12_4, runLater.sl.H12_5, runLater.sl.H12_6, runLater.sl.H13_2, runLater.sl.H13_3, runLater.sl.H13_4, runLater.sl.H13_5, runLater.sl.H13_6, runLater.sl.H13_7, View.readCov, miss, runLater_s11 c i arg2 harg2 arg3 harg3 arg4 harg4 arg5 harg5 arg6 harg6 arg7 harg7 arg8 harg8 arg9 harg9 arg10 harg10 arg11 harg11 arg12 harg12 arg13 harg13 X2 X3 X4 X5 X6 X7 hi, runLater_s12 c i arg2 harg2 arg3 harg3 arg4 harg4 arg5 harg5 arg6 harg6 arg7 harg7 arg8 harg8 arg9 harg9 arg10 harg10 arg11 harg11 arg12 harg12 arg13 harg13 X2 X3 X4 X5 X6 X7 hi, runLater_s13 c i arg2 harg2 arg3 harg3 arg4 harg4 arg5 harg5 arg6 harg6 arg7 harg7 arg8 harg8 arg9 harg9 arg10 harg10 arg11 harg11 arg12 harg12 arg13 harg13 X2 X3 X4 X5 X6 X7 hi]
    generalize l6 c i arg2 harg2 arg3 harg3 arg4 harg4 arg5 harg5 arg6 harg6 arg7 harg7 arg8 harg8 arg9 harg9 arg10 harg10 arg11 harg11 arg12 harg12 arg13 harg13 (runLater.sl.v21 i) (runLater.sl.v23 i) (runLater.sl.v25 i) (runLater.sl.v36 i) (runLater.sl.v37 i) (runLater.sl.v58 i) (runLater.sl.v63 i) X2 X3 X4 X6 f9 f10 = l
    rfl

end Cert.KernelIdeal.Mid
-- ==== Proof.Scales.lean ====
/- The expanded scales that the first query tile of a head group leaves for the later ones, and the output block of a
   query tile as one function of the arrays the kernel is given. -/
module

public import proofs.«01_k».proof.Proof.Block
public import proofs.«01_k».proof.Proof.MidFirst
public import proofs.«01_k».proof.Proof.MidLater

@[expose] public section

set_option maxRecDepth 16384

noncomputable section

namespace Cert.KernelIdeal.Scales

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.KernelIdeal.Step Cert.KernelIdeal.Run Cert.KernelIdeal.Words Cert.KernelIdeal.Tile Cert.KernelIdeal.Mid Cert.KernelIdeal.Fold Cert.KernelIdeal.Block
open Cert.Softmax Idealize.ShloMosaic.Pointwise

/-- The scale of every key, copied along the lanes. -/
def ex (ks : Vec Ideal S1x168x128 .f32) : Vec Ideal S21504x128 .f32 := fun x =>
  ks (ix3 0 ⟨(x 0).val / 128, by have : (x 0).val < 21504 := (x 0).isLt; omega⟩ ⟨(x 0).val % 128, Nat.mod_lt _ (by norm_num)⟩)

section Body

variable (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole)

theorem pay220_apply (x : Vec Ideal S1x1x128 .f32) (a l : Fin 128) : k0_pay220 x (ix2 a l) = x (ix3 0 0 a) := by
  pointwise [k0_pay220]

theorem trip1_pieces (hi : k0_cond1 i = 1#1) (X5 : BufTy.Contents (Elt Ideal) arg5.view.ty) (k : Fin k0_t1_loop.trips) :
    tripL_k0_t1 (F := Ideal) Variants.none c none i arg2 harg2 arg3 harg3 arg4 harg4 arg5 harg5 arg6 harg6 arg7 harg7 arg8 harg8 arg9 harg9 arg10 harg10 arg11 harg11 arg12 harg12 arg13 harg13 hi X5 k
      = [⟨Rect.unit (s := S21504x128) (k0_off2 k) S128x128.size (k0_off2_inb i k hi),
          k0_pay220 (arg5.view.readAt (Elt Ideal) (Rect.unit (s := S1x168x128) (k0_off1 k) S1x1x128.size (k0_off1_inb i k hi)).toLoadRect X5)⟩] := by
  unfold tripL_k0_t1 trip_k0_t1
  rfl

theorem scales1_upto (hi : k0_cond1 i = 1#1) (X5 : BufTy.Contents (Elt Ideal) arg5.view.ty) (f : BufTy.Contents (Elt Ideal) arg9.view.ty)
    (x : S21504x128.Idx) :
    ∀ n, n ≤ 168 → (x 0).val < 128 * n → arg9.view.read (Elt Ideal) (arg9.view.writes (Elt Ideal) f (pb_k0_t1 (F := Ideal) Variants.none c none i arg2 harg2 arg3 harg3 arg4 harg4 arg5 harg5 arg6 harg6 arg7 harg7 arg8 harg8 arg9 harg9 arg10 harg10 arg11 harg11 arg12 harg12 arg13 harg13 hi X5 n)) x = ex (arg5.view.read (Elt Ideal) X5) x := by
  intro n
  induction n with
  | zero => intro _ h; omega
  | succ n ih =>
    intro hn hx
    obtain ⟨k, rfl⟩ : ∃ k : Fin k0_t1_loop.trips, n = k.val := ⟨⟨n, lt_of_lt_of_eq (show n < 168 by omega) (trips1).symm⟩, rfl⟩
    rw [pb_k0_t1_succ, trip1_pieces, List.singleton_append]
    have h1 : (x 1).val < 128 := (x 1).isLt
    by_cases hk : 128 * k.val ≤ (x 0).val
    · rw [View.read_writes_cons_unit_of_mem (s := S21504x128) (size := S128x128.size) arg9.view _ _ _ _ x (ix2 (⟨(x 0).val - 128 * k.val, by omega⟩ : Fin 128) (⟨(x 1).val, h1⟩ : Fin 128)) (off2 k) fun a => by
        match a with
        | ⟨0, _⟩ => show (x 0).val = 128 * k.val + ((x 0).val - 128 * k.val); omega
        | ⟨1, _⟩ => show (x 1).val = 0 + (x 1).val; omega]
      rw [pay220_apply]
      unfold ex
      refine ld arg5.view X5 _ _ _ fun a => ?_
      rw [off1]
      match a with
      | ⟨0, _⟩ => rfl
      | ⟨1, _⟩ => show (x 0).val / 128 = k.val + 0; omega
      | ⟨2, _⟩ => show (x 0).val % 128 = 0 + ((x 0).val - 128 * k.val); omega
    · rw [View.read_writes_cons_unit_of_not_mem (s := S21504x128) (size := S128x128.size) arg9.view _ _ _ _ x (off2 k) (0 : Fin 2) (Or.inl (by show (x 0).val < 128 * k.val; omega))]
      exact ih (by omega) (by omega)

/-- After the loop every key's scale lies along its row. -/
theorem scales1 (hi : k0_cond1 i = 1#1) (X5 : BufTy.Contents (Elt Ideal) arg5.view.ty) (f : BufTy.Contents (Elt Ideal) arg9.view.ty) :
    arg9.view.read (Elt Ideal) (arg9.view.writes (Elt Ideal) f (pb_k0_t1 (F := Ideal) Variants.none c none i arg2 harg2 arg3 harg3 arg4 harg4 arg5 harg5 arg6 harg6 arg7 harg7 arg8 harg8 arg9 harg9 arg10 harg10 arg11 harg11 arg12 harg12 arg13 harg13 hi X5 (Scf.trips k0_t1_loop.lb k0_t1_loop.ub k0_t1_loop.st))) = ex (arg5.view.read (Elt Ideal) X5) := by
  funext x
  have hx : (x 0).val < 21504 := (x 0).isLt
  rw [trips1]
  exact scales1_upto c i arg2 harg2 arg3 harg3 arg4 harg4 arg5 harg5 arg6 harg6 arg7 harg7 arg8 harg8 arg9 harg9 arg10 harg10 arg11 harg11 arg12 harg12 arg13 harg13 hi X5 f x 168 le_rfl (by omega)

theorem pay221_apply (x : Vec Ideal S1x1x128 .f32) (a l : Fin 128) : k0_pay221 x (ix2 a l) = x (ix3 0 0 a) := by
  pointwise [k0_pay221]

theorem trip2_pieces (hi : k0_cond1 i = 1#1) (X7 : BufTy.Contents (Elt Ideal) arg7.view.ty) (k : Fin k0_t2_loop.trips) :
    tripL_k0_t2 (F := Ideal) Variants.none c none i arg2 harg2 arg3 harg3 arg4 harg4 arg5 harg5 arg6 harg6 arg7 harg7 arg8 harg8 arg9 harg9 arg10 harg10 arg11 harg11 arg12 harg12 arg13 harg13 hi X7 k
      = [⟨Rect.unit (s := S21504x128) (k0_off4 k) S128x128.size (k0_off4_inb i k hi),
          k0_pay221 (arg7.view.readAt (Elt Ideal) (Rect.unit (s := S1x168x128) (k0_off3 k) S1x1x128.size (k0_off3_inb i k hi)).toLoadRect X7)⟩] := by
  unfold tripL_k0_t2 trip_k0_t2
  rfl

theorem scales2_upto (hi : k0_cond1 i = 1#1) (X7 : BufTy.Contents (Elt Ideal) arg7.view.ty) (f : BufTy.Contents (Elt Ideal) arg10.view.ty)
    (x : S21504x128.Idx) :
    ∀ n, n ≤ 168 → (x 0).val < 128 * n → arg10.view.read (Elt Ideal) (arg10.view.writes (Elt Ideal) f (pb_k0_t2 (F := Ideal) Variants.none c none i arg2 harg2 arg3 harg3 arg4 harg4 arg5 harg5 arg6 harg6 arg7 harg7 arg8 harg8 arg9 harg9 arg10 harg10 arg11 harg11 arg12 harg12 arg13 harg13 hi X7 n)) x = ex (arg7.view.read (Elt Ideal) X7) x := by
  intro n
  induction n with
  | zero => intro _ h; omega
  | succ n ih =>
    intro hn hx
    obtain ⟨k, rfl⟩ : ∃ k : Fin k0_t2_loop.trips, n = k.val := ⟨⟨n, lt_of_lt_of_eq (show n < 168 by omega) (trips2).symm⟩, rfl⟩
    rw [pb_k0_t2_succ, trip2_pieces, List.singleton_append]
    have h1 : (x 1).val < 128 := (x 1).isLt
    by_cases hk : 128 * k.val ≤ (x 0).val
    · rw [View.read_writes_cons_unit_of_mem (s := S21504x128) (size := S128x128.size) arg10.view _ _ _ _ x (ix2 (⟨(x 0).val - 128 * k.val, by omega⟩ : Fin 128) (⟨(x 1).val, h1⟩ : Fin 128)) (off4 k) fun a => by
        match a with
        | ⟨0, _⟩ => show (x 0).val = 128 * k.val + ((x 0).val - 128 * k.val); omega
        | ⟨1, _⟩ => show (x 1).val = 0 + (x 1).val; omega]
      rw [pay221_apply]
      unfold ex
      refine ld arg7.view X7 _ _ _ fun a => ?_
      rw [off3]
      match a with
      | ⟨0, _⟩ => rfl
      | ⟨1, _⟩ => show (x 0).val / 128 = k.val + 0; omega
      | ⟨2, _⟩ => show (x 0).val % 128 = 0 + ((x 0).val - 128 * k.val); omega
    · rw [View.read_writes_cons_unit_of_not_mem (s := S21504x128) (size := S128x128.size) arg10.view _ _ _ _ x (off4 k) (0 : Fin 2) (Or.inl (by show (x 0).val < 128 * k.val; omega))]
      exact ih (by omega) (by omega)

/-- After the loop every key's scale lies along its row. -/
theorem scales2 (hi : k0_cond1 i = 1#1) (X7 : BufTy.Contents (Elt Ideal) arg7.view.ty) (f : BufTy.Contents (Elt Ideal) arg10.view.ty) :
    arg10.view.read (Elt Ideal) (arg10.view.writes (Elt Ideal) f (pb_k0_t2 (F := Ideal) Variants.none c none i arg2 harg2 arg3 harg3 arg4 harg4 arg5 harg5 arg6 harg6 arg7 harg7 arg8 harg8 arg9 harg9 arg10 harg10 arg11 harg11 arg12 harg12 arg13 harg13 hi X7 (Scf.trips k0_t2_loop.lb k0_t2_loop.ub k0_t2_loop.st))) = ex (arg7.view.read (Elt Ideal) X7) := by
  funext x
  have hx : (x 0).val < 21504 := (x 0).isLt
  rw [trips2]
  exact scales2_upto c i arg2 harg2 arg3 harg3 arg4 harg4 arg5 harg5 arg6 harg6 arg7 harg7 arg8 harg8 arg9 harg9 arg10 harg10 arg11 harg11 arg12 harg12 arg13 harg13 hi X7 f x 168 le_rfl (by omega)

end Body

/-- The output block of query tile `j`: every head's attention, the heads side by side. -/
def pt (q : Vec Ideal S1x896x256 .fp8e4m3) (qs : Vec Ideal S1x7x256 .f32) (k : Vec Ideal S1x21504x128 .fp8e4m3)
    (ks : Vec Ideal S1x168x128 .f32) (vt : Vec Ideal S1x128x21504 .fp8e4m3) (vs : Vec Ideal S1x168x128 .f32) (j : ℕ) :
    Vec Ideal S256x896 .bf16 := fun x =>
  att (xr q qs k (ex ks) j ⟨(x 1).val / 128, by have : (x 1).val < 896 := (x 1).isLt; omega⟩ ⟨(x 0).val, (x 0).isLt⟩)
    (fun u => ex vs (ix2 u (ln ⟨(x 0).val, (x 0).isLt⟩)))
    (fun u => vt (ix3 0 ⟨(x 1).val % 128, Nat.mod_lt _ (by norm_num)⟩ u))

section Body

variable (c : Dev nD) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty)

/-- A query tile that is not the first of its head group, the expanded scales in place. -/
theorem later (hi : ¬ k0_cond1 i = 1#1) (h9 : arg9.view.read (Elt Ideal) f9 = ex (arg5.view.read (Elt Ideal) X5))
    (h10 : arg10.view.read (Elt Ideal) f10 = ex (arg7.view.read (Elt Ideal) X7)) :
    arg8.view.read (Elt Ideal) (arg8.view.writes (Elt Ideal) f8 ((runLater (F := Ideal) c i arg2 harg2 arg3 harg3 arg4 harg4 arg5 harg5 arg6 harg6 arg7 harg7 arg8 harg8 arg9 harg9 arg10 harg10 arg11 harg11 arg12 harg12 arg13 harg13 X2 X3 X4 X5 X6 X7 hi).1 f8 f9 f10 f11 f12 f13)) = pt (arg2.view.read (Elt Ideal) X2) (arg3.view.read (Elt Ideal) X3) (arg4.view.read (Elt Ideal) X4) (arg5.view.read (Elt Ideal) X5) (arg6.view.read (Elt Ideal) X6) (arg7.view.read (Elt Ideal) X7) (qi i) := by
  funext x
  have h0 : (x 0).val < 256 := (x 0).isLt
  have h1 : (x 1).val < 896 := (x 1).isLt
  have e := congrFun (runLater_col (F := Ideal) c i arg2 harg2 arg3 harg3 arg4 harg4 arg5 harg5 arg6 harg6 arg7 harg7 arg8 harg8 arg9 harg9 arg10 harg10 arg11 harg11 arg12 harg12 arg13 harg13 X2 X3 X4 X5 X6 X7 hi f8 f9 f10 f11 f12 f13 ⟨(x 1).val / 128, by omega⟩) (ix2 (⟨(x 0).val, h0⟩ : Fin 256) (⟨(x 1).val % 128, Nat.mod_lt _ (by norm_num)⟩ : Fin 128))
  rw [out_eq c i arg2 harg2 arg3 harg3 arg4 harg4 arg5 harg5 arg6 harg6 arg7 harg7 arg8 harg8 arg9 harg9 arg10 harg10 arg11 harg11 arg12 harg12 arg13 harg13 _ _ _ _ _ _ _ X2 X3 X4 X6 f9 f10 _ _ _ _ _ (Later_v3 i) (Later_v65 i)] at e
  unfold colO at e
  rw [ld arg8.view _ _ _ x fun a => by
    match a with
    | ⟨0, _⟩ => show (x 0).val = 0 + (x 0).val; omega
    | ⟨1, _⟩ => show (x 1).val = 128 * ((x 1).val / 128) + (x 1).val % 128; omega] at e
  rw [e]
  unfold pt ww vv
  rw [h9, h10]

/-- The first query tile of a head group. -/
theorem first_out (hi : k0_cond1 i = 1#1) :
    arg8.view.read (Elt Ideal) (arg8.view.writes (Elt Ideal) f8 ((runFirst (F := Ideal) c i arg2 harg2 arg3 harg3 arg4 harg4 arg5 harg5 arg6 harg6 arg7 harg7 arg8 harg8 arg9 harg9 arg10 harg10 arg11 harg11 arg12 harg12 arg13 harg13 X2 X3 X4 X5 X6 X7 hi).2.2.1 f8 f9 f10 f11 f12 f13)) = pt (arg2.view.read (Elt Ideal) X2) (arg3.view.read (Elt Ideal) X3) (arg4.view.read (Elt Ideal) X4) (arg5.view.read (Elt Ideal) X5) (arg6.view.read (Elt Ideal) X6) (arg7.view.read (Elt Ideal) X7) (qi i) := by
  funext x
  have h0 : (x 0).val < 256 := (x 0).isLt
  have h1 : (x 1).val < 896 := (x 1).isLt
  have e := congrFun (runFirst_col (F := Ideal) c i arg2 harg2 arg3 harg3 arg4 harg4 arg5 harg5 arg6 harg6 arg7 harg7 arg8 harg8 arg9 harg9 arg10 harg10 arg11 harg11 arg12 harg12 arg13 harg13 X2 X3 X4 X5 X6 X7 hi f8 f9 f10 f11 f12 f13 ⟨(x 1).val / 128, by omega⟩) (ix2 (⟨(x 0).val, h0⟩ : Fin 256) (⟨(x 1).val % 128, Nat.mod_lt _ (by norm_num)⟩ : Fin 128))
  rw [out_eq c i arg2 harg2 arg3 harg3 arg4 harg4 arg5 harg5 arg6 harg6 arg7 harg7 arg8 harg8 arg9 harg9 arg10 harg10 arg11 harg11 arg12 harg12 arg13 harg13 _ _ _ _ _ _ _ X2 X3 X4 X6 (arg9.view.writes (Elt Ideal) f9 (pb_k0_t1 (F := Ideal) Variants.none c none i arg2 harg2 arg3 harg3 arg4 harg4 arg5 harg5 arg6 harg6 arg7 harg7 arg8 harg8 arg9 harg9 arg10 harg10 arg11 harg11 arg12 harg12 arg13 harg13 hi X5 (Scf.trips k0_t1_loop.lb k0_t1_loop.ub k0_t1_loop.st))) (arg10.view.writes (Elt Ideal) f10 (pb_k0_t2 (F := Ideal) Variants.none c none i arg2 harg2 arg3 harg3 arg4 harg4 arg5 harg5 arg6 harg6 arg7 harg7 arg8 harg8 arg9 harg9 arg10 harg10 arg11 harg11 arg12 harg12 arg13 harg13 hi X7 (Scf.trips k0_t2_loop.lb k0_t2_loop.ub k0_t2_loop.st))) _ _ _ _ _ (First_v3 i) (First_v65 i)] at e
  unfold colO at e
  rw [ld arg8.view _ _ _ x fun a => by
    match a with
    | ⟨0, _⟩ => show (x 0).val = 0 + (x 0).val; omega
    | ⟨1, _⟩ => show (x 1).val = 128 * ((x 1).val / 128) + (x 1).val % 128; omega] at e
  rw [e]
  unfold pt ww vv
  rw [scales1 c i arg2 harg2 arg3 harg3 arg4 harg4 arg5 harg5 arg6 harg6 arg7 harg7 arg8 harg8 arg9 harg9 arg10 harg10 arg11 harg11 arg12 harg12 arg13 harg13 hi X5 f9, scales2 c i arg2 harg2 arg3 harg3 arg4 harg4 arg5 harg5 arg6 harg6 arg7 harg7 arg8 harg8 arg9 harg9 arg10 harg10 arg11 harg11 arg12 harg12 arg13 harg13 hi X7 f10]

theorem first_9 (hi : k0_cond1 i = 1#1) :
    arg9.view.read (Elt Ideal) (arg9.view.writes (Elt Ideal) f9 ((runFirst (F := Ideal) c i arg2 harg2 arg3 harg3 arg4 harg4 arg5 harg5 arg6 harg6 arg7 harg7 arg8 harg8 arg9 harg9 arg10 harg10 arg11 harg11 arg12 harg12 arg13 harg13 X2 X3 X4 X5 X6 X7 hi).1 f8 f9 f10 f11 f12 f13)) = ex (arg5.view.read (Elt Ideal) X5) := by
  unfold runFirst
  exact scales1 c i arg2 harg2 arg3 harg3 arg4 harg4 arg5 harg5 arg6 harg6 arg7 harg7 arg8 harg8 arg9 harg9 arg10 harg10 arg11 harg11 arg12 harg12 arg13 harg13 hi X5 f9

theorem first_10 (hi : k0_cond1 i = 1#1) :
    arg10.view.read (Elt Ideal) (arg10.view.writes (Elt Ideal) f10 ((runFirst (F := Ideal) c i arg2 harg2 arg3 harg3 arg4 harg4 arg5 harg5 arg6 harg6 arg7 harg7 arg8 harg8 arg9 harg9 arg10 harg10 arg11 harg11 arg12 harg12 arg13 harg13 X2 X3 X4 X5 X6 X7 hi).2.1 f8 f9 f10 f11 f12 f13)) = ex (arg7.view.read (Elt Ideal) X7) := by
  unfold runFirst
  exact scales2 c i arg2 harg2 arg3 harg3 arg4 harg4 arg5 harg5 arg6 harg6 arg7 harg7 arg8 harg8 arg9 harg9 arg10 harg10 arg11 harg11 arg12 harg12 arg13 harg13 hi X7 f10

end Body

end Cert.KernelIdeal.Scales
-- ==== Proof.BodyValue.lean ====
/- The body of the kernel as a step on blocks, its values ideal: from the six input blocks it leaves the block of results
   `pt` in the output's buffer, and the expanded scales in the two scratch buffers. Two triples, one for the first query tile
   of a head group, which expands the scales, and one for the later tiles, which find them expanded. -/
module

public import proofs.«01_k».proof.Proof.Scales
public import Idealize.ShloMosaic.Lib.Memref

@[expose] public section

set_option maxRecDepth 16384

noncomputable section

namespace Cert.KernelIdeal.BodyValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Run Cert.KernelIdeal.Words Cert.KernelIdeal.Scales

local notation "𝕄" => MT nD τ sig Unit (Elt Ideal) ℕ (UR sig nD τ) ℕ

set_option maxHeartbeats 4000000 in
/-- The first query tile of a head group: the block of results, and the expanded scales left behind. -/
theorem sound_first (c : Dev nD) (E : Set ℕ) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (hi : k0_cond1 i = 1#1)
    (x2 : Vec Ideal S1x896x256 .fp8e4m3) (x3 : Vec Ideal S1x7x256 .f32) (x4 : Vec Ideal S1x21504x128 .fp8e4m3) (x5 : Vec Ideal S1x168x128 .f32) (x6 : Vec Ideal S1x128x21504 .fp8e4m3) (x7 : Vec Ideal S1x168x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ x, owns (c : Thread nD τ) arg8 fullShare x) ∗ (∃ x, owns (c : Thread nD τ) arg9 fullShare x) ∗ (∃ x, owns (c : Thread nD τ) arg10 fullShare x) ∗ (∃ x, owns (c : Thread nD τ) arg11 fullShare x) ∗ (∃ x, owns (c : Thread nD τ) arg12 fullShare x) ∗ (∃ x, owns (c : Thread nD τ) arg13 fullShare x) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (pt x2 x3 x4 x5 x6 x7 (qi i)) ∗ owns (c : Thread nD τ) arg9 fullShare (ex x5) ∗ owns (c : Thread nD τ) arg10 fullShare (ex x7) ∗ (∃ x, owns (c : Thread nD τ) arg11 fullShare x) ∗ (∃ x, owns (c : Thread nD τ) arg12 fullShare x) ∗ (∃ x, owns (c : Thread nD τ) arg13 fullShare x)) -∗ K ⟨⟩))
      ⊢ wp frame (wpE (defs₀ (F := Ideal)) Variants.none c none) E (cc0_star_attention (F := Ideal) i arg2 harg2 arg3 harg3 arg4 harg4 arg5 harg5 arg6 harg6 arg7 harg7 arg8 harg8 arg9 harg9 arg10 harg10 arg11 harg11 arg12 harg12 arg13 harg13) K := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%x8, %f8, -, H8⟩, ⟨%x9, %f9, -, H9⟩, ⟨%x10, %f10, -, H10⟩, ⟨%x11, %f11, -, H11⟩, ⟨%x12, %f12, -, H12⟩, ⟨%x13, %f13, -, H13⟩, Hk⟩
  subst h2 h3 h4 h5 h6 h7
  iapply (wp_wand_r frame (wpE (defs₀ (F := Ideal)) Variants.none (c : Thread nD τ) none) E)
  isplitl [H2 H3 H4 H5 H6 H7 H8 H9 H10 H11 H12 H13]
  · iapply ((runFirst (F := Ideal) c i arg2 harg2 arg3 harg3 arg4 harg4 arg5 harg5 arg6 harg6 arg7 harg7 arg8 harg8 arg9 harg9 arg10 harg10 arg11 harg11 arg12 harg12 arg13 harg13 f2 f3 f4 f5 f6 f7 hi).2.2.2 E f8 f9 f10 f11 f12 f13)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %a ⟨H2, H3, H4, H5, H6, H7, H8, H9, H10, ⟨%g11, H11⟩, ⟨%g12, H12⟩, ⟨%g13, H13⟩⟩
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro; exact first_out c i arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13 hi
  isplitl [H9]
  · iexists _; isplitr
    swap; · iexact H9
    ipureintro; exact first_9 c i arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13 hi
  isplitl [H10]
  · iexists _; isplitr
    swap; · iexact H10
    ipureintro; exact first_10 c i arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13 hi
  isplitl [H11]
  · iexists _; iexists _; isplitr
    swap; · iexact H11
    ipureintro; rfl
  isplitl [H12]
  · iexists _; iexists _; isplitr
    swap; · iexact H12
    ipureintro; rfl
  iexists _; iexists _; isplitr
  swap; · iexact H13
  ipureintro; rfl

set_option maxHeartbeats 4000000 in
/-- A later query tile: the block of results from the expanded scales found, which stay. -/
theorem sound_later (c : Dev nD) (E : Set ℕ) (i : grid0.Coords) (arg2 : Memref sig .tc .vmem S1x896x256 .fp8e4m3) (harg2 : arg2.IsWhole) (arg3 : Memref sig .tc .vmem S1x7x256 .f32) (harg3 : arg3.IsWhole) (arg4 : Memref sig .tc .vmem S1x21504x128 .fp8e4m3) (harg4 : arg4.IsWhole) (arg5 : Memref sig .tc .vmem S1x168x128 .f32) (harg5 : arg5.IsWhole) (arg6 : Memref sig .tc .vmem S1x128x21504 .fp8e4m3) (harg6 : arg6.IsWhole) (arg7 : Memref sig .tc .vmem S1x168x128 .f32) (harg7 : arg7.IsWhole) (arg8 : Memref sig .tc .vmem S256x896 .bf16) (harg8 : arg8.IsWhole) (arg9 : Memref sig .tc .vmem S21504x128 .f32) (harg9 : arg9.IsWhole) (arg10 : Memref sig .tc .vmem S21504x128 .f32) (harg10 : arg10.IsWhole) (arg11 : Memref sig .tc .vmem S7x128x256 .f32) (harg11 : arg11.IsWhole) (arg12 : Memref sig .tc .vmem S8x256 .f32) (harg12 : arg12.IsWhole) (arg13 : Memref sig .tc .vmem S8x256 .f32) (harg13 : arg13.IsWhole) (hi : ¬ k0_cond1 i = 1#1)
    (x2 : Vec Ideal S1x896x256 .fp8e4m3) (x3 : Vec Ideal S1x7x256 .f32) (x4 : Vec Ideal S1x21504x128 .fp8e4m3) (x5 : Vec Ideal S1x168x128 .f32) (x6 : Vec Ideal S1x128x21504 .fp8e4m3) (x7 : Vec Ideal S1x168x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ x, owns (c : Thread nD τ) arg8 fullShare x) ∗ owns (c : Thread nD τ) arg9 fullShare (ex x5) ∗ owns (c : Thread nD τ) arg10 fullShare (ex x7) ∗ (∃ x, owns (c : Thread nD τ) arg11 fullShare x) ∗ (∃ x, owns (c : Thread nD τ) arg12 fullShare x) ∗ (∃ x, owns (c : Thread nD τ) arg13 fullShare x) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (pt x2 x3 x4 x5 x6 x7 (qi i)) ∗ owns (c : Thread nD τ) arg9 fullShare (ex x5) ∗ owns (c : Thread nD τ) arg10 fullShare (ex x7) ∗ (∃ x, owns (c : Thread nD τ) arg11 fullShare x) ∗ (∃ x, owns (c : Thread nD τ) arg12 fullShare x) ∗ (∃ x, owns (c : Thread nD τ) arg13 fullShare x)) -∗ K ⟨⟩))
      ⊢ wp frame (wpE (defs₀ (F := Ideal)) Variants.none c none) E (cc0_star_attention (F := Ideal) i arg2 harg2 arg3 harg3 arg4 harg4 arg5 harg5 arg6 harg6 arg7 harg7 arg8 harg8 arg9 harg9 arg10 harg10 arg11 harg11 arg12 harg12 arg13 harg13) K := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%x8, %f8, -, H8⟩, ⟨%f9, %h9, H9⟩, ⟨%f10, %h10, H10⟩, ⟨%x11, %f11, -, H11⟩, ⟨%x12, %f12, -, H12⟩, ⟨%x13, %f13, -, H13⟩, Hk⟩
  subst h2 h3 h4 h5 h6 h7
  iapply (wp_wand_r frame (wpE (defs₀ (F := Ideal)) Variants.none (c : Thread nD τ) none) E)
  isplitl [H2 H3 H4 H5 H6 H7 H8 H9 H10 H11 H12 H13]
  · iapply ((runLater (F := Ideal) c i arg2 harg2 arg3 harg3 arg4 harg4 arg5 harg5 arg6 harg6 arg7 harg7 arg8 harg8 arg9 harg9 arg10 harg10 arg11 harg11 arg12 harg12 arg13 harg13 f2 f3 f4 f5 f6 f7 hi).2 E f8 f9 f10 f11 f12 f13)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %a ⟨H2, H3, H4, H5, H6, H7, H8, H9, H10, ⟨%g11, H11⟩, ⟨%g12, H12⟩, ⟨%g13, H13⟩⟩
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro; exact later c i arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13 hi h9 h10
  isplitl [H9]
  · iexists _; isplitr
    swap; · iexact H9
    ipureintro; exact h9
  isplitl [H10]
  · iexists _; isplitr
    swap; · iexact H10
    ipureintro; exact h10
  isplitl [H11]
  · iexists _; iexists _; isplitr
    swap; · iexact H11
    ipureintro; rfl
  isplitl [H12]
  · iexists _; iexists _; isplitr
    swap; · iexact H12
    ipureintro; rfl
  iexists _; iexists _; isplitr
  swap; · iexact H13
  ipureintro; rfl

end Cert.KernelIdeal.BodyValue

end
-- ==== Proof.Value.lean ====
/- The values of the launch: at grid point `t` the block of results is the attention of query tile `t % 84` of head group
   `t / 84`, computed from the blocks of the six arrays there. The invariant carried from point to point says that the two
   scratch buffers hold the expanded scales of the head group, from its first tile on. -/
module

public import proofs.«01_k».proof.Proof.BodyValue
public import proofs.«01_k».proof.Proof.Gen.KernelIdeal.Frame
public import proofs.«01_k».proof.Proof.Gen.KernelIdeal.Points
public import Idealize.ShloMosaic.Lib.Pipeline.FrameBody
public import Idealize.ShloMosaic.Lib.Pipeline.Value
public import Idealize.ShloMosaic.Lib.Claim
public import Idealize.ShloMosaic.Lib.Tactic

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

open Cert.KernelIdeal.Words Cert.KernelIdeal.Scales Cert.KernelIdeal.BodyValue Idealize.ShloMosaic.Pointwise

local notation "𝕄" => MT nD τ sig Unit (Elt Ideal) ℕ (UR sig nD τ) ℕ

theorem coord0 (t : Fin grid0.N) : (grid0.coords t 0).val = t.val / 84 := by
  rw [Pipeline.Grid.coords_val t 0 (S := 84) (B := 8) (by decide) rfl]
  have : t.val < 672 := t.isLt
  omega

theorem coord1 (t : Fin grid0.N) : (grid0.coords t 1).val = t.val % 84 := by
  rw [Pipeline.Grid.coords_val t 1 (S := 1) (B := 84) (by decide) rfl, Nat.div_one]

theorem qi_coords (t : Fin grid0.N) : qi (grid0.coords t) = t.val % 84 := coord1 t

variable (m : (ℓ : Loc nD τ sig) → Buf (Elt Ideal) ℓ) (ρ : Dev nD → PrngReg)

/-- The block of scales depends on the head group alone. -/
theorem iblk3_apply (c : Dev nD) (t : Fin cfg0.N) (x : S1x168x128.Idx) : iblk m c 3 t x
    = V m c main_v12 (ix3 ⟨t.val / 84, by have : t.val < 672 := t.isLt; omega⟩ ⟨(x 1).val, (x 1).isLt⟩ ⟨(x 2).val, (x 2).isLt⟩) := by
  unfold iblk
  rw [View.read_apply]
  show V m c main_v12 _ = _
  congr 1
  funext a
  apply Fin.ext
  have h0 : (x 0).val < 1 := (x 0).isLt
  match a with
  | ⟨0, _⟩ =>
    show (BitVec.ofNat 32 (grid0.coords t 0).val).toNat * 1 + 1 * (x 0).val = t.val / 84
    have : t.val < 672 := t.isLt
    rw [coord0, BitVec.toNat_ofNat]; omega
  | ⟨1, _⟩ => show 0 * 168 + 1 * (x 1).val = (x 1).val; omega
  | ⟨2, _⟩ => show 0 * 128 + 1 * (x 2).val = (x 2).val; omega

theorem iblk3_eq (c : Dev nD) (s t : Fin cfg0.N) (h : s.val / 84 = t.val / 84) : iblk m c 3 s = iblk m c 3 t := by
  funext x
  rw [iblk3_apply, iblk3_apply]
  simp only [h]

/-- The block of scales depends on the head group alone. -/
theorem iblk5_apply (c : Dev nD) (t : Fin cfg0.N) (x : S1x168x128.Idx) : iblk m c 5 t x
    = V m c main_v15 (ix3 ⟨t.val / 84, by have : t.val < 672 := t.isLt; omega⟩ ⟨(x 1).val, (x 1).isLt⟩ ⟨(x 2).val, (x 2).isLt⟩) := by
  unfold iblk
  rw [View.read_apply]
  show V m c main_v15 _ = _
  congr 1
  funext a
  apply Fin.ext
  have h0 : (x 0).val < 1 := (x 0).isLt
  match a with
  | ⟨0, _⟩ =>
    show (BitVec.ofNat 32 (grid0.coords t 0).val).toNat * 1 + 1 * (x 0).val = t.val / 84
    have : t.val < 672 := t.isLt
    rw [coord0, BitVec.toNat_ofNat]; omega
  | ⟨1, _⟩ => show 0 * 168 + 1 * (x 1).val = (x 1).val; omega
  | ⟨2, _⟩ => show 0 * 128 + 1 * (x 2).val = (x 2).val; omega

theorem iblk5_eq (c : Dev nD) (s t : Fin cfg0.N) (h : s.val / 84 = t.val / 84) : iblk m c 5 s = iblk m c 5 t := by
  funext x
  rw [iblk5_apply, iblk5_apply]
  simp only [h]

/-- The block of results at point `t`. -/
def blkOut (c : Dev nD) (t : Fin cfg0.N) : Vec Ideal S256x896 .bf16 :=
  pt (iblk m c 0 t) (iblk m c 1 t) (iblk m c 2 t) (iblk m c 3 t) (iblk m c 4 t) (iblk m c 5 t) (t.val % 84)

/-- Between points: the scratch buffers at something, the first two at the expanded scales of the head group where the next
    point is not the first of its group. -/
def inv (c : Dev nD) (t : Fin (cfg0.N + 1)) : sProp 𝕄 :=
  iprop((∃ f : Buf (Elt Ideal) ((c : Thread nD τ).loc cc0_scratch0), ⌜∀ s : Fin cfg0.N, s.val + 1 = t.val → t.val % 84 ≠ 0 → f = ex (iblk m c 3 s)⌝ ∗ (((c : Thread nD τ).loc cc0_scratch0) ↦{fullShare} f))
    ∗ (∃ f : Buf (Elt Ideal) ((c : Thread nD τ).loc cc0_scratch1), ⌜∀ s : Fin cfg0.N, s.val + 1 = t.val → t.val % 84 ≠ 0 → f = ex (iblk m c 5 s)⌝ ∗ (((c : Thread nD τ).loc cc0_scratch1) ↦{fullShare} f))
    ∗ (∃ f : Buf (Elt Ideal) ((c : Thread nD τ).loc cc0_scratch2), ((c : Thread nD τ).loc cc0_scratch2) ↦{fullShare} f)
    ∗ (∃ f : Buf (Elt Ideal) ((c : Thread nD τ).loc cc0_scratch3), ((c : Thread nD τ).loc cc0_scratch3) ↦{fullShare} f)
    ∗ (∃ f : Buf (Elt Ideal) ((c : Thread nD τ).loc cc0_scratch4), ((c : Thread nD τ).loc cc0_scratch4) ↦{fullShare} f)
    ∗ (∃ r, prngReg c r))

/-- The proof data: every input's buffer at its block, the output's at the block of results. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blkOut m c t
  Φ t := inv m c t
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = blkOut m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 4000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = inv m c t.succ from rfl,
    show (dats m 0 c).Φ t.castSucc = inv m c t.castSucc from rfl,
    show (dats m 0 c).owesAt () t.succ = (dats m 0 c).owesAt () t.castSucc from rfl,
    after0_0, after0_1, after0_2, after0_3, after0_4, after0_5, after0_6]
  unfold inv blkOut
  have hN : t.val < 672 := t.isLt
  iintro ⟨⟨⟨%s0, %e0, S0⟩, ⟨%s1, %e1, S1⟩, ⟨%s2, S2⟩, ⟨%s3, S3⟩, ⟨%s4, S4⟩, Hp⟩, Ho, ⟨%d0, H0⟩, ⟨%d1, H1⟩, ⟨%d2, H2⟩, ⟨%d3, H3⟩, ⟨%d4, H4⟩, ⟨%d5, H5⟩, ⟨%d6, H6⟩⟩
  rw [← qi_coords t]
  by_cases hi : k0_cond1 (grid0.coords t) = 1#1
  · iapply (sound_first c Set.univ (grid0.coords t) _ _ _ _ _ _ _ _ _ _ _ _ _ _ _ _ _ _ _ _ _ _ _ _ hi (iblk m c 0 t) (iblk m c 1 t) (iblk m c 2 t) (iblk m c 3 t) (iblk m c 4 t) (iblk m c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [S0]; · iexists _; rw [owns_whole]; iexact S0
    isplitl [S1]; · iexists _; rw [owns_whole]; iexact S1
    isplitl [S2]; · iexists _; rw [owns_whole]; iexact S2
    isplitl [S3]; · iexists _; rw [owns_whole]; iexact S3
    isplitl [S4]; · iexists _; rw [owns_whole]; iexact S4
    iintro ⟨H0, H1, H2, H3, H4, H5, H6, S0, S1, ⟨%y2, S2⟩, ⟨%y3, S3⟩, ⟨%y4, S4⟩⟩
    simp only [owns_whole]
    isplitl [S0 S1 S2 S3 S4 Hp]
    · isplitl [S0]
      · iexists _; isplitr
        swap; · iexact S0
        ipureintro; intro s hs _
        have hs' : s.val + 1 = t.val + 1 := hs
        rw [show s = t from Fin.ext (by omega)]
      isplitl [S1]
      · iexists _; isplitr
        swap; · iexact S1
        ipureintro; intro s hs _
        have hs' : s.val + 1 = t.val + 1 := hs
        rw [show s = t from Fin.ext (by omega)]
      isplitl [S2]; · iexists _; iexact S2
      isplitl [S3]; · iexists _; iexact S3
      isplitl [S4]; · iexists _; iexact S4
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have h0 : t.val % 84 ≠ 0 := fun h => hi ((first _).2 ((qi_coords t).trans h))
    have g0 : s0 = ex (iblk m c 3 t) := (e0 ⟨t.val - 1, by show t.val - 1 < 672; omega⟩ (by show t.val - 1 + 1 = t.val; omega) h0).trans (congrArg ex (iblk3_eq m c _ t (by show (t.val - 1) / 84 = t.val / 84; omega)))
    have g1 : s1 = ex (iblk m c 5 t) := (e1 ⟨t.val - 1, by show t.val - 1 < 672; omega⟩ (by show t.val - 1 + 1 = t.val; omega) h0).trans (congrArg ex (iblk5_eq m c _ t (by show (t.val - 1) / 84 = t.val / 84; omega)))
    iapply (sound_later c Set.univ (grid0.coords t) _ _ _ _ _ _ _ _ _ _ _ _ _ _ _ _ _ _ _ _ _ _ _ _ hi (iblk m c 0 t) (iblk m c 1 t) (iblk m c 2 t) (iblk m c 3 t) (iblk m c 4 t) (iblk m c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [S0]; · rw [owns_whole, ← g0]; iexact S0
    isplitl [S1]; · rw [owns_whole, ← g1]; iexact S1
    isplitl [S2]; · iexists _; rw [owns_whole]; iexact S2
    isplitl [S3]; · iexists _; rw [owns_whole]; iexact S3
    isplitl [S4]; · iexists _; rw [owns_whole]; iexact S4
    iintro ⟨H0, H1, H2, H3, H4, H5, H6, S0, S1, ⟨%y2, S2⟩, ⟨%y3, S3⟩, ⟨%y4, S4⟩⟩
    simp only [owns_whole]
    isplitl [S0 S1 S2 S3 S4 Hp]
    · isplitl [S0]
      · iexists _; isplitr
        swap; · iexact S0
        ipureintro; intro s hs _
        have hs' : s.val + 1 = t.val + 1 := hs
        rw [show s = t from Fin.ext (by omega)]
      isplitl [S1]
      · iexists _; isplitr
        swap; · iexact S1
        ipureintro; intro s hs _
        have hs' : s.val + 1 = t.val + 1 := hs
        rw [show s = t from Fin.ext (by omega)]
      isplitl [S2]; · iexists _; iexact S2
      isplitl [S3]; · iexists _; iexact S3
      isplitl [S4]; · iexists _; iexact S4
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) :
    Pipeline.BodyObligation (dats m 0 c) (defs₀ (F := Ideal)) Variants.none () Set.univ := fun t => by
  rw [bigSep_W0, bigSep_W0, defs₀_row]
  exact sound_body m c t

theorem inv_in (c : Dev nD) : Pipeline.ΦA spec0 c ⊢ (dats m 0 c).Φ 0 := by
  rw [show (dats m 0 c).Φ 0 = inv m c 0 from rfl]
  unfold Pipeline.ΦA inv
  rw [scopedRest0_eq c]
  iintro ⟨⟨⟨%s0, S0⟩, ⟨%s1, S1⟩, ⟨%s2, S2⟩, ⟨%s3, S3⟩, ⟨%s4, S4⟩⟩, Hp⟩
  isplitl [S0]
  · iexists s0; isplitr
    · ipureintro; intro s hs; exact absurd hs (Nat.succ_ne_zero _)
    iexact S0
  isplitl [S1]
  · iexists s1; isplitr
    · ipureintro; intro s hs; exact absurd hs (Nat.succ_ne_zero _)
    iexact S1
  isplitl [S2]; · iexists _; iexact S2
  isplitl [S3]; · iexists _; iexact S3
  isplitl [S4]; · iexists _; iexact S4
  iexact Hp

theorem inv_out (c : Dev nD) : (dats m 0 c).Φ (Fin.last cfg0.N) ⊢ Pipeline.ΦA spec0 c := by
  rw [show (dats m 0 c).Φ (Fin.last cfg0.N) = inv m c (Fin.last cfg0.N) from rfl]
  unfold Pipeline.ΦA inv
  rw [scopedRest0_eq c]
  iintro ⟨⟨%s0, -, S0⟩, ⟨%s1, -, S1⟩, ⟨%s2, S2⟩, ⟨%s3, S3⟩, ⟨%s4, S4⟩, Hp⟩
  isplitl [S0 S1 S2 S3 S4]
  · isplitl [S0]; · iexists _; iexact S0
    isplitl [S1]; · iexists _; iexact S1
    isplitl [S2]; · iexists _; iexact S2
    isplitl [S3]; · iexists _; iexact S3
    iexists _; iexact S4
  iexact Hp

set_option backward.isDefEq.respectTransparency.types false in
set_option maxHeartbeats 800000 in
/-- The launch: every array ends as the proof data says. -/
theorem run_main : θ_run defs (onTc (τ := τ) (main (F := Ideal))) (s₀ m ρ)
    (Pipeline.FramePost cfgs (dats m) (0 : Fin 1) (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := inv_in m) (hout := inv_out m)

/-- The array of results: at row `a`, column `b`, the block of the point that computes it. -/
def result (c : Dev nD) : Vec Ideal S21504x7168 .bf16 := fun x =>
  blkOut m c ⟨84 * ((x 1).val / 896) + (x 0).val / 256, by
      have h0 : (x 0).val < 21504 := (x 0).isLt
      have h1 : (x 1).val < 7168 := (x 1).isLt
      show _ < 672
      omega⟩
    (ix2 ⟨(x 0).val % 256, Nat.mod_lt _ (by norm_num)⟩ ⟨(x 1).val % 896, Nat.mod_lt _ (by norm_num)⟩)

theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  funext x
  have hx0 : (x 0).val < 256 := (x 0).isLt
  have hx1 : (x 1).val < 896 := (x 1).isLt
  have ht : t.val < 672 := t.isLt
  have key : ∀ z : S21504x7168.Idx, (z 0).val = t.val % 84 * 256 + (x 0).val → (z 1).val = t.val / 84 * 896 + (x 1).val →
      blkOut m c t (ix2 ⟨(x 0).val, hx0⟩ ⟨(x 1).val, hx1⟩) = result m c z := by
    intro z h0 h1
    unfold result
    have e0 : 84 * ((z 1).val / 896) + (z 0).val / 256 = t.val := by omega
    have e1 : (z 0).val % 256 = (x 0).val := by omega
    have e2 : (z 1).val % 896 = (x 1).val := by omega
    simp only [e0, e1, e2]
  rw [View.read_apply]
  have hc : (cfg0.win 6).cut (grid0.coords t) (blkOut m c t) x = blkOut m c t (ix2 ⟨(x 0).val, hx0⟩ ⟨(x 1).val, hx1⟩) := by
    show blkOut m c t _ = _
    congr 1
    funext a
    match a with
    | ⟨0, _⟩ => rfl
    | ⟨1, _⟩ => rfl
  rw [hc]
  rw [cast_eq]
  refine key (((cfg0.win 6).blk t).view.emb x) ?_ ?_
  · show (BitVec.ofNat 32 (grid0.coords t 1).val).toNat * 256 + 1 * (x 0).val = t.val % 84 * 256 + (x 0).val
    rw [coord1, BitVec.toNat_ofNat]; omega
  · show (BitVec.ofNat 32 (grid0.coords t 0).val).toNat * 896 + 1 * (x 1).val = t.val / 84 * 896 + (x 1).val
    rw [coord0, BitVec.toNat_ofNat]; omega

/-- Every element of the array of results lies in the block of one point. -/
theorem final_o (c : Dev nD) : (dats m 0 c).arrAt 6 cfg0.N = result m c :=
  (dats m 0 c).arrAt_eq_of_cover 6 (result m c) (fun t _ => flushed_eq m c t) fun i => by
    have h0 : (i 0 : Nat) < 21504 := (i 0).isLt
    have h1 : (i 1 : Nat) < 7168 := (i 1).isLt
    have ht : 84 * ((i 1 : Nat) / 896) + (i 0 : Nat) / 256 < grid0.N := by show _ < 672; omega
    refine ⟨⟨84 * ((i 1 : Nat) / 896) + (i 0 : Nat) / 256, ht⟩, flush0_6 _, ?_⟩
    show i ∈ ((View.whole main_v16).slice (win0_6.rect ⟨_, ht⟩)).set
    rw [View.set_slice_whole, Rect.mem_set_unit]
    intro a
    match a with
    | ⟨0, _⟩ =>
      show (BitVec.ofNat 32 (grid0.coords ⟨_, ht⟩ 1).val).toNat * 256 ≤ (i 0 : Nat) ∧ (i 0 : Nat) < (BitVec.ofNat 32 (grid0.coords ⟨_, ht⟩ 1).val).toNat * 256 + 256
      rw [coord1, BitVec.toNat_ofNat]
      dsimp only
      omega
    | ⟨1, _⟩ =>
      show (BitVec.ofNat 32 (grid0.coords ⟨_, ht⟩ 0).val).toNat * 896 ≤ (i 1 : Nat) ∧ (i 1 : Nat) < (BitVec.ofNat 32 (grid0.coords ⟨_, ht⟩ 0).val).toNat * 896 + 896
      rw [coord0, BitVec.toNat_ofNat]
      dsimp only
      omega

/-- The run, read: the array of results at `result`, the arguments unchanged. -/
theorem run : θ_run defs (onTc (τ := τ) (main (F := Ideal))) ⟨m, fun _ => 0, ρ⟩ (fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final_o m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Value

end
-- ==== Proof.HostValue.lean ====
/- The array of results from the argument arrays: what the host's reshapes and transposes put where, and with it the array of
   results as attention over the arguments, element by element. -/
module

public import proofs.«01_k».proof.Proof.Value
public import Idealize.ShloMosaic.Lib.StableHlo.ReadAt
public import Idealize.ShloMosaic.Lib.Pointwise

@[expose] public section

set_option maxRecDepth 16384

noncomputable section

namespace Cert.KernelIdeal.HostValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Words Cert.KernelIdeal.Tile Cert.KernelIdeal.Fold Cert.KernelIdeal.Block Cert.KernelIdeal.Scales Cert.KernelIdeal.Value Idealize.ShloMosaic.Pointwise

local notation "𝕄" => MT nD τ sig Unit (Elt Ideal) ℕ (UR sig nD τ) ℕ

variable (m : (ℓ : Loc nD τ sig) → Buf (Elt Ideal) ℓ)

theorem v2_apply (c : Dev nD) (g : Fin 8) (r : Fin 896) (u : Fin 21504) : V m c main_v2 (ix3 g r u) = m ((c.tc : Thread nD τ).loc main_arg0) (ix4 0 u ⟨g.val * 7 + r.val / 128, by have := g.isLt; have := r.isLt; omega⟩ ⟨r.val % 128, Nat.mod_lt _ (by norm_num)⟩) := by
  unfold V
  after_reads_at

theorem v5_apply (c : Dev nD) (g : Fin 8) (h : Fin 7) (u : Fin 21504) : V m c main_v5 (ix3 g h u) = m ((c.tc : Thread nD τ).loc main_arg1) (ix3 0 u ⟨g.val * 7 + h.val, by have := g.isLt; have := h.isLt; omega⟩) := by
  unfold V
  after_reads_at

theorem v7_apply (c : Dev nD) (g : Fin 8) (u : Fin 21504) (d : Fin 128) : V m c main_v7 (ix3 g u d) = m ((c.tc : Thread nD τ).loc main_arg2) (ix4 0 u g d) := by
  unfold V
  after_reads_at

theorem v9_apply (c : Dev nD) (g : Fin 8) (d : Fin 128) (u : Fin 21504) : V m c main_v9 (ix3 g d u) = m ((c.tc : Thread nD τ).loc main_arg4) (ix4 0 u g d) := by
  unfold V
  after_reads_at

theorem v12_apply (c : Dev nD) (g : Fin 8) (a : Fin 168) (l : Fin 128) : V m c main_v12 (ix3 g a l) = m ((c.tc : Thread nD τ).loc main_arg3) (ix3 0 ⟨a.val * 128 + l.val, by have := a.isLt; have := l.isLt; omega⟩ g) := by
  unfold V
  after_reads_at

theorem v15_apply (c : Dev nD) (g : Fin 8) (a : Fin 168) (l : Fin 128) : V m c main_v15 (ix3 g a l) = m ((c.tc : Thread nD τ).loc main_arg5) (ix3 0 ⟨a.val * 128 + l.val, by have := a.isLt; have := l.isLt; omega⟩ g) := by
  unfold V
  after_reads_at

theorem iblk0_apply (c : Dev nD) (t : Fin cfg0.N) (x : S1x896x256.Idx) : iblk m c 0 t x = V m c main_v2 (ix3 ⟨t.val / 84, by have : t.val < 672 := t.isLt; omega⟩ ⟨(x 1).val, (x 1).isLt⟩ ⟨t.val % 84 * 256 + (x 2).val, by have : (x 2).val < 256 := (x 2).isLt; omega⟩) := by
  unfold iblk
  rw [View.read_apply]
  show V m c main_v2 _ = _
  congr 1
  funext a
  apply Fin.ext
  have h0 : (x 0).val < 1 := (x 0).isLt
  match a with
  | ⟨0, _⟩ =>
    show (BitVec.ofNat 32 (grid0.coords t 0).val).toNat * 1 + 1 * (x 0).val = t.val / 84
    have : t.val < 672 := t.isLt
    rw [coord0, BitVec.toNat_ofNat]; omega
  | ⟨1, _⟩ => show 0 * 896 + 1 * (x 1).val = (x 1).val; omega
  | ⟨2, _⟩ =>
    show (BitVec.ofNat 32 (grid0.coords t 1).val).toNat * 256 + 1 * (x 2).val = t.val % 84 * 256 + (x 2).val
    rw [coord1, BitVec.toNat_ofNat]; omega

theorem iblk1_apply (c : Dev nD) (t : Fin cfg0.N) (x : S1x7x256.Idx) : iblk m c 1 t x = V m c main_v5 (ix3 ⟨t.val / 84, by have : t.val < 672 := t.isLt; omega⟩ ⟨(x 1).val, (x 1).isLt⟩ ⟨t.val % 84 * 256 + (x 2).val, by have : (x 2).val < 256 := (x 2).isLt; omega⟩) := by
  unfold iblk
  rw [View.read_apply]
  show V m c main_v5 _ = _
  congr 1
  funext a
  apply Fin.ext
  have h0 : (x 0).val < 1 := (x 0).isLt
  match a with
  | ⟨0, _⟩ =>
    show (BitVec.ofNat 32 (grid0.coords t 0).val).toNat * 1 + 1 * (x 0).val = t.val / 84
    have : t.val < 672 := t.isLt
    rw [coord0, BitVec.toNat_ofNat]; omega
  | ⟨1, _⟩ => show 0 * 7 + 1 * (x 1).val = (x 1).val; omega
  | ⟨2, _⟩ =>
    show (BitVec.ofNat 32 (grid0.coords t 1).val).toNat * 256 + 1 * (x 2).val = t.val % 84 * 256 + (x 2).val
    rw [coord1, BitVec.toNat_ofNat]; omega

theorem iblk2_apply (c : Dev nD) (t : Fin cfg0.N) (x : S1x21504x128.Idx) : iblk m c 2 t x = V m c main_v7 (ix3 ⟨t.val / 84, by have : t.val < 672 := t.isLt; omega⟩ ⟨(x 1).val, (x 1).isLt⟩ ⟨(x 2).val, (x 2).isLt⟩) := by
  unfold iblk
  rw [View.read_apply]
  show V m c main_v7 _ = _
  congr 1
  funext a
  apply Fin.ext
  have h0 : (x 0).val < 1 := (x 0).isLt
  match a with
  | ⟨0, _⟩ =>
    show (BitVec.ofNat 32 (grid0.coords t 0).val).toNat * 1 + 1 * (x 0).val = t.val / 84
    have : t.val < 672 := t.isLt
    rw [coord0, BitVec.toNat_ofNat]; omega
  | ⟨1, _⟩ => show 0 * 21504 + 1 * (x 1).val = (x 1).val; omega
  | ⟨2, _⟩ =>
    show 0 * 128 + 1 * (x 2).val = (x 2).val; omega

theorem iblk4_apply (c : Dev nD) (t : Fin cfg0.N) (x : S1x128x21504.Idx) : iblk m c 4 t x = V m c main_v9 (ix3 ⟨t.val / 84, by have : t.val < 672 := t.isLt; omega⟩ ⟨(x 1).val, (x 1).isLt⟩ ⟨(x 2).val, (x 2).isLt⟩) := by
  unfold iblk
  rw [View.read_apply]
  show V m c main_v9 _ = _
  congr 1
  funext a
  apply Fin.ext
  have h0 : (x 0).val < 1 := (x 0).isLt
  match a with
  | ⟨0, _⟩ =>
    show (BitVec.ofNat 32 (grid0.coords t 0).val).toNat * 1 + 1 * (x 0).val = t.val / 84
    have : t.val < 672 := t.isLt
    rw [coord0, BitVec.toNat_ofNat]; omega
  | ⟨1, _⟩ => show 0 * 128 + 1 * (x 1).val = (x 1).val; omega
  | ⟨2, _⟩ =>
    show 0 * 21504 + 1 * (x 2).val = (x 2).val; omega

open Classical in
/-- Attention over the arguments at row (query) `t` of head `h` and lane `d`: the head reads the keys and values of group
    `h / 7`; the scores are the dot products times the scales of query and key and the constant `smc`; the weights carry the
    scales of the values. -/
def attAt (q : Vec Ideal S1x21504x56x128 .fp8e4m3) (qs : Vec Ideal S1x21504x56 .f32) (k : Vec Ideal S1x21504x8x128 .fp8e4m3)
    (ks : Vec Ideal S1x21504x8 .f32) (v : Vec Ideal S1x21504x8x128 .fp8e4m3) (vs : Vec Ideal S1x21504x8 .f32)
    (t : Fin 21504) (g : Fin 8) (h : Fin 56) (d : Fin 128) : EReal :=
  att (fun u => if seen t.val u then
      (∑ d : Fin 128, k (ix4 0 u g d) * q (ix4 0 t h d)) * (qs (ix3 0 t h) * smc) * ks (ix3 0 u g) else ⊥)
    (fun u => vs (ix3 0 u g)) (fun u => v (ix4 0 u g d))

theorem ex_apply (s : Vec Ideal S1x168x128 .f32) (f : Fin 21504 → EReal)
    (h : ∀ (a : Fin 168) (l : Fin 128), s (ix3 0 a l) = f ⟨a.val * 128 + l.val, by have := a.isLt; have := l.isLt; omega⟩)
    (u : Fin 21504) (l : Fin 128) : ex s (ix2 u l) = f u := by
  unfold ex
  have hu := u.isLt
  refine (h ⟨u.val / 128, by omega⟩ ⟨u.val % 128, Nat.mod_lt _ (by norm_num)⟩).trans (congrArg f (Fin.ext ?_))
  show u.val / 128 * 128 + u.val % 128 = u.val
  omega

set_option maxHeartbeats 1000000 in
/-- The array of results is attention over the arguments. -/
theorem result_apply (c : Dev nD) (x : S21504x7168.Idx) : result m c x
    = attAt (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        ⟨(x 0).val, (x 0).isLt⟩ ⟨(x 1).val / 896, by have : (x 1).val < 7168 := (x 1).isLt; omega⟩
        ⟨(x 1).val / 128, by have : (x 1).val < 7168 := (x 1).isLt; omega⟩ ⟨(x 1).val % 128, Nat.mod_lt _ (by norm_num)⟩ := by
  have h0 : (x 0).val < 21504 := (x 0).isLt
  have h1 : (x 1).val < 7168 := (x 1).isLt
  unfold result blkOut pt attAt
  generalize hT : (⟨84 * ((x 1).val / 896) + (x 0).val / 256, _⟩ : Fin cfg0.N) = T
  have hv : T.val = 84 * ((x 1).val / 896) + (x 0).val / 256 := by rw [← hT]
  have hd : T.val / 84 = (x 1).val / 896 := by omega
  have hm : T.val % 84 = (x 0).val / 256 := by omega
  congr 1
  · funext u
    unfold xr
    have ht : 256 * (T.val % 84) + (x 0).val % 256 = (x 0).val := by omega
    have hs : seen (256 * (T.val % 84) + (x 0).val % 256) u ↔ seen (x 0).val u := iff_of_eq (congrArg (fun n => seen n u) ht)
    by_cases hh : seen (x 0).val u
    swap
    · exact (if_neg fun h => hh (hs.1 h)).trans (if_neg hh).symm
    refine (if_pos (hs.2 hh)).trans (Eq.trans ?_ (if_pos hh).symm)
    congr 1
    · congr 1
      · refine Finset.sum_congr rfl fun d _ => ?_
        have hd' := d.isLt
        rw [iblk2_apply, iblk0_apply, v7_apply, v2_apply]
        congr 2
        · funext a
          apply Fin.ext
          match a with
          | ⟨0, _⟩ => rfl
          | ⟨1, _⟩ => rfl
          | ⟨2, _⟩ => exact hd
          | ⟨3, _⟩ => rfl
        · funext a
          apply Fin.ext
          match a with
          | ⟨0, _⟩ => rfl
          | ⟨1, _⟩ => show T.val % 84 * 256 + (x 0).val % 256 = (x 0).val; omega
          | ⟨2, _⟩ => show T.val / 84 * 7 + (128 * ((x 1).val % 896 / 128) + d.val) / 128 = (x 1).val / 128; omega
          | ⟨3, _⟩ => show (128 * ((x 1).val % 896 / 128) + d.val) % 128 = d.val; omega
      · rw [iblk1_apply, v5_apply]
        congr 2
        funext a
        apply Fin.ext
        match a with
        | ⟨0, _⟩ => rfl
        | ⟨1, _⟩ => show T.val % 84 * 256 + (x 0).val % 256 = (x 0).val; omega
        | ⟨2, _⟩ => show T.val / 84 * 7 + (x 1).val % 896 / 128 = (x 1).val / 128; omega
    · refine ex_apply _ (fun u => m ((c.tc : Thread nD τ).loc main_arg3) (ix3 0 u ⟨(x 1).val / 896, by omega⟩)) (fun a l => ?_) u _
      rw [iblk3_apply, v12_apply]
      simp only [hd]
      rfl
  · funext u
    refine ex_apply _ (fun u => m ((c.tc : Thread nD τ).loc main_arg5) (ix3 0 u ⟨(x 1).val / 896, by omega⟩)) (fun a l => ?_) u _
    rw [iblk5_apply, v15_apply]
    simp only [hd]
    rfl
  · funext u
    dsimp only
    rw [iblk4_apply, v9_apply]
    congr 1
    funext a
    apply Fin.ext
    match a with
    | ⟨0, _⟩ => rfl
    | ⟨1, _⟩ => rfl
    | ⟨2, _⟩ => exact hd
    | ⟨3, _⟩ => show (x 1).val % 896 % 128 = (x 1).val % 128; omega

end Cert.KernelIdeal.HostValue

end
-- ==== Proof.RefBody.lean ====
/- The reference's array of results, element by element: attention of one query of one head over the keys it sees. -/
module

public import proofs.«01_k».proof.Proof.Gen.ReferenceIdeal.Frame
public import proofs.«01_k».proof.Proof.HostValue
public import Idealize.ShloMosaic.Lib.StableHlo.ReadAt
public import Idealize.ShloMosaic.Lib.Pointwise

@[expose] public section

set_option maxRecDepth 16384

noncomputable section

namespace Cert.ReferenceIdeal.RefBody

open Cert.ReferenceIdeal Cert.ReferenceIdeal.Gen
open Idealize.ShloMosaic Idealize.ShloMosaic.TcCoe Idealize.ShloMosaic.Tactic
open Idealize.SL Idealize.SL.Sem
open Idealize.ShloMosaic.Pointwise
open Cert.KernelIdeal.Fold (seen)
open Cert.KernelIdeal.Block (att)
open Cert.KernelIdeal.Tile (smc)

theorem score_apply (q k : Vec Ideal S56x21504x128 .fp8e4m3) (qs : Vec Ideal S56x21504x1 .f32) (ks : Vec Ideal S56x1x21504 .f32)
    (h : Fin 56) (t u : Fin 21504) :
    k0_pay2 (F := Ideal) q k qs ks (ix3 h t u)
      = (∑ d : Fin 128, k (ix3 h u d) * q (ix3 h t d)) * (qs (ix3 h t 0) * smc) * ks (ix3 h 0 u) := by
  pointwise [k0_pay2]
  unfold smc
  congr 2
  exact Finset.sum_congr rfl fun d _ => EReal.mul_comm _ _

/-- The division of a query's position by the chunk length, rounded to the floor, as the program writes it. -/
def fl (t : BitVec 32) : BitVec 32 :=
  Scalar.select
    (IntOp.andi
      (IntOp.cmpi CmpIPredicate.ne
        (IntOp.subi (BitVec.setWidth 32 (IntOp.cmpi CmpIPredicate.sgt t 0#32)) (BitVec.setWidth 32 (IntOp.cmpi CmpIPredicate.slt t 0#32)))
        (Scalar.subi (Scalar.extui (Scalar.cmpi CmpIPredicate.sgt 6144#32 0#32)) (Scalar.extui (Scalar.cmpi CmpIPredicate.slt 6144#32 0#32))))
      (IntOp.cmpi CmpIPredicate.ne (IntOp.remsi ArithUnit.vector t 6144#32) 0#32))
    (IntOp.subi (IntOp.divsi ArithUnit.vector t 6144#32) 1#32)
    (IntOp.divsi ArithUnit.vector t 6144#32)

/-- The mask's bit at query `t` and key `u`. -/
def bit (t u : BitVec 32) : BitVec 1 :=
  IntOp.andi (IntOp.ori (IntOp.cmpi CmpIPredicate.slt u 6144#32) (IntOp.cmpi CmpIPredicate.sge u (IntOp.muli (fl t) 6144#32)))
    (IntOp.cmpi CmpIPredicate.sle u t)

theorem fl_eq : ∀ (a : Fin 168) (b : Fin 128), fl (BitVec.ofNat 32 (128 * a.val + b.val)) = BitVec.ofNat 32 ((128 * a.val + b.val) / 6144) := by
  decide +kernel

open Classical in
theorem bit_eq (t u : Fin 21504) : bit (BitVec.ofNat 32 t.val) (BitVec.ofNat 32 u.val) = BitVec.ofBool (decide (seen t.val u)) := by
  have ht := t.isLt
  have hu := u.isLt
  have hf : fl (BitVec.ofNat 32 t.val) = BitVec.ofNat 32 (t.val / 6144) := by
    have := fl_eq ⟨t.val / 128, by omega⟩ ⟨t.val % 128, Nat.mod_lt _ (by norm_num)⟩
    rwa [show 128 * (t.val / 128) + t.val % 128 = t.val by omega] at this
  unfold bit
  rw [hf]
  have hm : IntOp.muli (BitVec.ofNat 32 (t.val / 6144)) 6144#32 = BitVec.ofNat 32 (t.val / 6144 * 6144) := (BitVec.ofNat_mul ..).symm
  rw [hm]
  show (BitVec.ofBool ((BitVec.ofNat 32 u.val).slt (BitVec.ofNat 32 6144)) ||| BitVec.ofBool ((BitVec.ofNat 32 (t.val / 6144 * 6144)).sle (BitVec.ofNat 32 u.val)))
    &&& BitVec.ofBool ((BitVec.ofNat 32 u.val).sle (BitVec.ofNat 32 t.val)) = _
  have h1 : (BitVec.ofNat 32 u.val).slt (BitVec.ofNat 32 6144) = decide (u.val < 6144) := by
    rw [BitVec.slt_eq_decide, BitVec.toInt_ofNat', BitVec.toInt_ofNat']
    congr 1
    simp only [eq_iff_iff]
    rw [Int.bmod_eq_of_le (by omega) (by omega), Int.bmod_eq_of_le (by omega) (by omega)]
    omega
  rw [h1, Cert.KernelIdeal.Tile.sle_iff _ _ (by omega) (by omega), Cert.KernelIdeal.Tile.sle_iff _ _ (by omega) (by omega)]
  unfold seen
  by_cases a : u.val < 6144 <;> by_cases b : t.val / 6144 * 6144 ≤ u.val <;> by_cases c : u.val ≤ t.val <;>
    simp [a, b, c]

/-- A score under the mask, as the program writes it. -/
def xs (x : FVec Ideal S56x21504x21504 .f32) (h : Fin 56) (t u : Fin 21504) : EReal :=
  Scalar.select (bit (BitVec.ofNat 32 t.val) (BitVec.ofNat 32 u.val)) (x (ix3 h t u)) (Ideal.ofBits .f32 4286578688#32)

open Classical in
theorem xs_eq (x : FVec Ideal S56x21504x21504 .f32) (h : Fin 56) (t u : Fin 21504) :
    xs x h t u = if seen t.val u then x (ix3 h t u) else ⊥ := by
  unfold xs
  rw [bit_eq, Cert.KernelIdeal.Tile.ofBits_neg_inf]
  by_cases s : seen t.val u
  · rw [if_pos s, decide_eq_true s]; rfl
  · rw [if_neg s, decide_eq_false s]; rfl

theorem ofBits_nan : Ideal.ofBits .f32 2143289344#32 = ⊥ := by
  simp only [Ideal.ofBits, Ideal.ieee]
  rw [if_pos (by decide)]
  rfl

open Classical in
theorem pay1_apply (x : FVec Ideal S56x21504x21504 .f32) (vs : Vec Ideal S56x1x21504 .f32) (v : Vec Ideal S56x21504x128 .fp8e4m3)
    (t : Fin 21504) (y : Fin 7168) :
    k0_pay1 (F := Ideal) x (iota .tc S56x21504x21504 32 [1] iota_S56x21504x21504_d1_w32) (iota .tc S56x21504x21504 32 [2] iota_S56x21504x21504_d2_w32) k0_pay3 k0_pay4 k0_pay5 vs v
        (ix2 t y)
      = if (∑ u, Ideal.exp (xs x ⟨y.val / 128, by have := y.isLt; omega⟩ t u - Finset.fold max (Ideal.ofBits .f32 4286578688#32) (xs x ⟨y.val / 128, by have := y.isLt; omega⟩ t) Finset.univ)) = 0
        then Ideal.ofBits .f32 2143289344#32
        else ∑ u, Ideal.div (Ideal.exp (xs x ⟨y.val / 128, by have := y.isLt; omega⟩ t u - Finset.fold max (Ideal.ofBits .f32 4286578688#32) (xs x ⟨y.val / 128, by have := y.isLt; omega⟩ t) Finset.univ))
              (∑ u, Ideal.exp (xs x ⟨y.val / 128, by have := y.isLt; omega⟩ t u - Finset.fold max (Ideal.ofBits .f32 4286578688#32) (xs x ⟨y.val / 128, by have := y.isLt; omega⟩ t) Finset.univ))
            * vs (ix3 ⟨y.val / 128, by have := y.isLt; omega⟩ 0 u) * v (ix3 ⟨y.val / 128, by have := y.isLt; omega⟩ u ⟨y.val % 128, Nat.mod_lt _ (by norm_num)⟩) := by
  pointwise [k0_pay1, k0_pay3, k0_pay4, k0_pay5]
  unfold xs bit fl
  congr

/-- The body's result is attention of the query over the keys it sees. -/
theorem body_apply (q k v : Vec Ideal S56x21504x128 .fp8e4m3) (qs : Vec Ideal S56x21504x1 .f32) (ks vs : Vec Ideal S56x1x21504 .f32)
    (t : Fin 21504) (y : Fin 7168) (h : Fin 56) (hh : h.val = y.val / 128) (d : Fin 128) (hd : d.val = y.val % 128) :
    k0_pay1 (F := Ideal) (k0_pay2 q k qs ks) (iota .tc S56x21504x21504 32 [1] iota_S56x21504x21504_d1_w32) (iota .tc S56x21504x21504 32 [2] iota_S56x21504x21504_d2_w32) k0_pay3 k0_pay4 k0_pay5 vs v
        (ix2 t y)
      = att (open Classical in fun u => if seen t.val u then
            (∑ d : Fin 128, k (ix3 h u d) * q (ix3 h t d)) * (qs (ix3 h t 0) * smc) * ks (ix3 h 0 u) else ⊥)
          (fun u => vs (ix3 h 0 u)) (fun u => v (ix3 h u d)) := by
  have eh : (⟨y.val / 128, by have := y.isLt; omega⟩ : Fin 56) = h := Fin.ext hh.symm
  have ed : (⟨y.val % 128, Nat.mod_lt _ (by norm_num)⟩ : Fin 128) = d := Fin.ext hd.symm
  rw [pay1_apply, ofBits_nan, eh, ed]
  have e : xs (k0_pay2 q k qs ks) h t = (open Classical in fun u => if seen t.val u then
            (∑ d : Fin 128, k (ix3 h u d) * q (ix3 h t d)) * (qs (ix3 h t 0) * smc) * ks (ix3 h 0 u) else ⊥) := by
    funext u
    rw [xs_eq, score_apply]
  rw [e, Cert.KernelIdeal.Tile.ofBits_neg_inf]
  rfl

end Cert.ReferenceIdeal.RefBody

end
-- ==== Proof.RefValue.lean ====
/- The run of the reference, its values ideal: the array of results is attention over the argument arrays. -/
module

public import proofs.«01_k».proof.Proof.RefBody
public import proofs.«01_k».proof.Proof.Gen.ReferenceIdeal.Points
public import Idealize.ShloMosaic.Lib.Pipeline.Value
public import Idealize.ShloMosaic.Lib.Pipeline.ValueKit.Basic
public import Idealize.ShloMosaic.Lib.StableHlo.ReadAt
public import Idealize.ShloMosaic.Lib.Pointwise

@[expose] public section

set_option maxRecDepth 16384

noncomputable section

namespace Cert.ReferenceIdeal.RefValue

open Cert.ReferenceIdeal Cert.ReferenceIdeal.Gen Cert.ReferenceIdeal.RefBody
open Idealize.ShloMosaic Idealize.ShloMosaic.TcCoe Idealize.ShloMosaic.Tactic
open Idealize.SL Idealize.SL.Sem
open Idealize.ShloMosaic.Pointwise
open Cert.KernelIdeal.Fold (seen)
open Cert.KernelIdeal.Block (att)
open Cert.KernelIdeal.Tile (smc)
open Cert.KernelIdeal.HostValue (attAt)
open scoped Classical

variable (m : (ℓ : Loc nD τ sig) → Buf (Elt Ideal) ℓ) (ρ : Dev nD → PrngReg)

theorem v1_apply (c : Dev nD) (h : Fin 56) (u : Fin 21504) (d : Fin 128) : V m c main_v1 (ix3 h u d) = m ((c.tc : Thread nD τ).loc main_arg0) (ix4 0 u h d) := by
  unfold V
  after_reads_at

theorem v12_apply (c : Dev nD) (h : Fin 56) (u : Fin 21504) : V m c main_v12 (ix3 h u 0) = m ((c.tc : Thread nD τ).loc main_arg1) (ix3 0 u h) := by
  unfold V
  after_reads_at

theorem v5_apply (c : Dev nD) (h : Fin 56) (u : Fin 21504) (d : Fin 128) : V m c main_v5 (ix3 h u d) = m ((c.tc : Thread nD τ).loc main_arg2) (ix4 0 u ⟨h.val / 7, by have := h.isLt; omega⟩ d) := by
  unfold V
  after_reads_at

theorem v17_apply (c : Dev nD) (h : Fin 56) (u : Fin 21504) : V m c main_v17 (ix3 h 0 u) = m ((c.tc : Thread nD τ).loc main_arg3) (ix3 0 u ⟨h.val / 7, by have := h.isLt; omega⟩) := by
  unfold V
  after_reads_at

theorem v9_apply (c : Dev nD) (h : Fin 56) (u : Fin 21504) (d : Fin 128) : V m c main_v9 (ix3 h u d) = m ((c.tc : Thread nD τ).loc main_arg4) (ix4 0 u ⟨h.val / 7, by have := h.isLt; omega⟩ d) := by
  unfold V
  after_reads_at

theorem v22_apply (c : Dev nD) (h : Fin 56) (u : Fin 21504) : V m c main_v22 (ix3 h 0 u) = m ((c.tc : Thread nD τ).loc main_arg5) (ix3 0 u ⟨h.val / 7, by have := h.isLt; omega⟩) := by
  unfold V
  after_reads_at

theorem emb0 (t : Fin cfg0.N) (j : S56x21504x128.Idx) : ((cfg0.win 0).blk t).view.emb j = j := by
  funext a; apply Fin.ext
  match a with
  | ⟨0, _⟩ => show 0 * 56 + 1 * (j 0).val = (j 0).val; omega
  | ⟨1, _⟩ => show 0 * 21504 + 1 * (j 1).val = (j 1).val; omega
  | ⟨2, _⟩ => show 0 * 128 + 1 * (j 2).val = (j 2).val; omega

theorem iblk0_eq (c : Dev nD) (t : Fin cfg0.N) : iblk m c 0 t = V m c main_v1 := by
  funext j; show V m c main_v1 (((cfg0.win 0).blk t).view.emb j) = V m c main_v1 j; rw [emb0]

theorem emb1 (t : Fin cfg0.N) (j : S56x21504x1.Idx) : ((cfg0.win 1).blk t).view.emb j = j := by
  funext a; apply Fin.ext
  match a with
  | ⟨0, _⟩ => show 0 * 56 + 1 * (j 0).val = (j 0).val; omega
  | ⟨1, _⟩ => show 0 * 21504 + 1 * (j 1).val = (j 1).val; omega
  | ⟨2, _⟩ => show 0 * 1 + 1 * (j 2).val = (j 2).val; omega

theorem iblk1_eq (c : Dev nD) (t : Fin cfg0.N) : iblk m c 1 t = V m c main_v12 := by
  funext j; show V m c main_v12 (((cfg0.win 1).blk t).view.emb j) = V m c main_v12 j; rw [emb1]

theorem emb2 (t : Fin cfg0.N) (j : S56x21504x128.Idx) : ((cfg0.win 2).blk t).view.emb j = j := by
  funext a; apply Fin.ext
  match a with
  | ⟨0, _⟩ => show 0 * 56 + 1 * (j 0).val = (j 0).val; omega
  | ⟨1, _⟩ => show 0 * 21504 + 1 * (j 1).val = (j 1).val; omega
  | ⟨2, _⟩ => show 0 * 128 + 1 * (j 2).val = (j 2).val; omega

theorem iblk2_eq (c : Dev nD) (t : Fin cfg0.N) : iblk m c 2 t = V m c main_v5 := by
  funext j; show V m c main_v5 (((cfg0.win 2).blk t).view.emb j) = V m c main_v5 j; rw [emb2]

theorem emb3 (t : Fin cfg0.N) (j : S56x1x21504.Idx) : ((cfg0.win 3).blk t).view.emb j = j := by
  funext a; apply Fin.ext
  match a with
  | ⟨0, _⟩ => show 0 * 56 + 1 * (j 0).val = (j 0).val; omega
  | ⟨1, _⟩ => show 0 * 1 + 1 * (j 1).val = (j 1).val; omega
  | ⟨2, _⟩ => show 0 * 21504 + 1 * (j 2).val = (j 2).val; omega

theorem iblk3_eq (c : Dev nD) (t : Fin cfg0.N) : iblk m c 3 t = V m c main_v17 := by
  funext j; show V m c main_v17 (((cfg0.win 3).blk t).view.emb j) = V m c main_v17 j; rw [emb3]

theorem emb4 (t : Fin cfg0.N) (j : S56x21504x128.Idx) : ((cfg0.win 4).blk t).view.emb j = j := by
  funext a; apply Fin.ext
  match a with
  | ⟨0, _⟩ => show 0 * 56 + 1 * (j 0).val = (j 0).val; omega
  | ⟨1, _⟩ => show 0 * 21504 + 1 * (j 1).val = (j 1).val; omega
  | ⟨2, _⟩ => show 0 * 128 + 1 * (j 2).val = (j 2).val; omega

theorem iblk4_eq (c : Dev nD) (t : Fin cfg0.N) : iblk m c 4 t = V m c main_v9 := by
  funext j; show V m c main_v9 (((cfg0.win 4).blk t).view.emb j) = V m c main_v9 j; rw [emb4]

theorem emb5 (t : Fin cfg0.N) (j : S56x1x21504.Idx) : ((cfg0.win 5).blk t).view.emb j = j := by
  funext a; apply Fin.ext
  match a with
  | ⟨0, _⟩ => show 0 * 56 + 1 * (j 0).val = (j 0).val; omega
  | ⟨1, _⟩ => show 0 * 1 + 1 * (j 1).val = (j 1).val; omega
  | ⟨2, _⟩ => show 0 * 21504 + 1 * (j 2).val = (j 2).val; omega

theorem iblk5_eq (c : Dev nD) (t : Fin cfg0.N) : iblk m c 5 t = V m c main_v22 := by
  funext j; show V m c main_v22 (((cfg0.win 5).blk t).view.emb j) = V m c main_v22 j; rw [emb5]

theorem emb6 (t : Fin cfg0.N) (j : S21504x7168.Idx) : ((cfg0.win 6).blk t).view.emb j = j := by
  funext a; apply Fin.ext
  match a with
  | ⟨0, _⟩ => show 0 * 21504 + 1 * (j 0).val = (j 0).val; omega
  | ⟨1, _⟩ => show 0 * 7168 + 1 * (j 1).val = (j 1).val; omega

theorem cut6_eq (t : Fin cfg0.N) (X : Vec Ideal S21504x7168 .bf16) :
    (cfg0.win 6).cut (grid0.coords t) X = ((cfg0.win 6).blk t).view.read (Elt Ideal) X := by
  funext j
  show X j = X (((cfg0.win 6).blk t).view.emb j)
  rw [emb6]

/-- The body's result from the arrays the host prepared. -/
theorem out_eq (q k v : Vec Ideal S56x21504x128 .fp8e4m3) (qs : Vec Ideal S56x21504x1 .f32) (ks vs : Vec Ideal S56x1x21504 .f32) :
    out0_6 (F := Ideal) q qs k ks v vs
      = k0_pay1 (F := Ideal) (k0_pay2 q k qs ks) (iota .tc S56x21504x21504 32 [1] iota_S56x21504x21504_d1_w32) (iota .tc S56x21504x21504 32 [2] iota_S56x21504x21504_d2_w32) k0_pay3 k0_pay4 k0_pay5 vs v := by
  unfold out0_6
  have z3 : ∀ a : Fin 3, (![0, 0, 0] : Fin 3 → ℕ) a = 0 := by decide
  have z2 : ∀ a : Fin 2, (![0, 0] : Fin 2 → ℕ) a = 0 := by decide
  refine (View.canon_cons_unit_lit (S := S21504x7168) inb_S21504x7168_S21504x7168_0_0 _ [] z2).trans ?_
  rw [show View.ld q r0_0 = q from View.ld_unit_lit (S := S56x21504x128) inb_S56x21504x128_S56x21504x128_0_0_0 q z3,
    show View.ld k r0_0 = k from View.ld_unit_lit (S := S56x21504x128) inb_S56x21504x128_S56x21504x128_0_0_0 k z3,
    show View.ld v r0_0 = v from View.ld_unit_lit (S := S56x21504x128) inb_S56x21504x128_S56x21504x128_0_0_0 v z3,
    show View.ld qs r0_1 = qs from View.ld_unit_lit (S := S56x21504x1) inb_S56x21504x1_S56x21504x1_0_0_0 qs z3,
    show View.ld ks r0_2 = ks from View.ld_unit_lit (S := S56x1x21504) inb_S56x1x21504_S56x1x21504_0_0_0 ks z3,
    show View.ld vs r0_2 = vs from View.ld_unit_lit (S := S56x1x21504) inb_S56x1x21504_S56x1x21504_0_0_0 vs z3]

/-- The array of results. -/
def result (c : Dev nD) : Vec Ideal S21504x7168 .bf16 :=
  out0_6 (F := Ideal) (V m c main_v1) (V m c main_v12) (V m c main_v5) (V m c main_v17) (V m c main_v9) (V m c main_v22)

theorem flushed_eq (c : Dev nD) (t : Fin cfg0.N) :
    (dats (F := Ideal) m 0 c).flushed 6 t = ((cfg0.win 6).blk t).view.read (Elt Ideal) (result m c) := by
  show (cfg0.win 6).cut (grid0.coords t) ((dats m 0 c).after 6 t) = _
  rw [after0_6, iblk0_eq, iblk1_eq, iblk2_eq, iblk3_eq, iblk4_eq, iblk5_eq]
  exact cut6_eq t (result m c)

theorem covered (i : S21504x7168.Idx) : ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩

theorem final_o (c : Dev nD) : (dats (F := Ideal) m 0 c).arrAt 6 cfg0.N = result m c :=
  (dats m 0 c).arrAt_eq_of_cover 6 (result m c) (fun t _ => flushed_eq m c t) covered

/-- The run, read: the array of results at `result`, the arguments unchanged. -/
theorem run : θ_run defs (onTc (τ := τ) (main (F := Ideal))) ⟨m, fun _ => 0, ρ⟩ (fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final_o m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

/-- Attention over the arrays the host prepared is attention over the arguments: head `h` reads the keys and values `h / 7`. -/
theorem att_host (q : Vec Ideal S1x21504x56x128 .fp8e4m3) (qs : Vec Ideal S1x21504x56 .f32) (k v : Vec Ideal S1x21504x8x128 .fp8e4m3)
    (ks vs : Vec Ideal S1x21504x8 .f32) (Q K W : Vec Ideal S56x21504x128 .fp8e4m3) (QS : Vec Ideal S56x21504x1 .f32) (KS WS : Vec Ideal S56x1x21504 .f32)
    (hQ : ∀ (h : Fin 56) (u : Fin 21504) (d : Fin 128), Q (ix3 h u d) = q (ix4 0 u h d))
    (hQS : ∀ (h : Fin 56) (u : Fin 21504), QS (ix3 h u 0) = qs (ix3 0 u h))
    (hK : ∀ (h : Fin 56) (u : Fin 21504) (d : Fin 128), K (ix3 h u d) = k (ix4 0 u ⟨h.val / 7, by have := h.isLt; omega⟩ d))
    (hKS : ∀ (h : Fin 56) (u : Fin 21504), KS (ix3 h 0 u) = ks (ix3 0 u ⟨h.val / 7, by have := h.isLt; omega⟩))
    (hW : ∀ (h : Fin 56) (u : Fin 21504) (d : Fin 128), W (ix3 h u d) = v (ix4 0 u ⟨h.val / 7, by have := h.isLt; omega⟩ d))
    (hWS : ∀ (h : Fin 56) (u : Fin 21504), WS (ix3 h 0 u) = vs (ix3 0 u ⟨h.val / 7, by have := h.isLt; omega⟩))
    (t : Fin 21504) (h : Fin 56) (g : Fin 8) (hg : g.val = h.val / 7) (d : Fin 128) :
    att (fun u => if seen t.val u then (∑ d, K (ix3 h u d) * Q (ix3 h t d)) * (QS (ix3 h t 0) * smc) * KS (ix3 h 0 u) else ⊥)
        (fun u => WS (ix3 h 0 u)) (fun u => W (ix3 h u d))
      = attAt q qs k ks v vs t g h d := by
  have e : (⟨h.val / 7, by have := h.isLt; omega⟩ : Fin 8) = g := Fin.ext hg.symm
  simp only [hQ, hQS, hK, hKS, hW, hWS, e]
  rfl

/-- The array of results is attention over the arguments. -/
theorem result_apply (c : Dev nD) (x : S21504x7168.Idx) : result m c x
    = attAt (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        ⟨(x 0).val, (x 0).isLt⟩ ⟨(x 1).val / 896, by have : (x 1).val < 7168 := (x 1).isLt; omega⟩
        ⟨(x 1).val / 128, by have : (x 1).val < 7168 := (x 1).isLt; omega⟩ ⟨(x 1).val % 128, Nat.mod_lt _ (by norm_num)⟩ := by
  have h0 : (x 0).val < 21504 := (x 0).isLt
  have h1 : (x 1).val < 7168 := (x 1).isLt
  obtain ⟨t, y, rfl⟩ : ∃ (t : Fin 21504) (y : Fin 7168), x = ix2 t y := ⟨x 0, x 1, eq_ix2 x⟩
  have hy := y.isLt
  unfold result
  rw [out_eq]
  refine (body_apply _ _ _ _ _ _ t y ⟨y.val / 128, by omega⟩ rfl ⟨y.val % 128, Nat.mod_lt _ (by norm_num)⟩ rfl).trans ?_
  exact att_host _ _ _ _ _ _ _ _ _ _ _ _ (v1_apply m c) (v12_apply m c) (v5_apply m c) (v17_apply m c) (v9_apply m c) (v22_apply m c)
    t ⟨y.val / 128, by omega⟩ ⟨y.val / 896, by omega⟩ (by show y.val / 896 = y.val / 128 / 7; omega) _

end Cert.ReferenceIdeal.RefValue

end
-- ==== Proof.Algebraic.lean ====
/- The kernel and the reference, both at ideal values, leave the same array of results. -/
module

public import proofs.«01_k».proof.Defs
public import proofs.«01_k».proof.Proof.Value
public import proofs.«01_k».proof.Proof.HostValue
public import proofs.«01_k».proof.Proof.RefValue

@[expose] public section

noncomputable section

namespace Cert.Algebraic

open Idealize.ShloMosaic Idealize.ShloMosaic.TcCoe Idealize.SL.Sem

/-- At every position both arrays hold attention over the same arguments. -/
theorem algebraic : Cert.algebraic_KernelIdeal_ReferenceIdeal := by
  intro m g m' g' _ h
  refine ⟨fun c => Cert.KernelIdeal.Value.result m c, Cert.KernelIdeal.Value.run m g, ?_⟩
  refine (θ_run _ _ _).mono (fun r hr c => ?_) (Cert.ReferenceIdeal.RefValue.run m' g')
  refine ⟨(hr c).1.trans ?_, (hr c).2⟩
  obtain ⟨h0, h1, h2, h3, h4, h5⟩ := h c
  funext x
  rw [Cert.ReferenceIdeal.RefValue.result_apply m' c x, h0, h1, h2, h3, h4, h5]
  exact (Cert.KernelIdeal.HostValue.result_apply m c x).symm

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.FrameKernel
public import proofs.«01_k».proof.Proof.FrameKernelIdeal
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The one rewritten constant is the real number `1 / log 2`. -/
theorem preserves : Cert.preserves_Kernel_KernelIdeal :=
  IdealRules.named_const.statement Cert.KernelIdeal.κ "log2_e" .f32 0x3FB8AA3B#32 (((Real.log 2)⁻¹ : ℝ) : EReal) rfl

theorem claim : Cert.Claim := ⟨Cert.Kernel.Gen.facts, Cert.KernelIdeal.Gen.facts, Cert.ReferenceIdeal.Gen.facts,
  fun m ρ _ => Cert.Kernel.FrameRun.frame m ρ,
  fun m ρ _ => Cert.KernelIdeal.FrameRun.frame m ρ,
  fun m ρ _ => Cert.ReferenceIdeal.Gen.frame m ρ,
  preserves, Cert.Algebraic.algebraic⟩

end Cert.Proof

end
